-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S1024x768 : Shape := ⟨2, ![1024, 768]⟩
abbrev S1024x640 : Shape := ⟨2, ![1024, 640]⟩
abbrev S1792x768 : Shape := ⟨2, ![1792, 768]⟩
abbrev S1792x640 : Shape := ⟨2, ![1792, 640]⟩
abbrev S7x3 : Shape := ⟨2, ![7, 3]⟩
abbrev S_ : Shape := ⟨0, ![]⟩
abbrev S256x1024 : Shape := ⟨2, ![256, 1024]⟩
abbrev S256x768 : Shape := ⟨2, ![256, 768]⟩
abbrev S1x1 : Shape := ⟨2, ![1, 1]⟩
abbrev S256x640 : Shape := ⟨2, ![256, 640]⟩
abbrev S512x1024 : Shape := ⟨2, ![512, 1024]⟩
abbrev S512x768 : Shape := ⟨2, ![512, 768]⟩
abbrev S512x640 : Shape := ⟨2, ![512, 640]⟩

abbrev nBuf : Space → Nat
  | .hbm => 3
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .f32⟩
  | .local _ .vmem, ⟨4, _⟩ => ⟨S1024x768, .bf16⟩
  | .local _ .vmem, ⟨5, _⟩ => ⟨S1024x640, .bf16⟩
  | .local _ .vmem, ⟨6, _⟩ => ⟨S1024x640, .bf16⟩
  | .local _ .vmem, ⟨7, _⟩ => ⟨S1792x768, .bf16⟩
  | .local _ .vmem, ⟨8, _⟩ => ⟨S1792x640, .bf16⟩
  | .local _ .vmem, ⟨9, _⟩ => ⟨S1792x640, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 1 87 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_68 : BitVec 32 := 1#32
  let v100 : BitVec 32 := Scalar.xori v5 c1_i32_68
  let c1_i32_69 : BitVec 32 := 1#32
  let v101 : BitVec 32 := Scalar.shrsi v100 c1_i32_69
  let c1_i32_70 : BitVec 32 := 1#32
  let v102 : BitVec 32 := Scalar.andi v101 c1_i32_70
  let v103 : BitVec 32 := Scalar.xori v100 v102
  let c1_i32_72 : BitVec 32 := 1#32
  let v104 : BitVec 32 := Scalar.muli v103 c1_i32_72
  let v105 : BitVec 32 := Scalar.addi c0_i32_73 v104
  v105.toNat
def k0_dev2 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_74 : BitVec 32 := 2#32
  let v106 : BitVec 32 := Scalar.xori v5 c2_i32_74
  let c1_i32_75 : BitVec 32 := 1#32
  let v107 : BitVec 32 := Scalar.shrsi v106 c1_i32_75
  let c1_i32_76 : BitVec 32 := 1#32
  let v108 : BitVec 32 := Scalar.andi v107 c1_i32_76
  let v109 : BitVec 32 := Scalar.xori v106 v108
  let c1_i32_78 : BitVec 32 := 1#32
  let v110 : BitVec 32 := Scalar.muli v109 c1_i32_78
  let v111 : BitVec 32 := Scalar.addi c0_i32_79 v110
  v111.toNat
def k0_dev3 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_80 : BitVec 32 := 4#32
  let v112 : BitVec 32 := Scalar.xori v5 c4_i32_80
  let c1_i32_81 : BitVec 32 := 1#32
  let v113 : BitVec 32 := Scalar.shrsi v112 c1_i32_81
  let c1_i32_82 : BitVec 32 := 1#32
  let v114 : BitVec 32 := Scalar.andi v113 c1_i32_82
  let v115 : BitVec 32 := Scalar.xori v112 v114
  let c1_i32_84 : BitVec 32 := 1#32
  let v116 : BitVec 32 := Scalar.muli v115 c1_i32_84
  let v117 : BitVec 32 := Scalar.addi c0_i32_85 v116
  v117.toNat
def k0_off1 (d0 : Dev nD) (c0_i32 : BitVec 32) (c1_i32_3 : BitVec 32) (c2_i32 : BitVec 32) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c0_i32
  let c1_i32_2 : BitVec 32 := 1#32
  let v7 : BitVec 32 := Scalar.andi v6 c1_i32_2
  let v60 : BitVec 32 := Scalar.subi c1_i32_44 v7
  let c1024_i32 : BitVec 32 := 1024#32
  let v61 : BitVec 32 := Scalar.muli v60 c1024_i32
  let c1_i32_52 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let v120 : BitVec 32 := Scalar.addi v61 v70
  let c1_i32_60 : BitVec 32 := 1#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v121 : BitVec 32 := Scalar.addi v120 v79
  let v122 : Index := Scalar.indexCast v121
  let c0_87 : Index := 0#32
  ![v122.toNat, 0]
def k0_off1_at (r : Fin 3) : BitVec 32 × BitVec 32 × BitVec 32 :=
  if r.val < 1 then
    (0#32, 1#32, 2#32)
  else
    if r.val < 2 then
      (1#32, 2#32, 0#32)
    else
      (2#32, 0#32, 1#32)
def k0_off2 (d0 : Dev nD) : Fin 2 → Nat :=
  let c1_i32_52 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let c1_i32_60 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v131 : BitVec 32 := Scalar.addi v70 v79
  let c0_i32_96 : BitVec 32 := 0#32
  ![v131.toNat, 0]
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v24 : BitVec 32 := Scalar.xori v5 c1_i32_18
  let c1_i32_19 : BitVec 32 := 1#32
  let v25 : BitVec 32 := Scalar.shrsi v24 c1_i32_19
  let c1_i32_20 : BitVec 32 := 1#32
  let v26 : BitVec 32 := Scalar.andi v25 c1_i32_20
  let v27 : BitVec 32 := Scalar.xori v24 v26
  let c1_i32_94 : BitVec 32 := 1#32
  let v132 : BitVec 32 := Scalar.muli v27 c1_i32_94
  let v133 : BitVec 32 := Scalar.addi c0_i32_95 v132
  v133.toNat
def k0_off3 (d0 : Dev nD) (c2_i32_8 : BitVec 32) (c0_i32_10 : BitVec 32) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v14 : BitVec 32 := Scalar.shrsi v5 c2_i32_8
  let c1_i32_9 : BitVec 32 := 1#32
  let v15 : BitVec 32 := Scalar.andi v14 c1_i32_9
  let v71 : BitVec 32 := Scalar.subi c1_i32_53 v15
  let c512_i32_54 : BitVec 32 := 512#32
  let v72 : BitVec 32 := Scalar.muli v71 c512_i32_54
  let c1_i32_61 : BitVec 32 := 1#32
  let v16 : BitVec 32 := Scalar.shrsi v5 c0_i32_10
  let c1_i32_11 : BitVec 32 := 1#32
  let v17 : BitVec 32 := Scalar.andi v16 c1_i32_11
  let v80 : BitVec 32 := Scalar.subi c1_i32_61 v17
  let c256_i32_62 : BitVec 32 := 256#32
  let v81 : BitVec 32 := Scalar.muli v80 c256_i32_62
  let v151 : BitVec 32 := Scalar.addi v72 v81
  let c0_i32_109 : BitVec 32 := 0#32
  ![v151.toNat, 0]
def k0_off3_at (r : Fin 2) : BitVec 32 × BitVec 32 :=
  if r.val < 1 then
    (2#32, 0#32)
  else
    (0#32, 1#32)
def k0_dev5 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_26 : BitVec 32 := 2#32
  let v36 : BitVec 32 := Scalar.xori v5 c2_i32_26
  let c1_i32_27 : BitVec 32 := 1#32
  let v37 : BitVec 32 := Scalar.shrsi v36 c1_i32_27
  let c1_i32_28 : BitVec 32 := 1#32
  let v38 : BitVec 32 := Scalar.andi v37 c1_i32_28
  let v39 : BitVec 32 := Scalar.xori v36 v38
  let c1_i32_107 : BitVec 32 := 1#32
  let v152 : BitVec 32 := Scalar.muli v39 c1_i32_107
  let v153 : BitVec 32 := Scalar.addi c0_i32_108 v152
  v153.toNat
def k0_dev6 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_35 : BitVec 32 := 4#32
  let v48 : BitVec 32 := Scalar.xori v5 c4_i32_35
  let c1_i32_36 : BitVec 32 := 1#32
  let v49 : BitVec 32 := Scalar.shrsi v48 c1_i32_36
  let c1_i32_37 : BitVec 32 := 1#32
  let v50 : BitVec 32 := Scalar.andi v49 c1_i32_37
  let v51 : BitVec 32 := Scalar.xori v48 v50
  let c1_i32_120 : BitVec 32 := 1#32
  let v172 : BitVec 32 := Scalar.muli v51 c1_i32_120
  let v173 : BitVec 32 := Scalar.addi c0_i32_121 v172
  v173.toNat
def k0_off4 (d0 : Dev nD) (c0_i32 : BitVec 32) (c1_i32_3 : BitVec 32) (c2_i32 : BitVec 32) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c0_i32
  let c1_i32_2 : BitVec 32 := 1#32
  let v7 : BitVec 32 := Scalar.andi v6 c1_i32_2
  let v60 : BitVec 32 := Scalar.subi c1_i32_44 v7
  let c1024_i32 : BitVec 32 := 1024#32
  let v61 : BitVec 32 := Scalar.muli v60 c1024_i32
  let c1_i32_52 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let v180 : BitVec 32 := Scalar.addi v61 v70
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v181 : BitVec 32 := Scalar.addi v180 v84
  let v182 : Index := Scalar.indexCast v181
  let c0_125 : Index := 0#32
  ![v182.toNat, 0]
def k0_off4_at (r : Fin 3) : BitVec 32 × BitVec 32 × BitVec 32 :=
  if r.val < 1 then
    (0#32, 1#32, 2#32)
  else
    if r.val < 2 then
      (1#32, 2#32, 0#32)
    else
      (2#32, 0#32, 1#32)
def k0_off5 (d0 : Dev nD) : Fin 2 → Nat :=
  let c1_i32_52 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v191 : BitVec 32 := Scalar.addi v70 v84
  let c0_i32_133 : BitVec 32 := 0#32
  ![v191.toNat, 0]
def k0_dev7 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v24 : BitVec 32 := Scalar.xori v5 c1_i32_18
  let c1_i32_19 : BitVec 32 := 1#32
  let v25 : BitVec 32 := Scalar.shrsi v24 c1_i32_19
  let c1_i32_20 : BitVec 32 := 1#32
  let v26 : BitVec 32 := Scalar.andi v25 c1_i32_20
  let v27 : BitVec 32 := Scalar.xori v24 v26
  let c1_i32_131 : BitVec 32 := 1#32
  let v192 : BitVec 32 := Scalar.muli v27 c1_i32_131
  let v193 : BitVec 32 := Scalar.addi c0_i32_132 v192
  v193.toNat
def k0_off6 (d0 : Dev nD) (c2_i32_8 : BitVec 32) (c0_i32_10 : BitVec 32) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v14 : BitVec 32 := Scalar.shrsi v5 c2_i32_8
  let c1_i32_9 : BitVec 32 := 1#32
  let v15 : BitVec 32 := Scalar.andi v14 c1_i32_9
  let v71 : BitVec 32 := Scalar.subi c1_i32_53 v15
  let c512_i32_54 : BitVec 32 := 512#32
  let v72 : BitVec 32 := Scalar.muli v71 c512_i32_54
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v211 : BitVec 32 := Scalar.addi v72 v85
  let c0_i32_146 : BitVec 32 := 0#32
  ![v211.toNat, 0]
def k0_off6_at (r : Fin 2) : BitVec 32 × BitVec 32 :=
  if r.val < 1 then
    (2#32, 0#32)
  else
    (0#32, 1#32)
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_26 : BitVec 32 := 2#32
  let v36 : BitVec 32 := Scalar.xori v5 c2_i32_26
  let c1_i32_27 : BitVec 32 := 1#32
  let v37 : BitVec 32 := Scalar.shrsi v36 c1_i32_27
  let c1_i32_28 : BitVec 32 := 1#32
  let v38 : BitVec 32 := Scalar.andi v37 c1_i32_28
  let v39 : BitVec 32 := Scalar.xori v36 v38
  let c1_i32_144 : BitVec 32 := 1#32
  let v212 : BitVec 32 := Scalar.muli v39 c1_i32_144
  let v213 : BitVec 32 := Scalar.addi c0_i32_145 v212
  v213.toNat
def k0_dev9 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_35 : BitVec 32 := 4#32
  let v48 : BitVec 32 := Scalar.xori v5 c4_i32_35
  let c1_i32_36 : BitVec 32 := 1#32
  let v49 : BitVec 32 := Scalar.shrsi v48 c1_i32_36
  let c1_i32_37 : BitVec 32 := 1#32
  let v50 : BitVec 32 := Scalar.andi v49 c1_i32_37
  let v51 : BitVec 32 := Scalar.xori v48 v50
  let c1_i32_157 : BitVec 32 := 1#32
  let v232 : BitVec 32 := Scalar.muli v51 c1_i32_157
  let v233 : BitVec 32 := Scalar.addi c0_i32_158 v232
  v233.toNat
def k0_off7 (d0 : Dev nD) (c0_i32 : BitVec 32) (c1_i32_3 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_52 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let v240 : BitVec 32 := Scalar.addi v66 v70
  let v241 : Index := Scalar.indexCast v240
  let c0_162 : Index := 0#32
  ![v241.toNat, 0]
def k0_off7_at (r : Fin 3) : BitVec 32 × BitVec 32 :=
  if r.val < 1 then
    (0#32, 1#32)
  else
    if r.val < 2 then
      (1#32, 2#32)
    else
      (2#32, 0#32)
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_52 : BitVec 32 := 1#32
  let c1_i32_3 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let v246 : BitVec 32 := Scalar.addi v66 v70
  let v247 : Index := Scalar.indexCast v246
  let c0_164 : Index := 0#32
  ![v247.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c1_i32_53 : BitVec 32 := 1#32
  let c2_i32_8 : BitVec 32 := 2#32
  let v14 : BitVec 32 := Scalar.shrsi v5 c2_i32_8
  let c1_i32_9 : BitVec 32 := 1#32
  let v15 : BitVec 32 := Scalar.andi v14 c1_i32_9
  let v71 : BitVec 32 := Scalar.subi c1_i32_53 v15
  let c512_i32_54 : BitVec 32 := 512#32
  let v72 : BitVec 32 := Scalar.muli v71 c512_i32_54
  let v257 : BitVec 32 := Scalar.addi v67 v72
  let v258 : Index := Scalar.indexCast v257
  let c768 : Index := 768#32
  ![v258.toNat, 768]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c1_i32_55 : BitVec 32 := 1#32
  let c0_i32_14 : BitVec 32 := 0#32
  let v20 : BitVec 32 := Scalar.shrsi v5 c0_i32_14
  let c1_i32_15 : BitVec 32 := 1#32
  let v21 : BitVec 32 := Scalar.andi v20 c1_i32_15
  let v73 : BitVec 32 := Scalar.subi c1_i32_55 v21
  let c512_i32_56 : BitVec 32 := 512#32
  let v74 : BitVec 32 := Scalar.muli v73 c512_i32_56
  let v268 : BitVec 32 := Scalar.addi v68 v74
  let v269 : Index := Scalar.indexCast v268
  let c1408 : Index := 1408#32
  ![v269.toNat, 1408]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_52 : BitVec 32 := 1#32
  let c1_i32_3 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let v283 : BitVec 32 := Scalar.addi v66 v70
  let c1_i32_60 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v284 : BitVec 32 := Scalar.addi v283 v79
  let v285 : Index := Scalar.indexCast v284
  let c0_186 : Index := 0#32
  ![v285.toNat, 0]
def k0_off12 (d0 : Dev nD) : Fin 2 → Nat :=
  let c1_i32_52 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let c1_i32_60 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v287 : BitVec 32 := Scalar.addi v70 v79
  let v288 : Index := Scalar.indexCast v287
  let c0_187 : Index := 0#32
  ![v288.toNat, 0]
def k0_off13 (d0 : Dev nD) : Fin 2 → Nat :=
  let c1024_i32_190 : BitVec 32 := 1024#32
  let c1_i32_60 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v296 : BitVec 32 := Scalar.addi c1024_i32_190 v79
  let c0_i32_197 : BitVec 32 := 0#32
  ![v296.toNat, 0]
def k0_dev10 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_21 : BitVec 32 := 2#32
  let v28 : BitVec 32 := Scalar.xori v5 c2_i32_21
  let c1_i32_22 : BitVec 32 := 1#32
  let v29 : BitVec 32 := Scalar.shrsi v28 c1_i32_22
  let c1_i32_23 : BitVec 32 := 1#32
  let v30 : BitVec 32 := Scalar.andi v29 c1_i32_23
  let v31 : BitVec 32 := Scalar.xori v28 v30
  let c1_i32_195 : BitVec 32 := 1#32
  let v297 : BitVec 32 := Scalar.muli v31 c1_i32_195
  let v298 : BitVec 32 := Scalar.addi c0_i32_196 v297
  v298.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c1_i32_53 : BitVec 32 := 1#32
  let c2_i32_8 : BitVec 32 := 2#32
  let v14 : BitVec 32 := Scalar.shrsi v5 c2_i32_8
  let c1_i32_9 : BitVec 32 := 1#32
  let v15 : BitVec 32 := Scalar.andi v14 c1_i32_9
  let v71 : BitVec 32 := Scalar.subi c1_i32_53 v15
  let c512_i32_54 : BitVec 32 := 512#32
  let v72 : BitVec 32 := Scalar.muli v71 c512_i32_54
  let v315 : BitVec 32 := Scalar.addi v67 v72
  let c1_i32_61 : BitVec 32 := 1#32
  let c0_i32_10 : BitVec 32 := 0#32
  let v16 : BitVec 32 := Scalar.shrsi v5 c0_i32_10
  let c1_i32_11 : BitVec 32 := 1#32
  let v17 : BitVec 32 := Scalar.andi v16 c1_i32_11
  let v80 : BitVec 32 := Scalar.subi c1_i32_61 v17
  let c256_i32_62 : BitVec 32 := 256#32
  let v81 : BitVec 32 := Scalar.muli v80 c256_i32_62
  let v316 : BitVec 32 := Scalar.addi v315 v81
  let v317 : Index := Scalar.indexCast v316
  let c768_217 : Index := 768#32
  ![v317.toNat, 768]
def k0_off15 (d0 : Dev nD) (c2_i32_8 : BitVec 32) (c0_i32_10 : BitVec 32) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v14 : BitVec 32 := Scalar.shrsi v5 c2_i32_8
  let c1_i32_9 : BitVec 32 := 1#32
  let v15 : BitVec 32 := Scalar.andi v14 c1_i32_9
  let v71 : BitVec 32 := Scalar.subi c1_i32_53 v15
  let c512_i32_54 : BitVec 32 := 512#32
  let v72 : BitVec 32 := Scalar.muli v71 c512_i32_54
  let c1_i32_61 : BitVec 32 := 1#32
  let v16 : BitVec 32 := Scalar.shrsi v5 c0_i32_10
  let c1_i32_11 : BitVec 32 := 1#32
  let v17 : BitVec 32 := Scalar.andi v16 c1_i32_11
  let v80 : BitVec 32 := Scalar.subi c1_i32_61 v17
  let c256_i32_62 : BitVec 32 := 256#32
  let v81 : BitVec 32 := Scalar.muli v80 c256_i32_62
  let v319 : BitVec 32 := Scalar.addi v72 v81
  let v320 : Index := Scalar.indexCast v319
  let c0_218 : Index := 0#32
  ![v320.toNat, 0]
def k0_off15_at (r : Fin 2) : BitVec 32 × BitVec 32 :=
  if r.val < 1 then
    (2#32, 0#32)
  else
    (0#32, 1#32)
def k0_off16 (d0 : Dev nD) (c0_i32_10 : BitVec 32) : Fin 2 → Nat :=
  let c1024_i32_221 : BitVec 32 := 1024#32
  let c1_i32_61 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v16 : BitVec 32 := Scalar.shrsi v5 c0_i32_10
  let c1_i32_11 : BitVec 32 := 1#32
  let v17 : BitVec 32 := Scalar.andi v16 c1_i32_11
  let v80 : BitVec 32 := Scalar.subi c1_i32_61 v17
  let c256_i32_62 : BitVec 32 := 256#32
  let v81 : BitVec 32 := Scalar.muli v80 c256_i32_62
  let v328 : BitVec 32 := Scalar.addi c1024_i32_221 v81
  let c0_i32_228 : BitVec 32 := 0#32
  ![v328.toNat, 0]
def k0_dev11 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_29 : BitVec 32 := 4#32
  let v40 : BitVec 32 := Scalar.xori v5 c4_i32_29
  let c1_i32_30 : BitVec 32 := 1#32
  let v41 : BitVec 32 := Scalar.shrsi v40 c1_i32_30
  let c1_i32_31 : BitVec 32 := 1#32
  let v42 : BitVec 32 := Scalar.andi v41 c1_i32_31
  let v43 : BitVec 32 := Scalar.xori v40 v42
  let c1_i32_226 : BitVec 32 := 1#32
  let v329 : BitVec 32 := Scalar.muli v43 c1_i32_226
  let v330 : BitVec 32 := Scalar.addi c0_i32_227 v329
  v330.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c1_i32_55 : BitVec 32 := 1#32
  let c0_i32_14 : BitVec 32 := 0#32
  let v20 : BitVec 32 := Scalar.shrsi v5 c0_i32_14
  let c1_i32_15 : BitVec 32 := 1#32
  let v21 : BitVec 32 := Scalar.andi v20 c1_i32_15
  let v73 : BitVec 32 := Scalar.subi c1_i32_55 v21
  let c512_i32_56 : BitVec 32 := 512#32
  let v74 : BitVec 32 := Scalar.muli v73 c512_i32_56
  let v347 : BitVec 32 := Scalar.addi v68 v74
  let c1_i32_63 : BitVec 32 := 1#32
  let c1_i32_16 : BitVec 32 := 1#32
  let v22 : BitVec 32 := Scalar.shrsi v5 c1_i32_16
  let c1_i32_17 : BitVec 32 := 1#32
  let v23 : BitVec 32 := Scalar.andi v22 c1_i32_17
  let v82 : BitVec 32 := Scalar.subi c1_i32_63 v23
  let c256_i32_64 : BitVec 32 := 256#32
  let v83 : BitVec 32 := Scalar.muli v82 c256_i32_64
  let v348 : BitVec 32 := Scalar.addi v347 v83
  let v349 : Index := Scalar.indexCast v348
  let c1408_248 : Index := 1408#32
  ![v349.toNat, 1408]
def k0_dev12 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_38 : BitVec 32 := 1#32
  let v52 : BitVec 32 := Scalar.xori v5 c1_i32_38
  let c1_i32_39 : BitVec 32 := 1#32
  let v53 : BitVec 32 := Scalar.shrsi v52 c1_i32_39
  let c1_i32_40 : BitVec 32 := 1#32
  let v54 : BitVec 32 := Scalar.andi v53 c1_i32_40
  let v55 : BitVec 32 := Scalar.xori v52 v54
  let c1_i32_257 : BitVec 32 := 1#32
  let v361 : BitVec 32 := Scalar.muli v55 c1_i32_257
  let v362 : BitVec 32 := Scalar.addi c0_i32_258 v361
  v362.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_52 : BitVec 32 := 1#32
  let c1_i32_3 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let v379 : BitVec 32 := Scalar.addi v66 v70
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v380 : BitVec 32 := Scalar.addi v379 v84
  let v381 : Index := Scalar.indexCast v380
  let c0_279 : Index := 0#32
  ![v381.toNat, 0]
def k0_off19 (d0 : Dev nD) : Fin 2 → Nat :=
  let c1_i32_52 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let v69 : BitVec 32 := Scalar.subi c1_i32_52 v9
  let c512_i32 : BitVec 32 := 512#32
  let v70 : BitVec 32 := Scalar.muli v69 c512_i32
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v383 : BitVec 32 := Scalar.addi v70 v84
  let v384 : Index := Scalar.indexCast v383
  let c0_280 : Index := 0#32
  ![v384.toNat, 0]
def k0_off20 (d0 : Dev nD) : Fin 2 → Nat :=
  let c1024_i32_283 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v392 : BitVec 32 := Scalar.addi c1024_i32_283 v84
  let c0_i32_290 : BitVec 32 := 0#32
  ![v392.toNat, 0]
def k0_dev13 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_21 : BitVec 32 := 2#32
  let v28 : BitVec 32 := Scalar.xori v5 c2_i32_21
  let c1_i32_22 : BitVec 32 := 1#32
  let v29 : BitVec 32 := Scalar.shrsi v28 c1_i32_22
  let c1_i32_23 : BitVec 32 := 1#32
  let v30 : BitVec 32 := Scalar.andi v29 c1_i32_23
  let v31 : BitVec 32 := Scalar.xori v28 v30
  let c1_i32_288 : BitVec 32 := 1#32
  let v393 : BitVec 32 := Scalar.muli v31 c1_i32_288
  let v394 : BitVec 32 := Scalar.addi c0_i32_289 v393
  v394.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c1_i32_53 : BitVec 32 := 1#32
  let c2_i32_8 : BitVec 32 := 2#32
  let v14 : BitVec 32 := Scalar.shrsi v5 c2_i32_8
  let c1_i32_9 : BitVec 32 := 1#32
  let v15 : BitVec 32 := Scalar.andi v14 c1_i32_9
  let v71 : BitVec 32 := Scalar.subi c1_i32_53 v15
  let c512_i32_54 : BitVec 32 := 512#32
  let v72 : BitVec 32 := Scalar.muli v71 c512_i32_54
  let v411 : BitVec 32 := Scalar.addi v67 v72
  let c0_i32_10 : BitVec 32 := 0#32
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v412 : BitVec 32 := Scalar.addi v411 v85
  let v413 : Index := Scalar.indexCast v412
  let c768_310 : Index := 768#32
  ![v413.toNat, 768]
def k0_off22 (d0 : Dev nD) (c2_i32_8 : BitVec 32) (c0_i32_10 : BitVec 32) : Fin 2 → Nat :=
  let c1_i32_53 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v14 : BitVec 32 := Scalar.shrsi v5 c2_i32_8
  let c1_i32_9 : BitVec 32 := 1#32
  let v15 : BitVec 32 := Scalar.andi v14 c1_i32_9
  let v71 : BitVec 32 := Scalar.subi c1_i32_53 v15
  let c512_i32_54 : BitVec 32 := 512#32
  let v72 : BitVec 32 := Scalar.muli v71 c512_i32_54
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v415 : BitVec 32 := Scalar.addi v72 v85
  let v416 : Index := Scalar.indexCast v415
  let c0_311 : Index := 0#32
  ![v416.toNat, 0]
def k0_off22_at (r : Fin 2) : BitVec 32 × BitVec 32 :=
  if r.val < 1 then
    (2#32, 0#32)
  else
    (0#32, 1#32)
def k0_off23 (d0 : Dev nD) (c0_i32_10 : BitVec 32) : Fin 2 → Nat :=
  let c1024_i32_314 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v424 : BitVec 32 := Scalar.addi c1024_i32_314 v85
  let c0_i32_321 : BitVec 32 := 0#32
  ![v424.toNat, 0]
def k0_dev14 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_29 : BitVec 32 := 4#32
  let v40 : BitVec 32 := Scalar.xori v5 c4_i32_29
  let c1_i32_30 : BitVec 32 := 1#32
  let v41 : BitVec 32 := Scalar.shrsi v40 c1_i32_30
  let c1_i32_31 : BitVec 32 := 1#32
  let v42 : BitVec 32 := Scalar.andi v41 c1_i32_31
  let v43 : BitVec 32 := Scalar.xori v40 v42
  let c1_i32_319 : BitVec 32 := 1#32
  let v425 : BitVec 32 := Scalar.muli v43 c1_i32_319
  let v426 : BitVec 32 := Scalar.addi c0_i32_320 v425
  v426.toNat
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c1_i32_55 : BitVec 32 := 1#32
  let c0_i32_14 : BitVec 32 := 0#32
  let v20 : BitVec 32 := Scalar.shrsi v5 c0_i32_14
  let c1_i32_15 : BitVec 32 := 1#32
  let v21 : BitVec 32 := Scalar.andi v20 c1_i32_15
  let v73 : BitVec 32 := Scalar.subi c1_i32_55 v21
  let c512_i32_56 : BitVec 32 := 512#32
  let v74 : BitVec 32 := Scalar.muli v73 c512_i32_56
  let v443 : BitVec 32 := Scalar.addi v68 v74
  let c1_i32_16 : BitVec 32 := 1#32
  let v22 : BitVec 32 := Scalar.shrsi v5 c1_i32_16
  let c1_i32_17 : BitVec 32 := 1#32
  let v23 : BitVec 32 := Scalar.andi v22 c1_i32_17
  let c256_i32_67 : BitVec 32 := 256#32
  let v86 : BitVec 32 := Scalar.muli v23 c256_i32_67
  let v444 : BitVec 32 := Scalar.addi v443 v86
  let v445 : Index := Scalar.indexCast v444
  let c1408_341 : Index := 1408#32
  ![v445.toNat, 1408]
def k0_dev15 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_38 : BitVec 32 := 1#32
  let v52 : BitVec 32 := Scalar.xori v5 c1_i32_38
  let c1_i32_39 : BitVec 32 := 1#32
  let v53 : BitVec 32 := Scalar.shrsi v52 c1_i32_39
  let c1_i32_40 : BitVec 32 := 1#32
  let v54 : BitVec 32 := Scalar.andi v53 c1_i32_40
  let v55 : BitVec 32 := Scalar.xori v52 v54
  let c1_i32_350 : BitVec 32 := 1#32
  let v457 : BitVec 32 := Scalar.muli v55 c1_i32_350
  let v458 : BitVec 32 := Scalar.addi c0_i32_351 v457
  v458.toNat
def k0_off25 (d0 : Dev nD) (c0_i32 : BitVec 32) (c1_i32_3 : BitVec 32) (c2_i32 : BitVec 32) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c0_i32
  let c1_i32_2 : BitVec 32 := 1#32
  let v7 : BitVec 32 := Scalar.andi v6 c1_i32_2
  let v60 : BitVec 32 := Scalar.subi c1_i32_44 v7
  let c1024_i32 : BitVec 32 := 1024#32
  let v61 : BitVec 32 := Scalar.muli v60 c1024_i32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let c1_i32_60 : BitVec 32 := 1#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v93 : BitVec 32 := Scalar.addi v75 v79
  let v465 : BitVec 32 := Scalar.addi v61 v93
  let v466 : Index := Scalar.indexCast v465
  let c0_355 : Index := 0#32
  ![v466.toNat, 0]
def k0_off25_at (r : Fin 3) : BitVec 32 × BitVec 32 × BitVec 32 :=
  if r.val < 1 then
    (0#32, 1#32, 2#32)
  else
    if r.val < 2 then
      (1#32, 2#32, 0#32)
    else
      (2#32, 0#32, 1#32)
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let c1_i32_60 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v93 : BitVec 32 := Scalar.addi v75 v79
  let c0_i32_364 : BitVec 32 := 0#32
  ![v93.toNat, 0]
def k0_dev16 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v24 : BitVec 32 := Scalar.xori v5 c1_i32_18
  let c1_i32_19 : BitVec 32 := 1#32
  let v25 : BitVec 32 := Scalar.shrsi v24 c1_i32_19
  let c1_i32_20 : BitVec 32 := 1#32
  let v26 : BitVec 32 := Scalar.andi v25 c1_i32_20
  let v27 : BitVec 32 := Scalar.xori v24 v26
  let c1_i32_362 : BitVec 32 := 1#32
  let v475 : BitVec 32 := Scalar.muli v27 c1_i32_362
  let v476 : BitVec 32 := Scalar.addi c0_i32_363 v475
  v476.toNat
def k0_off27 (d0 : Dev nD) (c0_i32 : BitVec 32) (c1_i32_3 : BitVec 32) (c2_i32 : BitVec 32) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c0_i32
  let c1_i32_2 : BitVec 32 := 1#32
  let v7 : BitVec 32 := Scalar.andi v6 c1_i32_2
  let v60 : BitVec 32 := Scalar.subi c1_i32_44 v7
  let c1024_i32 : BitVec 32 := 1024#32
  let v61 : BitVec 32 := Scalar.muli v60 c1024_i32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v96 : BitVec 32 := Scalar.addi v75 v84
  let v483 : BitVec 32 := Scalar.addi v61 v96
  let v484 : Index := Scalar.indexCast v483
  let c0_367 : Index := 0#32
  ![v484.toNat, 0]
def k0_off27_at (r : Fin 3) : BitVec 32 × BitVec 32 × BitVec 32 :=
  if r.val < 1 then
    (0#32, 1#32, 2#32)
  else
    if r.val < 2 then
      (1#32, 2#32, 0#32)
    else
      (2#32, 0#32, 1#32)
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v96 : BitVec 32 := Scalar.addi v75 v84
  let c0_i32_377 : BitVec 32 := 0#32
  ![v96.toNat, 0]
def k0_dev17 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v24 : BitVec 32 := Scalar.xori v5 c1_i32_18
  let c1_i32_19 : BitVec 32 := 1#32
  let v25 : BitVec 32 := Scalar.shrsi v24 c1_i32_19
  let c1_i32_20 : BitVec 32 := 1#32
  let v26 : BitVec 32 := Scalar.andi v25 c1_i32_20
  let v27 : BitVec 32 := Scalar.xori v24 v26
  let c1_i32_375 : BitVec 32 := 1#32
  let v493 : BitVec 32 := Scalar.muli v27 c1_i32_375
  let v494 : BitVec 32 := Scalar.addi c0_i32_376 v493
  v494.toNat
def k0_off29 (d0 : Dev nD) (c2_i32_8 : BitVec 32) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let c1_i32_61 : BitVec 32 := 1#32
  let v16 : BitVec 32 := Scalar.shrsi v5 c0_i32_10
  let c1_i32_11 : BitVec 32 := 1#32
  let v17 : BitVec 32 := Scalar.andi v16 c1_i32_11
  let v80 : BitVec 32 := Scalar.subi c1_i32_61 v17
  let c256_i32_62 : BitVec 32 := 256#32
  let v81 : BitVec 32 := Scalar.muli v80 c256_i32_62
  let v94 : BitVec 32 := Scalar.addi v76 v81
  let c0_i32_389 : BitVec 32 := 0#32
  ![v94.toNat, 0]
def k0_off29_at (r : Fin 2) : BitVec 32 × BitVec 32 :=
  if r.val < 1 then
    (2#32, 0#32)
  else
    (0#32, 1#32)
def k0_dev18 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_26 : BitVec 32 := 2#32
  let v36 : BitVec 32 := Scalar.xori v5 c2_i32_26
  let c1_i32_27 : BitVec 32 := 1#32
  let v37 : BitVec 32 := Scalar.shrsi v36 c1_i32_27
  let c1_i32_28 : BitVec 32 := 1#32
  let v38 : BitVec 32 := Scalar.andi v37 c1_i32_28
  let v39 : BitVec 32 := Scalar.xori v36 v38
  let c1_i32_387 : BitVec 32 := 1#32
  let v511 : BitVec 32 := Scalar.muli v39 c1_i32_387
  let v512 : BitVec 32 := Scalar.addi c0_i32_388 v511
  v512.toNat
def k0_off30 (d0 : Dev nD) (c2_i32_8 : BitVec 32) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v97 : BitVec 32 := Scalar.addi v76 v85
  let c0_i32_402 : BitVec 32 := 0#32
  ![v97.toNat, 0]
def k0_off30_at (r : Fin 2) : BitVec 32 × BitVec 32 :=
  if r.val < 1 then
    (2#32, 0#32)
  else
    (0#32, 1#32)
def k0_dev19 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_26 : BitVec 32 := 2#32
  let v36 : BitVec 32 := Scalar.xori v5 c2_i32_26
  let c1_i32_27 : BitVec 32 := 1#32
  let v37 : BitVec 32 := Scalar.shrsi v36 c1_i32_27
  let c1_i32_28 : BitVec 32 := 1#32
  let v38 : BitVec 32 := Scalar.andi v37 c1_i32_28
  let v39 : BitVec 32 := Scalar.xori v36 v38
  let c1_i32_400 : BitVec 32 := 1#32
  let v529 : BitVec 32 := Scalar.muli v39 c1_i32_400
  let v530 : BitVec 32 := Scalar.addi c0_i32_401 v529
  v530.toNat
def k0_dev20 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_35 : BitVec 32 := 4#32
  let v48 : BitVec 32 := Scalar.xori v5 c4_i32_35
  let c1_i32_36 : BitVec 32 := 1#32
  let v49 : BitVec 32 := Scalar.shrsi v48 c1_i32_36
  let c1_i32_37 : BitVec 32 := 1#32
  let v50 : BitVec 32 := Scalar.andi v49 c1_i32_37
  let v51 : BitVec 32 := Scalar.xori v48 v50
  let c1_i32_413 : BitVec 32 := 1#32
  let v547 : BitVec 32 := Scalar.muli v51 c1_i32_413
  let v548 : BitVec 32 := Scalar.addi c0_i32_414 v547
  v548.toNat
def k0_dev21 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_35 : BitVec 32 := 4#32
  let v48 : BitVec 32 := Scalar.xori v5 c4_i32_35
  let c1_i32_36 : BitVec 32 := 1#32
  let v49 : BitVec 32 := Scalar.shrsi v48 c1_i32_36
  let c1_i32_37 : BitVec 32 := 1#32
  let v50 : BitVec 32 := Scalar.andi v49 c1_i32_37
  let v51 : BitVec 32 := Scalar.xori v48 v50
  let c1_i32_426 : BitVec 32 := 1#32
  let v565 : BitVec 32 := Scalar.muli v51 c1_i32_426
  let v566 : BitVec 32 := Scalar.addi c0_i32_427 v565
  v566.toNat
def k0_off31 (d0 : Dev nD) (c0_i32 : BitVec 32) (c1_i32_3 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let v87 : BitVec 32 := Scalar.addi v66 v75
  let v573 : Index := Scalar.indexCast v87
  let c0_431 : Index := 0#32
  ![v573.toNat, 0]
def k0_off31_at (r : Fin 3) : BitVec 32 × BitVec 32 :=
  if r.val < 1 then
    (0#32, 1#32)
  else
    if r.val < 2 then
      (1#32, 2#32)
    else
      (2#32, 0#32)
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let v87 : BitVec 32 := Scalar.addi v66 v75
  let v578 : Index := Scalar.indexCast v87
  let c0_433 : Index := 0#32
  ![v578.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c2_i32_8 : BitVec 32 := 2#32
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let v88 : BitVec 32 := Scalar.addi v67 v76
  let v587 : Index := Scalar.indexCast v88
  let c768_436 : Index := 768#32
  ![v587.toNat, 768]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c0_i32_14 : BitVec 32 := 0#32
  let v20 : BitVec 32 := Scalar.shrsi v5 c0_i32_14
  let c1_i32_15 : BitVec 32 := 1#32
  let v21 : BitVec 32 := Scalar.andi v20 c1_i32_15
  let c512_i32_59 : BitVec 32 := 512#32
  let v77 : BitVec 32 := Scalar.muli v21 c512_i32_59
  let v89 : BitVec 32 := Scalar.addi v68 v77
  let v596 : Index := Scalar.indexCast v89
  let c1408_439 : Index := 1408#32
  ![v596.toNat, 1408]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let v87 : BitVec 32 := Scalar.addi v66 v75
  let c1_i32_60 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v610 : BitVec 32 := Scalar.addi v87 v79
  let v611 : Index := Scalar.indexCast v610
  let c0_457 : Index := 0#32
  ![v611.toNat, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let c1_i32_60 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v93 : BitVec 32 := Scalar.addi v75 v79
  let v613 : Index := Scalar.indexCast v93
  let c0_458 : Index := 0#32
  ![v613.toNat, 0]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c2_i32_8 : BitVec 32 := 2#32
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let v88 : BitVec 32 := Scalar.addi v67 v76
  let c1_i32_61 : BitVec 32 := 1#32
  let c0_i32_10 : BitVec 32 := 0#32
  let v16 : BitVec 32 := Scalar.shrsi v5 c0_i32_10
  let c1_i32_11 : BitVec 32 := 1#32
  let v17 : BitVec 32 := Scalar.andi v16 c1_i32_11
  let v80 : BitVec 32 := Scalar.subi c1_i32_61 v17
  let c256_i32_62 : BitVec 32 := 256#32
  let v81 : BitVec 32 := Scalar.muli v80 c256_i32_62
  let v631 : BitVec 32 := Scalar.addi v88 v81
  let v632 : Index := Scalar.indexCast v631
  let c768_477 : Index := 768#32
  ![v632.toNat, 768]
def k0_off38 (d0 : Dev nD) (c2_i32_8 : BitVec 32) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let c1_i32_61 : BitVec 32 := 1#32
  let v16 : BitVec 32 := Scalar.shrsi v5 c0_i32_10
  let c1_i32_11 : BitVec 32 := 1#32
  let v17 : BitVec 32 := Scalar.andi v16 c1_i32_11
  let v80 : BitVec 32 := Scalar.subi c1_i32_61 v17
  let c256_i32_62 : BitVec 32 := 256#32
  let v81 : BitVec 32 := Scalar.muli v80 c256_i32_62
  let v94 : BitVec 32 := Scalar.addi v76 v81
  let v634 : Index := Scalar.indexCast v94
  let c0_478 : Index := 0#32
  ![v634.toNat, 0]
def k0_off38_at (r : Fin 2) : BitVec 32 × BitVec 32 :=
  if r.val < 1 then
    (2#32, 0#32)
  else
    (0#32, 1#32)
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c0_i32_14 : BitVec 32 := 0#32
  let v20 : BitVec 32 := Scalar.shrsi v5 c0_i32_14
  let c1_i32_15 : BitVec 32 := 1#32
  let v21 : BitVec 32 := Scalar.andi v20 c1_i32_15
  let c512_i32_59 : BitVec 32 := 512#32
  let v77 : BitVec 32 := Scalar.muli v21 c512_i32_59
  let v89 : BitVec 32 := Scalar.addi v68 v77
  let c1_i32_63 : BitVec 32 := 1#32
  let c1_i32_16 : BitVec 32 := 1#32
  let v22 : BitVec 32 := Scalar.shrsi v5 c1_i32_16
  let c1_i32_17 : BitVec 32 := 1#32
  let v23 : BitVec 32 := Scalar.andi v22 c1_i32_17
  let v82 : BitVec 32 := Scalar.subi c1_i32_63 v23
  let c256_i32_64 : BitVec 32 := 256#32
  let v83 : BitVec 32 := Scalar.muli v82 c256_i32_64
  let v652 : BitVec 32 := Scalar.addi v89 v83
  let v653 : Index := Scalar.indexCast v652
  let c1408_497 : Index := 1408#32
  ![v653.toNat, 1408]
def k0_off40 (d0 : Dev nD) : Fin 2 → Nat :=
  let c1024_i32_518 : BitVec 32 := 1024#32
  let c1_i32_60 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let v78 : BitVec 32 := Scalar.subi c1_i32_60 v11
  let c256_i32 : BitVec 32 := 256#32
  let v79 : BitVec 32 := Scalar.muli v78 c256_i32
  let v676 : BitVec 32 := Scalar.addi c1024_i32_518 v79
  let v677 : Index := Scalar.indexCast v676
  let c0_519 : Index := 0#32
  ![v677.toNat, 0]
def k0_dev22 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v32 : BitVec 32 := Scalar.xori v5 c4_i32
  let c1_i32_24 : BitVec 32 := 1#32
  let v33 : BitVec 32 := Scalar.shrsi v32 c1_i32_24
  let c1_i32_25 : BitVec 32 := 1#32
  let v34 : BitVec 32 := Scalar.andi v33 c1_i32_25
  let v35 : BitVec 32 := Scalar.xori v32 v34
  let c1_i32_525 : BitVec 32 := 1#32
  let v685 : BitVec 32 := Scalar.muli v35 c1_i32_525
  let v686 : BitVec 32 := Scalar.addi c0_i32_526 v685
  v686.toNat
def k0_off41 (d0 : Dev nD) (c0_i32_10 : BitVec 32) : Fin 2 → Nat :=
  let c1024_i32_548 : BitVec 32 := 1024#32
  let c1_i32_61 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v16 : BitVec 32 := Scalar.shrsi v5 c0_i32_10
  let c1_i32_11 : BitVec 32 := 1#32
  let v17 : BitVec 32 := Scalar.andi v16 c1_i32_11
  let v80 : BitVec 32 := Scalar.subi c1_i32_61 v17
  let c256_i32_62 : BitVec 32 := 256#32
  let v81 : BitVec 32 := Scalar.muli v80 c256_i32_62
  let v706 : BitVec 32 := Scalar.addi c1024_i32_548 v81
  let v707 : Index := Scalar.indexCast v706
  let c0_549 : Index := 0#32
  ![v707.toNat, 0]
def k0_dev23 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_32 : BitVec 32 := 1#32
  let v44 : BitVec 32 := Scalar.xori v5 c1_i32_32
  let c1_i32_33 : BitVec 32 := 1#32
  let v45 : BitVec 32 := Scalar.shrsi v44 c1_i32_33
  let c1_i32_34 : BitVec 32 := 1#32
  let v46 : BitVec 32 := Scalar.andi v45 c1_i32_34
  let v47 : BitVec 32 := Scalar.xori v44 v46
  let c1_i32_556 : BitVec 32 := 1#32
  let v715 : BitVec 32 := Scalar.muli v47 c1_i32_556
  let v716 : BitVec 32 := Scalar.addi c0_i32_557 v715
  v716.toNat
def k0_dev24 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_41 : BitVec 32 := 2#32
  let v56 : BitVec 32 := Scalar.xori v5 c2_i32_41
  let c1_i32_42 : BitVec 32 := 1#32
  let v57 : BitVec 32 := Scalar.shrsi v56 c1_i32_42
  let c1_i32_43 : BitVec 32 := 1#32
  let v58 : BitVec 32 := Scalar.andi v57 c1_i32_43
  let v59 : BitVec 32 := Scalar.xori v56 v58
  let c1_i32_588 : BitVec 32 := 1#32
  let v745 : BitVec 32 := Scalar.muli v59 c1_i32_588
  let v746 : BitVec 32 := Scalar.addi c0_i32_589 v745
  v746.toNat
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let v87 : BitVec 32 := Scalar.addi v66 v75
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v90 : BitVec 32 := Scalar.addi v87 v84
  let v773 : Index := Scalar.indexCast v90
  let c0_628 : Index := 0#32
  ![v773.toNat, 0]
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v96 : BitVec 32 := Scalar.addi v75 v84
  let v775 : Index := Scalar.indexCast v96
  let c0_629 : Index := 0#32
  ![v775.toNat, 0]
def k0_off44 (d0 : Dev nD) : Fin 2 → Nat :=
  let c1024_i32_630 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v779 : BitVec 32 := Scalar.addi c1024_i32_630 v84
  let v780 : Index := Scalar.indexCast v779
  let c0_631 : Index := 0#32
  ![v780.toNat, 0]
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c2_i32_8 : BitVec 32 := 2#32
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let v88 : BitVec 32 := Scalar.addi v67 v76
  let c0_i32_10 : BitVec 32 := 0#32
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v91 : BitVec 32 := Scalar.addi v88 v85
  let v808 : Index := Scalar.indexCast v91
  let c768_667 : Index := 768#32
  ![v808.toNat, 768]
def k0_off46 (d0 : Dev nD) (c2_i32_8 : BitVec 32) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v97 : BitVec 32 := Scalar.addi v76 v85
  let v810 : Index := Scalar.indexCast v97
  let c0_668 : Index := 0#32
  ![v810.toNat, 0]
def k0_off46_at (r : Fin 2) : BitVec 32 × BitVec 32 :=
  if r.val < 1 then
    (2#32, 0#32)
  else
    (0#32, 1#32)
def k0_off47 (d0 : Dev nD) (c0_i32_10 : BitVec 32) : Fin 2 → Nat :=
  let c1024_i32_669 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v814 : BitVec 32 := Scalar.addi c1024_i32_669 v85
  let v815 : Index := Scalar.indexCast v814
  let c0_670 : Index := 0#32
  ![v815.toNat, 0]
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c0_i32_14 : BitVec 32 := 0#32
  let v20 : BitVec 32 := Scalar.shrsi v5 c0_i32_14
  let c1_i32_15 : BitVec 32 := 1#32
  let v21 : BitVec 32 := Scalar.andi v20 c1_i32_15
  let c512_i32_59 : BitVec 32 := 512#32
  let v77 : BitVec 32 := Scalar.muli v21 c512_i32_59
  let v89 : BitVec 32 := Scalar.addi v68 v77
  let c1_i32_16 : BitVec 32 := 1#32
  let v22 : BitVec 32 := Scalar.shrsi v5 c1_i32_16
  let c1_i32_17 : BitVec 32 := 1#32
  let v23 : BitVec 32 := Scalar.andi v22 c1_i32_17
  let c256_i32_67 : BitVec 32 := 256#32
  let v86 : BitVec 32 := Scalar.muli v23 c256_i32_67
  let v92 : BitVec 32 := Scalar.addi v89 v86
  let v843 : Index := Scalar.indexCast v92
  let c1408_706 : Index := 1408#32
  ![v843.toNat, 1408]
def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let v87 : BitVec 32 := Scalar.addi v66 v75
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v90 : BitVec 32 := Scalar.addi v87 v84
  let c0_i32_743 : BitVec 32 := 0#32
  ![v90.toNat, 0]
def k0_dev25 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v24 : BitVec 32 := Scalar.xori v5 c1_i32_18
  let c1_i32_19 : BitVec 32 := 1#32
  let v25 : BitVec 32 := Scalar.shrsi v24 c1_i32_19
  let c1_i32_20 : BitVec 32 := 1#32
  let v26 : BitVec 32 := Scalar.andi v25 c1_i32_20
  let v27 : BitVec 32 := Scalar.xori v24 v26
  let c1_i32_741 : BitVec 32 := 1#32
  let v889 : BitVec 32 := Scalar.muli v27 c1_i32_741
  let v890 : BitVec 32 := Scalar.addi c0_i32_742 v889
  v890.toNat
def k0_dev26 (d0 : Dev nD) : Nat :=
  let c0_i32_750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v32 : BitVec 32 := Scalar.xori v5 c4_i32
  let c1_i32_24 : BitVec 32 := 1#32
  let v33 : BitVec 32 := Scalar.shrsi v32 c1_i32_24
  let c1_i32_25 : BitVec 32 := 1#32
  let v34 : BitVec 32 := Scalar.andi v33 c1_i32_25
  let v35 : BitVec 32 := Scalar.xori v32 v34
  let c1_i32_749 : BitVec 32 := 1#32
  let v897 : BitVec 32 := Scalar.muli v35 c1_i32_749
  let v898 : BitVec 32 := Scalar.addi c0_i32_750 v897
  v898.toNat
def k0_dev27 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_21 : BitVec 32 := 2#32
  let v28 : BitVec 32 := Scalar.xori v5 c2_i32_21
  let c1_i32_22 : BitVec 32 := 1#32
  let v29 : BitVec 32 := Scalar.shrsi v28 c1_i32_22
  let c1_i32_23 : BitVec 32 := 1#32
  let v30 : BitVec 32 := Scalar.andi v29 c1_i32_23
  let v31 : BitVec 32 := Scalar.xori v28 v30
  let c1_i32_757 : BitVec 32 := 1#32
  let v905 : BitVec 32 := Scalar.muli v31 c1_i32_757
  let v906 : BitVec 32 := Scalar.addi c0_i32_758 v905
  v906.toNat
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c2_i32_8 : BitVec 32 := 2#32
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let v88 : BitVec 32 := Scalar.addi v67 v76
  let c0_i32_10 : BitVec 32 := 0#32
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v91 : BitVec 32 := Scalar.addi v88 v85
  let c768_i32_794 : BitVec 32 := 768#32
  ![v91.toNat, 768]
def k0_dev28 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_26 : BitVec 32 := 2#32
  let v36 : BitVec 32 := Scalar.xori v5 c2_i32_26
  let c1_i32_27 : BitVec 32 := 1#32
  let v37 : BitVec 32 := Scalar.shrsi v36 c1_i32_27
  let c1_i32_28 : BitVec 32 := 1#32
  let v38 : BitVec 32 := Scalar.andi v37 c1_i32_28
  let v39 : BitVec 32 := Scalar.xori v36 v38
  let c1_i32_792 : BitVec 32 := 1#32
  let v944 : BitVec 32 := Scalar.muli v39 c1_i32_792
  let v945 : BitVec 32 := Scalar.addi c0_i32_793 v944
  v945.toNat
def k0_dev29 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_32 : BitVec 32 := 1#32
  let v44 : BitVec 32 := Scalar.xori v5 c1_i32_32
  let c1_i32_33 : BitVec 32 := 1#32
  let v45 : BitVec 32 := Scalar.shrsi v44 c1_i32_33
  let c1_i32_34 : BitVec 32 := 1#32
  let v46 : BitVec 32 := Scalar.andi v45 c1_i32_34
  let v47 : BitVec 32 := Scalar.xori v44 v46
  let c1_i32_800 : BitVec 32 := 1#32
  let v952 : BitVec 32 := Scalar.muli v47 c1_i32_800
  let v953 : BitVec 32 := Scalar.addi c0_i32_801 v952
  v953.toNat
def k0_dev30 (d0 : Dev nD) : Nat :=
  let c0_i32_809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_29 : BitVec 32 := 4#32
  let v40 : BitVec 32 := Scalar.xori v5 c4_i32_29
  let c1_i32_30 : BitVec 32 := 1#32
  let v41 : BitVec 32 := Scalar.shrsi v40 c1_i32_30
  let c1_i32_31 : BitVec 32 := 1#32
  let v42 : BitVec 32 := Scalar.andi v41 c1_i32_31
  let v43 : BitVec 32 := Scalar.xori v40 v42
  let c1_i32_808 : BitVec 32 := 1#32
  let v960 : BitVec 32 := Scalar.muli v43 c1_i32_808
  let v961 : BitVec 32 := Scalar.addi c0_i32_809 v960
  v961.toNat
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c0_i32_14 : BitVec 32 := 0#32
  let v20 : BitVec 32 := Scalar.shrsi v5 c0_i32_14
  let c1_i32_15 : BitVec 32 := 1#32
  let v21 : BitVec 32 := Scalar.andi v20 c1_i32_15
  let c512_i32_59 : BitVec 32 := 512#32
  let v77 : BitVec 32 := Scalar.muli v21 c512_i32_59
  let v89 : BitVec 32 := Scalar.addi v68 v77
  let c1_i32_16 : BitVec 32 := 1#32
  let v22 : BitVec 32 := Scalar.shrsi v5 c1_i32_16
  let c1_i32_17 : BitVec 32 := 1#32
  let v23 : BitVec 32 := Scalar.andi v22 c1_i32_17
  let c256_i32_67 : BitVec 32 := 256#32
  let v86 : BitVec 32 := Scalar.muli v23 c256_i32_67
  let v92 : BitVec 32 := Scalar.addi v89 v86
  let c1408_i32 : BitVec 32 := 1408#32
  ![v92.toNat, 1408]
def k0_dev31 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_35 : BitVec 32 := 4#32
  let v48 : BitVec 32 := Scalar.xori v5 c4_i32_35
  let c1_i32_36 : BitVec 32 := 1#32
  let v49 : BitVec 32 := Scalar.shrsi v48 c1_i32_36
  let c1_i32_37 : BitVec 32 := 1#32
  let v50 : BitVec 32 := Scalar.andi v49 c1_i32_37
  let v51 : BitVec 32 := Scalar.xori v48 v50
  let c1_i32_843 : BitVec 32 := 1#32
  let v999 : BitVec 32 := Scalar.muli v51 c1_i32_843
  let v1000 : BitVec 32 := Scalar.addi c0_i32_844 v999
  v1000.toNat
def k0_dev32 (d0 : Dev nD) : Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_41 : BitVec 32 := 2#32
  let v56 : BitVec 32 := Scalar.xori v5 c2_i32_41
  let c1_i32_42 : BitVec 32 := 1#32
  let v57 : BitVec 32 := Scalar.shrsi v56 c1_i32_42
  let c1_i32_43 : BitVec 32 := 1#32
  let v58 : BitVec 32 := Scalar.andi v57 c1_i32_43
  let v59 : BitVec 32 := Scalar.xori v56 v58
  let c1_i32_850 : BitVec 32 := 1#32
  let v1007 : BitVec 32 := Scalar.muli v59 c1_i32_850
  let v1008 : BitVec 32 := Scalar.addi c0_i32_851 v1007
  v1008.toNat
def k0_dev33 (d0 : Dev nD) : Nat :=
  let c0_i32_859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_38 : BitVec 32 := 1#32
  let v52 : BitVec 32 := Scalar.xori v5 c1_i32_38
  let c1_i32_39 : BitVec 32 := 1#32
  let v53 : BitVec 32 := Scalar.shrsi v52 c1_i32_39
  let c1_i32_40 : BitVec 32 := 1#32
  let v54 : BitVec 32 := Scalar.andi v53 c1_i32_40
  let v55 : BitVec 32 := Scalar.xori v52 v54
  let c1_i32_858 : BitVec 32 := 1#32
  let v1015 : BitVec 32 := Scalar.muli v55 c1_i32_858
  let v1016 : BitVec 32 := Scalar.addi c0_i32_859 v1015
  v1016.toNat
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let v87 : BitVec 32 := Scalar.addi v66 v75
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v90 : BitVec 32 := Scalar.addi v87 v84
  let c1_i32_863 : BitVec 32 := 1#32
  let c2_i32_862 : BitVec 32 := 2#32
  let v1023 : BitVec 32 := Scalar.muli c2_i32_862 v11
  let v1024 : BitVec 32 := Scalar.subi c1_i32_863 v1023
  let c256_i32_864 : BitVec 32 := 256#32
  let v1025 : BitVec 32 := Scalar.muli v1024 c256_i32_864
  let v1026 : BitVec 32 := Scalar.addi v90 v1025
  let c0_i32_886 : BitVec 32 := 0#32
  ![v1026.toNat, 0]
def k0_dev34 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_21 : BitVec 32 := 2#32
  let v28 : BitVec 32 := Scalar.xori v5 c2_i32_21
  let c1_i32_22 : BitVec 32 := 1#32
  let v29 : BitVec 32 := Scalar.shrsi v28 c1_i32_22
  let c1_i32_23 : BitVec 32 := 1#32
  let v30 : BitVec 32 := Scalar.andi v29 c1_i32_23
  let v31 : BitVec 32 := Scalar.xori v28 v30
  let c1_i32_884 : BitVec 32 := 1#32
  let v1037 : BitVec 32 := Scalar.muli v31 c1_i32_884
  let v1038 : BitVec 32 := Scalar.addi c0_i32_885 v1037
  v1038.toNat
def k0_dev35 (d0 : Dev nD) : Nat :=
  let c0_i32_893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v24 : BitVec 32 := Scalar.xori v5 c1_i32_18
  let c1_i32_19 : BitVec 32 := 1#32
  let v25 : BitVec 32 := Scalar.shrsi v24 c1_i32_19
  let c1_i32_20 : BitVec 32 := 1#32
  let v26 : BitVec 32 := Scalar.andi v25 c1_i32_20
  let v27 : BitVec 32 := Scalar.xori v24 v26
  let c1_i32_892 : BitVec 32 := 1#32
  let v1045 : BitVec 32 := Scalar.muli v27 c1_i32_892
  let v1046 : BitVec 32 := Scalar.addi c0_i32_893 v1045
  v1046.toNat
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c2_i32_8 : BitVec 32 := 2#32
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let v88 : BitVec 32 := Scalar.addi v67 v76
  let c0_i32_10 : BitVec 32 := 0#32
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v91 : BitVec 32 := Scalar.addi v88 v85
  let c1_i32_897 : BitVec 32 := 1#32
  let c2_i32_896 : BitVec 32 := 2#32
  let v1053 : BitVec 32 := Scalar.muli c2_i32_896 v17
  let v1054 : BitVec 32 := Scalar.subi c1_i32_897 v1053
  let c256_i32_898 : BitVec 32 := 256#32
  let v1055 : BitVec 32 := Scalar.muli v1054 c256_i32_898
  let v1056 : BitVec 32 := Scalar.addi v91 v1055
  let c768_i32_920 : BitVec 32 := 768#32
  ![v1056.toNat, 768]
def k0_dev36 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_29 : BitVec 32 := 4#32
  let v40 : BitVec 32 := Scalar.xori v5 c4_i32_29
  let c1_i32_30 : BitVec 32 := 1#32
  let v41 : BitVec 32 := Scalar.shrsi v40 c1_i32_30
  let c1_i32_31 : BitVec 32 := 1#32
  let v42 : BitVec 32 := Scalar.andi v41 c1_i32_31
  let v43 : BitVec 32 := Scalar.xori v40 v42
  let c1_i32_918 : BitVec 32 := 1#32
  let v1067 : BitVec 32 := Scalar.muli v43 c1_i32_918
  let v1068 : BitVec 32 := Scalar.addi c0_i32_919 v1067
  v1068.toNat
def k0_dev37 (d0 : Dev nD) : Nat :=
  let c0_i32_927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_26 : BitVec 32 := 2#32
  let v36 : BitVec 32 := Scalar.xori v5 c2_i32_26
  let c1_i32_27 : BitVec 32 := 1#32
  let v37 : BitVec 32 := Scalar.shrsi v36 c1_i32_27
  let c1_i32_28 : BitVec 32 := 1#32
  let v38 : BitVec 32 := Scalar.andi v37 c1_i32_28
  let v39 : BitVec 32 := Scalar.xori v36 v38
  let c1_i32_926 : BitVec 32 := 1#32
  let v1075 : BitVec 32 := Scalar.muli v39 c1_i32_926
  let v1076 : BitVec 32 := Scalar.addi c0_i32_927 v1075
  v1076.toNat
def k0_off54 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c0_i32_14 : BitVec 32 := 0#32
  let v20 : BitVec 32 := Scalar.shrsi v5 c0_i32_14
  let c1_i32_15 : BitVec 32 := 1#32
  let v21 : BitVec 32 := Scalar.andi v20 c1_i32_15
  let c512_i32_59 : BitVec 32 := 512#32
  let v77 : BitVec 32 := Scalar.muli v21 c512_i32_59
  let v89 : BitVec 32 := Scalar.addi v68 v77
  let c1_i32_16 : BitVec 32 := 1#32
  let v22 : BitVec 32 := Scalar.shrsi v5 c1_i32_16
  let c1_i32_17 : BitVec 32 := 1#32
  let v23 : BitVec 32 := Scalar.andi v22 c1_i32_17
  let c256_i32_67 : BitVec 32 := 256#32
  let v86 : BitVec 32 := Scalar.muli v23 c256_i32_67
  let v92 : BitVec 32 := Scalar.addi v89 v86
  let c1_i32_931 : BitVec 32 := 1#32
  let c2_i32_930 : BitVec 32 := 2#32
  let v1083 : BitVec 32 := Scalar.muli c2_i32_930 v23
  let v1084 : BitVec 32 := Scalar.subi c1_i32_931 v1083
  let c256_i32_932 : BitVec 32 := 256#32
  let v1085 : BitVec 32 := Scalar.muli v1084 c256_i32_932
  let v1086 : BitVec 32 := Scalar.addi v92 v1085
  let c1408_i32_954 : BitVec 32 := 1408#32
  ![v1086.toNat, 1408]
def k0_dev38 (d0 : Dev nD) : Nat :=
  let c0_i32_953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_38 : BitVec 32 := 1#32
  let v52 : BitVec 32 := Scalar.xori v5 c1_i32_38
  let c1_i32_39 : BitVec 32 := 1#32
  let v53 : BitVec 32 := Scalar.shrsi v52 c1_i32_39
  let c1_i32_40 : BitVec 32 := 1#32
  let v54 : BitVec 32 := Scalar.andi v53 c1_i32_40
  let v55 : BitVec 32 := Scalar.xori v52 v54
  let c1_i32_952 : BitVec 32 := 1#32
  let v1097 : BitVec 32 := Scalar.muli v55 c1_i32_952
  let v1098 : BitVec 32 := Scalar.addi c0_i32_953 v1097
  v1098.toNat
def k0_dev39 (d0 : Dev nD) : Nat :=
  let c0_i32_961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_35 : BitVec 32 := 4#32
  let v48 : BitVec 32 := Scalar.xori v5 c4_i32_35
  let c1_i32_36 : BitVec 32 := 1#32
  let v49 : BitVec 32 := Scalar.shrsi v48 c1_i32_36
  let c1_i32_37 : BitVec 32 := 1#32
  let v50 : BitVec 32 := Scalar.andi v49 c1_i32_37
  let v51 : BitVec 32 := Scalar.xori v48 v50
  let c1_i32_960 : BitVec 32 := 1#32
  let v1105 : BitVec 32 := Scalar.muli v51 c1_i32_960
  let v1106 : BitVec 32 := Scalar.addi c0_i32_961 v1105
  v1106.toNat
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let v87 : BitVec 32 := Scalar.addi v66 v75
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v90 : BitVec 32 := Scalar.addi v87 v84
  let c1_i32_965 : BitVec 32 := 1#32
  let c2_i32_964 : BitVec 32 := 2#32
  let v1113 : BitVec 32 := Scalar.muli c2_i32_964 v9
  let v1114 : BitVec 32 := Scalar.subi c1_i32_965 v1113
  let c512_i32_966 : BitVec 32 := 512#32
  let v1115 : BitVec 32 := Scalar.muli v1114 c512_i32_966
  let v1116 : BitVec 32 := Scalar.addi v90 v1115
  let c0_i32_988 : BitVec 32 := 0#32
  ![v1116.toNat, 0]
def k0_dev40 (d0 : Dev nD) : Nat :=
  let c0_i32_987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v24 : BitVec 32 := Scalar.xori v5 c1_i32_18
  let c1_i32_19 : BitVec 32 := 1#32
  let v25 : BitVec 32 := Scalar.shrsi v24 c1_i32_19
  let c1_i32_20 : BitVec 32 := 1#32
  let v26 : BitVec 32 := Scalar.andi v25 c1_i32_20
  let v27 : BitVec 32 := Scalar.xori v24 v26
  let c1_i32_986 : BitVec 32 := 1#32
  let v1127 : BitVec 32 := Scalar.muli v27 c1_i32_986
  let v1128 : BitVec 32 := Scalar.addi c0_i32_987 v1127
  v1128.toNat
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c2_i32_8 : BitVec 32 := 2#32
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let v88 : BitVec 32 := Scalar.addi v67 v76
  let c0_i32_10 : BitVec 32 := 0#32
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v91 : BitVec 32 := Scalar.addi v88 v85
  let c1_i32_991 : BitVec 32 := 1#32
  let c2_i32_990 : BitVec 32 := 2#32
  let v1135 : BitVec 32 := Scalar.muli c2_i32_990 v15
  let v1136 : BitVec 32 := Scalar.subi c1_i32_991 v1135
  let c512_i32_992 : BitVec 32 := 512#32
  let v1137 : BitVec 32 := Scalar.muli v1136 c512_i32_992
  let v1138 : BitVec 32 := Scalar.addi v91 v1137
  let c768_i32_1014 : BitVec 32 := 768#32
  ![v1138.toNat, 768]
def k0_dev41 (d0 : Dev nD) : Nat :=
  let c0_i32_1013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_26 : BitVec 32 := 2#32
  let v36 : BitVec 32 := Scalar.xori v5 c2_i32_26
  let c1_i32_27 : BitVec 32 := 1#32
  let v37 : BitVec 32 := Scalar.shrsi v36 c1_i32_27
  let c1_i32_28 : BitVec 32 := 1#32
  let v38 : BitVec 32 := Scalar.andi v37 c1_i32_28
  let v39 : BitVec 32 := Scalar.xori v36 v38
  let c1_i32_1012 : BitVec 32 := 1#32
  let v1149 : BitVec 32 := Scalar.muli v39 c1_i32_1012
  let v1150 : BitVec 32 := Scalar.addi c0_i32_1013 v1149
  v1150.toNat
def k0_off57 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c0_i32_14 : BitVec 32 := 0#32
  let v20 : BitVec 32 := Scalar.shrsi v5 c0_i32_14
  let c1_i32_15 : BitVec 32 := 1#32
  let v21 : BitVec 32 := Scalar.andi v20 c1_i32_15
  let c512_i32_59 : BitVec 32 := 512#32
  let v77 : BitVec 32 := Scalar.muli v21 c512_i32_59
  let v89 : BitVec 32 := Scalar.addi v68 v77
  let c1_i32_16 : BitVec 32 := 1#32
  let v22 : BitVec 32 := Scalar.shrsi v5 c1_i32_16
  let c1_i32_17 : BitVec 32 := 1#32
  let v23 : BitVec 32 := Scalar.andi v22 c1_i32_17
  let c256_i32_67 : BitVec 32 := 256#32
  let v86 : BitVec 32 := Scalar.muli v23 c256_i32_67
  let v92 : BitVec 32 := Scalar.addi v89 v86
  let c1_i32_1017 : BitVec 32 := 1#32
  let c2_i32_1016 : BitVec 32 := 2#32
  let v1157 : BitVec 32 := Scalar.muli c2_i32_1016 v21
  let v1158 : BitVec 32 := Scalar.subi c1_i32_1017 v1157
  let c512_i32_1018 : BitVec 32 := 512#32
  let v1159 : BitVec 32 := Scalar.muli v1158 c512_i32_1018
  let v1160 : BitVec 32 := Scalar.addi v92 v1159
  let c1408_i32_1040 : BitVec 32 := 1408#32
  ![v1160.toNat, 1408]
def k0_dev42 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_35 : BitVec 32 := 4#32
  let v48 : BitVec 32 := Scalar.xori v5 c4_i32_35
  let c1_i32_36 : BitVec 32 := 1#32
  let v49 : BitVec 32 := Scalar.shrsi v48 c1_i32_36
  let c1_i32_37 : BitVec 32 := 1#32
  let v50 : BitVec 32 := Scalar.andi v49 c1_i32_37
  let v51 : BitVec 32 := Scalar.xori v48 v50
  let c1_i32_1038 : BitVec 32 := 1#32
  let v1171 : BitVec 32 := Scalar.muli v51 c1_i32_1038
  let v1172 : BitVec 32 := Scalar.addi c0_i32_1039 v1171
  v1172.toNat
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c1024_i32_49 : BitVec 32 := 1024#32
  let v66 : BitVec 32 := Scalar.muli v7 c1024_i32_49
  let c1_i32_3 : BitVec 32 := 1#32
  let v8 : BitVec 32 := Scalar.shrsi v5 c1_i32_3
  let c1_i32_4 : BitVec 32 := 1#32
  let v9 : BitVec 32 := Scalar.andi v8 c1_i32_4
  let c512_i32_57 : BitVec 32 := 512#32
  let v75 : BitVec 32 := Scalar.muli v9 c512_i32_57
  let v87 : BitVec 32 := Scalar.addi v66 v75
  let c2_i32 : BitVec 32 := 2#32
  let v10 : BitVec 32 := Scalar.shrsi v5 c2_i32
  let c1_i32_5 : BitVec 32 := 1#32
  let v11 : BitVec 32 := Scalar.andi v10 c1_i32_5
  let c256_i32_65 : BitVec 32 := 256#32
  let v84 : BitVec 32 := Scalar.muli v11 c256_i32_65
  let v90 : BitVec 32 := Scalar.addi v87 v84
  let c1_i32_1043 : BitVec 32 := 1#32
  let c2_i32_1042 : BitVec 32 := 2#32
  let v1179 : BitVec 32 := Scalar.muli c2_i32_1042 v9
  let v1180 : BitVec 32 := Scalar.subi c1_i32_1043 v1179
  let c512_i32_1044 : BitVec 32 := 512#32
  let v1181 : BitVec 32 := Scalar.muli v1180 c512_i32_1044
  let v1182 : BitVec 32 := Scalar.addi v90 v1181
  let c1_i32_1046 : BitVec 32 := 1#32
  let c2_i32_1045 : BitVec 32 := 2#32
  let v1183 : BitVec 32 := Scalar.muli c2_i32_1045 v11
  let v1184 : BitVec 32 := Scalar.subi c1_i32_1046 v1183
  let c256_i32_1047 : BitVec 32 := 256#32
  let v1185 : BitVec 32 := Scalar.muli v1184 c256_i32_1047
  let v1186 : BitVec 32 := Scalar.addi v1182 v1185
  let c0_i32_1069 : BitVec 32 := 0#32
  ![v1186.toNat, 0]
def k0_dev43 (d0 : Dev nD) : Nat :=
  let c0_i32_1068 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_18 : BitVec 32 := 1#32
  let v24 : BitVec 32 := Scalar.xori v5 c1_i32_18
  let c1_i32_19 : BitVec 32 := 1#32
  let v25 : BitVec 32 := Scalar.shrsi v24 c1_i32_19
  let c1_i32_20 : BitVec 32 := 1#32
  let v26 : BitVec 32 := Scalar.andi v25 c1_i32_20
  let v27 : BitVec 32 := Scalar.xori v24 v26
  let c1_i32_1067 : BitVec 32 := 1#32
  let v1197 : BitVec 32 := Scalar.muli v27 c1_i32_1067
  let v1198 : BitVec 32 := Scalar.addi c0_i32_1068 v1197
  v1198.toNat
def k0_off59 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.shrsi v5 c1_i32_6
  let c1_i32_7 : BitVec 32 := 1#32
  let v13 : BitVec 32 := Scalar.andi v12 c1_i32_7
  let c1024_i32_50 : BitVec 32 := 1024#32
  let v67 : BitVec 32 := Scalar.muli v13 c1024_i32_50
  let c2_i32_8 : BitVec 32 := 2#32
  let v14 : BitVec 32 := Scalar.shrsi v5 c2_i32_8
  let c1_i32_9 : BitVec 32 := 1#32
  let v15 : BitVec 32 := Scalar.andi v14 c1_i32_9
  let c512_i32_58 : BitVec 32 := 512#32
  let v76 : BitVec 32 := Scalar.muli v15 c512_i32_58
  let v88 : BitVec 32 := Scalar.addi v67 v76
  let c0_i32_10 : BitVec 32 := 0#32
  let v16 : BitVec 32 := Scalar.shrsi v5 c0_i32_10
  let c1_i32_11 : BitVec 32 := 1#32
  let v17 : BitVec 32 := Scalar.andi v16 c1_i32_11
  let c256_i32_66 : BitVec 32 := 256#32
  let v85 : BitVec 32 := Scalar.muli v17 c256_i32_66
  let v91 : BitVec 32 := Scalar.addi v88 v85
  let c1_i32_1072 : BitVec 32 := 1#32
  let c2_i32_1071 : BitVec 32 := 2#32
  let v1205 : BitVec 32 := Scalar.muli c2_i32_1071 v15
  let v1206 : BitVec 32 := Scalar.subi c1_i32_1072 v1205
  let c512_i32_1073 : BitVec 32 := 512#32
  let v1207 : BitVec 32 := Scalar.muli v1206 c512_i32_1073
  let v1208 : BitVec 32 := Scalar.addi v91 v1207
  let c1_i32_1075 : BitVec 32 := 1#32
  let c2_i32_1074 : BitVec 32 := 2#32
  let v1209 : BitVec 32 := Scalar.muli c2_i32_1074 v17
  let v1210 : BitVec 32 := Scalar.subi c1_i32_1075 v1209
  let c256_i32_1076 : BitVec 32 := 256#32
  let v1211 : BitVec 32 := Scalar.muli v1210 c256_i32_1076
  let v1212 : BitVec 32 := Scalar.addi v1208 v1211
  let c768_i32_1098 : BitVec 32 := 768#32
  ![v1212.toNat, 768]
def k0_dev44 (d0 : Dev nD) : Nat :=
  let c0_i32_1097 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_26 : BitVec 32 := 2#32
  let v36 : BitVec 32 := Scalar.xori v5 c2_i32_26
  let c1_i32_27 : BitVec 32 := 1#32
  let v37 : BitVec 32 := Scalar.shrsi v36 c1_i32_27
  let c1_i32_28 : BitVec 32 := 1#32
  let v38 : BitVec 32 := Scalar.andi v37 c1_i32_28
  let v39 : BitVec 32 := Scalar.xori v36 v38
  let c1_i32_1096 : BitVec 32 := 1#32
  let v1223 : BitVec 32 := Scalar.muli v39 c1_i32_1096
  let v1224 : BitVec 32 := Scalar.addi c0_i32_1097 v1223
  v1224.toNat
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_12 : BitVec 32 := 2#32
  let v18 : BitVec 32 := Scalar.shrsi v5 c2_i32_12
  let c1_i32_13 : BitVec 32 := 1#32
  let v19 : BitVec 32 := Scalar.andi v18 c1_i32_13
  let c1024_i32_51 : BitVec 32 := 1024#32
  let v68 : BitVec 32 := Scalar.muli v19 c1024_i32_51
  let c0_i32_14 : BitVec 32 := 0#32
  let v20 : BitVec 32 := Scalar.shrsi v5 c0_i32_14
  let c1_i32_15 : BitVec 32 := 1#32
  let v21 : BitVec 32 := Scalar.andi v20 c1_i32_15
  let c512_i32_59 : BitVec 32 := 512#32
  let v77 : BitVec 32 := Scalar.muli v21 c512_i32_59
  let v89 : BitVec 32 := Scalar.addi v68 v77
  let c1_i32_16 : BitVec 32 := 1#32
  let v22 : BitVec 32 := Scalar.shrsi v5 c1_i32_16
  let c1_i32_17 : BitVec 32 := 1#32
  let v23 : BitVec 32 := Scalar.andi v22 c1_i32_17
  let c256_i32_67 : BitVec 32 := 256#32
  let v86 : BitVec 32 := Scalar.muli v23 c256_i32_67
  let v92 : BitVec 32 := Scalar.addi v89 v86
  let c1_i32_1101 : BitVec 32 := 1#32
  let c2_i32_1100 : BitVec 32 := 2#32
  let v1231 : BitVec 32 := Scalar.muli c2_i32_1100 v21
  let v1232 : BitVec 32 := Scalar.subi c1_i32_1101 v1231
  let c512_i32_1102 : BitVec 32 := 512#32
  let v1233 : BitVec 32 := Scalar.muli v1232 c512_i32_1102
  let v1234 : BitVec 32 := Scalar.addi v92 v1233
  let c1_i32_1104 : BitVec 32 := 1#32
  let c2_i32_1103 : BitVec 32 := 2#32
  let v1235 : BitVec 32 := Scalar.muli c2_i32_1103 v23
  let v1236 : BitVec 32 := Scalar.subi c1_i32_1104 v1235
  let c256_i32_1105 : BitVec 32 := 256#32
  let v1237 : BitVec 32 := Scalar.muli v1236 c256_i32_1105
  let v1238 : BitVec 32 := Scalar.addi v1234 v1237
  let c1408_i32_1127 : BitVec 32 := 1408#32
  ![v1238.toNat, 1408]
def k0_dev45 (d0 : Dev nD) : Nat :=
  let c0_i32_1126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_35 : BitVec 32 := 4#32
  let v48 : BitVec 32 := Scalar.xori v5 c4_i32_35
  let c1_i32_36 : BitVec 32 := 1#32
  let v49 : BitVec 32 := Scalar.shrsi v48 c1_i32_36
  let c1_i32_37 : BitVec 32 := 1#32
  let v50 : BitVec 32 := Scalar.andi v49 c1_i32_37
  let v51 : BitVec 32 := Scalar.xori v48 v50
  let c1_i32_1125 : BitVec 32 := 1#32
  let v1249 : BitVec 32 := Scalar.muli v51 c1_i32_1125
  let v1250 : BitVec 32 := Scalar.addi c0_i32_1126 v1249
  v1250.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Mesh.lean ====
/-
# The hypercube of eight devices

The kernel places the eight devices on a three-dimensional cube by a Gray code of the device number, splits the
output's columns in three groups, and runs for each group a reduce-scatter and an all-gather, in three stages over
the cube's three directions; group `g` takes direction `(g + t) % 3` at stage `t`. This file has the geometry: the
neighbours, the copies (seven per group in each of the two phases), which row chunk each copy reads and writes, and
the printed device numbers and offsets in closed form.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Cube

open Cert.KernelIdeal Cert.KernelIdeal.Gen
open Idealize.ShloMosaic
open Idealize.ShloMosaic.TcCoe

/-! ## Devices and directions -/

/-- The Gray code on `0 … 7` the kernel uses; its own inverse. -/
def gray (n : ℕ) : ℕ := n ^^^ ((n >>> 1) &&& 1)

/-- The device's coordinate along direction `e` of the cube. -/
def bit (c : Dev nD) (e : Fin 3) : ℕ := (gray c.val >>> e.val) % 2

set_option backward.proofsInPublic true in
/-- The device across direction `e`. -/
def nb (e : Fin 3) (c : Dev nD) : Dev nD := ⟨gray (gray c.val ^^^ (1 <<< e.val)) % 8, Nat.mod_lt _ (by decide)⟩

theorem nb_nb : ∀ (e : Fin 3) (c : Dev nD), nb e (nb e c) = c := by decide

/-- Crossing a direction twice is staying: each direction pairs the devices. -/
def nbEquiv (e : Fin 3) : Dev nD ≃ Dev nD := ⟨nb e, nb e, nb_nb e, nb_nb e⟩

theorem nb_inj (e : Fin 3) {c d : Dev nD} (h : nb e c = nb e d) : c = d := by
  rw [← nb_nb e c, h, nb_nb]

/-- The direction group `g` takes at stage `t`. -/
def dir (g t : Fin 3) : Fin 3 := g + t

/-- The device's coordinate at stage `t` of group `g`. -/
abbrev sb (c : Dev nD) (g t : Fin 3) : ℕ := bit c (dir g t)

/-- The row chunk (of 256 rows) that device `c` reduces in group `g`. -/
def own (c : Dev nD) (g : Fin 3) : ℕ := 4 * sb c g 0 + 2 * sb c g 1 + sb c g 2

theorem own_lt : ∀ (c : Dev nD) (g : Fin 3), own c g < 8 := by decide

set_option backward.proofsInPublic true in
/-- The device that reduces row chunk `k` in group `g`. -/
def owner (g : Fin 3) (k : ℕ) : Dev nD :=
  ⟨gray (((k >>> 2) % 2) <<< (dir g 0).val ||| ((k >>> 1) % 2) <<< (dir g 1).val ||| (k % 2) <<< (dir g 2).val) % 8,
    Nat.mod_lt _ (by decide)⟩

theorem owner_own : ∀ (g : Fin 3) (c : Dev nD), owner g (own c g) = c := by decide
theorem own_owner : ∀ (g : Fin 3) (k : Fin 8), own (owner g k) g = k := by decide

/-! ## The copies -/

/-- A copy: the all-gather's (`true`) or the reduce-scatter's (`false`), its slot, its group. -/
abbrev J : Type := Bool × Fin 7 × Fin 3

/-- The stage at which a copy travels. -/
def stage (a : Bool) (s : Fin 7) : Fin 3 :=
  if a then (![2, 1, 0, 1, 0, 0, 0] : Fin 7 → Fin 3) s else (![0, 0, 0, 1, 1, 2, 0] : Fin 7 → Fin 3) s

/-- The direction a copy travels. -/
def dirJ (j : J) : Fin 3 := dir j.2.2 (stage j.1 j.2.1)

/-- The device a copy of device `c` goes to, and the one a copy that lands on `c` comes from. -/
abbrev peer (j : J) (c : Dev nD) : Dev nD := nb (dirJ j) c

/-- The columns of a group: how many and from where. -/
def W : Fin 3 → ℕ | 0 => 768 | 1 => 640 | 2 => 640
def col : Fin 3 → ℕ | 0 => 0 | 1 => 768 | 2 => 1408

/-- A reduce-scatter copy reads this chunk of the group's send buffer. -/
def sendChunk : Fin 7 → Fin 4 := ![0, 2, 3, 0, 1, 0, 1]

/-- A reduce-scatter copy lands in this chunk of the group's receive buffer; sender and receiver say the same, since
    it depends on no coordinate along the copy's direction. -/
def recvNat (s : Fin 7) (c : Dev nD) (g : Fin 3) : ℕ :=
  match s with
  | 0 => 2 * (1 - sb c g 1) + (1 - sb c g 2)
  | 1 => 2 * sb c g 1 + (1 - sb c g 2)
  | 2 => 2 * sb c g 1 + sb c g 2
  | 3 => 4 + (1 - sb c g 2)
  | 4 => 4 + sb c g 2
  | 5 => 6
  | 6 => 2 * (1 - sb c g 1) + sb c g 2

def recvChunk (s : Fin 7) (c : Dev nD) (g : Fin 3) : Fin 7 := Fin.ofNat 7 (recvNat s c g)

theorem recvChunk_peer : ∀ (s : Fin 7) (g : Fin 3) (c : Dev nD), recvChunk s (peer (false, s, g) c) g = recvChunk s c g := by decide
theorem recvChunk_inj : ∀ (c : Dev nD) (g : Fin 3), Function.Injective fun s => recvChunk s c g := by decide

/-- On each device a group's seven copies land in the seven chunks. -/
def recvEquiv (c : Dev nD) (g : Fin 3) : Fin 7 ≃ Fin 7 :=
  Equiv.ofBijective (fun s => recvChunk s c g) (Finite.injective_iff_bijective.mp (recvChunk_inj c g))

/-- The chunk that differs from the device's own by `w` (a mask of three bits). -/
def chunk (c : Dev nD) (g : Fin 3) (w : Fin 8) : Fin 8 := Fin.ofNat 8 (own c g ^^^ w.val)

theorem chunk_inj : ∀ (c : Dev nD) (g : Fin 3) (w : Fin 8), chunk c g (chunk c g w) = w := by decide

def chunkEquiv (c : Dev nD) (g : Fin 3) : Fin 8 ≃ Fin 8 := ⟨chunk c g, chunk c g, chunk_inj c g, chunk_inj c g⟩

/-- An all-gather copy takes the chunk that differs by this mask from its sender's own, -/
def sentMask : Fin 7 → Fin 8 := ![0, 0, 0, 1, 1, 2, 3]
/-- and it is this far from its receiver's own. -/
def gotMask : Fin 7 → Fin 8 := ![1, 2, 4, 3, 5, 6, 7]

theorem chunk_peer : ∀ (s : Fin 7) (g : Fin 3) (c : Dev nD), chunk (peer (true, s, g) c) g (gotMask s) = chunk c g (sentMask s) := by decide
theorem chunk_from : ∀ (s : Fin 7) (g : Fin 3) (c : Dev nD), chunk (peer (true, s, g) c) g (sentMask s) = chunk c g (gotMask s) := by decide

/-! ## Offsets, printed and closed -/

/-- Chunk `k`'s offset in a buffer of the group's columns alone, -/
abbrev offR (k : ℕ) : Fin 2 → ℕ := ![256 * k, 0]
/-- and in a buffer of all the columns. -/
abbrev offC (g : Fin 3) (k : ℕ) : Fin 2 → ℕ := ![256 * k, col g]

end Cert.Cube
end
-- ==== Proof.Contents.lean ====
/-
# What the kernel's buffers hold

For any float values: the products, the partial sums each copy carries, and the finished chunks, as functions of the
two input blocks of all the devices. Everything is uniform in the group; the group's column count is part of the type.
-/
module

public import proofs.«01_k».proof.Proof.Mesh

@[expose] public section

noncomputable section

namespace Cert.Cube

open Cert.KernelIdeal Cert.KernelIdeal.Gen
open Idealize.ShloMosaic
open Idealize.ShloMosaic.TcCoe

variable {F : FTy → Type} [FloatOps F]

/-- The shape of a 256-row chunk, and of a 512-row one, of a group's columns. -/
abbrev SP (g : Fin 3) : Shape := ⟨2, ![256, W g]⟩
abbrev SQ (g : Fin 3) : Shape := ⟨2, ![512, W g]⟩

/-- A product of 256 rows, and of 512 rows, with the group's columns of the right operand. -/
def mm256 : (g : Fin 3) → Vec F S256x1024 .bf16 → Vec F S1024x2048 .bf16 → FVec F (SP g) .f32
  | 0, a, b => matmul dot_S256x1024_S1024x768_S256x768_1_0_0_1_n_n none a
      (extractStridedSlice S1024x768 ![0, 0] b slices_S1024x2048_o0_0_S1024x768 : FVec F S1024x768 .bf16) (constant S256x768 .f32 0x00000000#32)
  | 1, a, b => matmul dot_S256x1024_S1024x640_S256x640_1_0_0_1_n_n none a
      (extractStridedSlice S1024x640 ![0, 768] b slices_S1024x2048_o0_768_S1024x640 : FVec F S1024x640 .bf16) (constant S256x640 .f32 0x00000000#32)
  | 2, a, b => matmul dot_S256x1024_S1024x640_S256x640_1_0_0_1_n_n none a
      (extractStridedSlice S1024x640 ![0, 1408] b slices_S1024x2048_o0_1408_S1024x640 : FVec F S1024x640 .bf16) (constant S256x640 .f32 0x00000000#32)

def mm512 : (g : Fin 3) → Vec F S512x1024 .bf16 → Vec F S1024x2048 .bf16 → FVec F (SQ g) .f32
  | 0, a, b => matmul dot_S512x1024_S1024x768_S512x768_1_0_0_1_n_n none a
      (extractStridedSlice S1024x768 ![0, 0] b slices_S1024x2048_o0_0_S1024x768 : FVec F S1024x768 .bf16) (constant S512x768 .f32 0x00000000#32)
  | 1, a, b => matmul dot_S512x1024_S1024x640_S512x640_1_0_0_1_n_n none a
      (extractStridedSlice S1024x640 ![0, 768] b slices_S1024x2048_o0_768_S1024x640 : FVec F S1024x640 .bf16) (constant S512x640 .f32 0x00000000#32)
  | 2, a, b => matmul dot_S512x1024_S1024x640_S512x640_1_0_0_1_n_n none a
      (extractStridedSlice S1024x640 ![0, 1408] b slices_S1024x2048_o0_1408_S1024x640 : FVec F S1024x640 .bf16) (constant S512x640 .f32 0x00000000#32)

/-- Row chunk `k` of the left operand: of 256 rows, -/
theorem inbA (k : Fin 8) : ∀ a, offR k a + S256x1024.size a ≤ S2048x1024.size a := by
  intro a; fin_cases a
  · show 256 * k.val + 256 ≤ 2048; omega
  · show 0 + 1024 ≤ 1024; omega
def rows256 (X : Vec F S2048x1024 .bf16) (k : Fin 8) : Vec F S256x1024 .bf16 :=
  fun i => X ((Rect.unit (s := S2048x1024) (offR k) S256x1024.size (inbA k)).emb i)

/-- and of 512. -/
abbrev offR2 (k : ℕ) : Fin 2 → ℕ := ![512 * k, 0]
theorem inbA2 (k : Fin 4) : ∀ a, offR2 k a + S512x1024.size a ≤ S2048x1024.size a := by
  intro a; fin_cases a
  · show 512 * k.val + 512 ≤ 2048; omega
  · show 0 + 1024 ≤ 1024; omega
def rows512 (X : Vec F S2048x1024 .bf16) (k : Fin 4) : Vec F S512x1024 .bf16 :=
  fun i => X ((Rect.unit (s := S2048x1024) (offR2 k) S512x1024.size (inbA2 k)).emb i)

/-- The upper or the lower half of a 512-row chunk. -/
theorem inbH (g : Fin 3) (b : Fin 2) : ∀ a, offR b a + (SP g).size a ≤ (SQ g).size a := by
  intro a; fin_cases a
  · show 256 * b.val + 256 ≤ 512; omega
  · show 0 + W g ≤ W g; omega
def half (g : Fin 3) (X : FVec F (SQ g) .f32) (b : Fin 2) : FVec F (SP g) .f32 :=
  fun i => X ((Rect.unit (s := SQ g) (offR b) (SP g).size (inbH g b)).emb i)

/-- The chunk pair a chunk lies in, and which of the two it is. -/
def pair (k : Fin 8) : Fin 4 := Fin.ofNat 4 (k.val / 2)
def side (k : Fin 8) : Fin 2 := Fin.ofNat 2 k.val

/-- The activation, as the kernel computes it. -/
def gelu {s : Shape} (z : FVec F s .f32) : FVec F s .f32 :=
  mulf (mulf (broadcast s (Scalar.ofBits .f32 0x3F000000#32)) z)
    (addf (broadcast s (Scalar.ofBits .f32 0x3F800000#32))
      (tanh (mulf (broadcast s (Scalar.ofBits .f32 0x3F4C422A#32))
        (addf z (mulf (mulf (mulf (broadcast s (Scalar.ofBits .f32 0x3D372713#32)) z) z) z)))))

abbrev wide {s : Shape} (x : FVec F s .bf16) : FVec F s .f32 := extf .f32 x bitsLt_bf16_f32
abbrev narrow {s : Shape} (x : FVec F s .f32) : FVec F s .bf16 := truncf .bf16 x bitsLt_bf16_f32

section Values

variable (A : Dev nD → Vec F S2048x1024 .bf16) (B : Dev nD → Vec F S1024x2048 .bf16)

/-- Device `c`'s product at row chunk `k`, as the sends compute it, -/
def prod (c : Dev nD) (g : Fin 3) (k : Fin 8) : FVec F (SP g) .f32 := mm256 g (rows256 (A c) k) (B c)
/-- as the accumulator holds it: a half of a 512-row product. -/
def prod2 (c : Dev nD) (g : Fin 3) (k : Fin 8) : FVec F (SP g) .f32 := half g (mm512 g (rows512 (A c) (pair k)) (B c)) (side k)

/-- What the first stage's four copies carry: chunks four to seven away from the sender's own. -/
def s0 (c : Dev nD) (g : Fin 3) : FVec F (SP g) .bf16 := narrow (prod A B c g (chunk c g 7))
def s6 (c : Dev nD) (g : Fin 3) : FVec F (SP g) .bf16 := narrow (prod A B c g (chunk c g 6))
def s1 (c : Dev nD) (g : Fin 3) : FVec F (SP g) .bf16 := narrow (prod A B c g (chunk c g 5))
def s2 (c : Dev nD) (g : Fin 3) : FVec F (SP g) .bf16 := narrow (prod A B c g (chunk c g 4))
/-- What the second stage's two carry: the sum of two devices' products. -/
def s3 (c : Dev nD) (g : Fin 3) : FVec F (SP g) .bf16 :=
  narrow (addf (prod2 A B c g (chunk c g 3)) (wide (s0 A B (peer (false, 0, g) c) g)))
def s4 (c : Dev nD) (g : Fin 3) : FVec F (SP g) .bf16 :=
  narrow (addf (prod2 A B c g (chunk c g 2)) (wide (s6 A B (peer (false, 6, g) c) g)))
/-- The accumulator one away from the own chunk, and what the third stage carries: the sum of four. -/
def k1 (c : Dev nD) (g : Fin 3) : FVec F (SP g) .f32 :=
  addf (prod2 A B c g (chunk c g 1)) (wide (s1 A B (peer (false, 1, g) c) g))
def s5 (c : Dev nD) (g : Fin 3) : FVec F (SP g) .bf16 := narrow (addf (k1 A B c g) (wide (s3 A B (peer (false, 3, g) c) g)))
/-- The accumulator at the own chunk, the total, and the finished chunk. -/
def k0 (c : Dev nD) (g : Fin 3) : FVec F (SP g) .f32 :=
  addf (addf (prod2 A B c g (chunk c g 0)) (wide (s2 A B (peer (false, 2, g) c) g))) (wide (s4 A B (peer (false, 4, g) c) g))
def total (c : Dev nD) (g : Fin 3) : FVec F (SP g) .f32 := addf (k0 A B c g) (wide (s5 A B (peer (false, 5, g) c) g))
def done (c : Dev nD) (g : Fin 3) : FVec F (SP g) .bf16 := narrow (gelu (total A B c g))

/-- The finished chunk `k` of group `g`, from the device that reduces it. -/
def fin (g : Fin 3) (k : Fin 8) : FVec F (SP g) .bf16 := done A B (owner g k) g

theorem fin_own (c : Dev nD) (g : Fin 3) : fin A B g (chunk c g 0) = done A B c g := by
  unfold fin
  rw [show owner g (chunk c g 0) = c by revert c g; decide]

/-- What copy `j` of device `c` carries. -/
def sval (c : Dev nD) : (j : J) → FVec F (SP j.2.2) .bf16
  | (true, s, g) => fin A B g (chunk c g (sentMask s))
  | (false, 0, g) => s0 A B c g
  | (false, 1, g) => s1 A B c g
  | (false, 2, g) => s2 A B c g
  | (false, 3, g) => s3 A B c g
  | (false, 4, g) => s4 A B c g
  | (false, 5, g) => s5 A B c g
  | (false, 6, g) => s6 A B c g

/-- The accumulator's chunk `m` away from the own one, at stage `n` of its life: after the product, after the sum. -/
def aval (c : Dev nD) (g : Fin 3) (m : Fin 8) : ℕ → FVec F (SP g) .f32
  | 1 => prod2 A B c g (chunk c g m)
  | _ => if m = 1 then k1 A B c g else k0 A B c g

end Values

end Cert.Cube
end
-- ==== Proof.Sched.lean ====
/-
# The buffers in pieces, the semaphores, and what each one's units stand for

A device's four kinds of buffers are held in pieces: a send buffer in four chunks, a receive buffer in seven, the
accumulator and the output in twenty-four (three groups of columns by eight chunks of rows). Every copy has two
semaphores, one on its sender and one on its receiver, each waited for exactly once; the entry handshake's semaphore
takes one unit from each neighbour, and with it the right to write the places the neighbour's copies land in.
-/
module

public import proofs.«01_k».proof.Proof.Contents
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The pieces -/

abbrev SS (g : Fin 3) : Shape := ⟨2, ![1024, W g]⟩
abbrev SR (g : Fin 3) : Shape := ⟨2, ![1792, W g]⟩

def sM : (g : Fin 3) → Memref sig .tc .vmem (SS g) .bf16
  | 0 => Memref.whole cc0_scratch1 | 1 => Memref.whole cc0_scratch2 | 2 => Memref.whole cc0_scratch3
def rM : (g : Fin 3) → Memref sig .tc .vmem (SR g) .bf16
  | 0 => Memref.whole cc0_scratch4 | 1 => Memref.whole cc0_scratch5 | 2 => Memref.whole cc0_scratch6
abbrev accM : Memref sig .tc .vmem S2048x2048 .f32 := Memref.whole cc0_scratch0
abbrev outM : Memref sig .tc .vmem S2048x2048 .bf16 := Memref.whole cc0_stg2_0
abbrev aM : Memref sig .tc .vmem S2048x1024 .bf16 := Memref.whole cc0_stg0_0
abbrev bM : Memref sig .tc .vmem S1024x2048 .bf16 := Memref.whole cc0_stg1_0

theorem inbS (g : Fin 3) (k : Fin 4) : ∀ a, offR k a + (SP g).size a ≤ (SS g).size a := by
  intro a; fin_cases a
  · show 256 * k.val + 256 ≤ 1024; omega
  · show 0 + W g ≤ W g; omega
theorem inbR (g : Fin 3) (k : Fin 7) : ∀ a, offR k a + (SP g).size a ≤ (SR g).size a := by
  intro a; fin_cases a
  · show 256 * k.val + 256 ≤ 1792; omega
  · show 0 + W g ≤ W g; omega
theorem inbC (g : Fin 3) (k : Fin 8) : ∀ a, offC g k a + (SP g).size a ≤ S2048x2048.size a := by
  intro a; fin_cases a
  · show 256 * k.val + 256 ≤ 2048; omega
  · show col g + W g ≤ 2048; revert g; decide

abbrev rectS (g : Fin 3) (k : Fin 4) : Rect (SS g) := Rect.unit (s := SS g) (offR k) (SP g).size (inbS g k)
abbrev rectR (g : Fin 3) (k : Fin 7) : Rect (SR g) := Rect.unit (s := SR g) (offR k) (SP g).size (inbR g k)
abbrev rectC (g : Fin 3) (k : Fin 8) : Rect S2048x2048 := Rect.unit (s := S2048x2048) (offC g k) (SP g).size (inbC g k)

def sP (g : Fin 3) (k : Fin 4) : Memref sig .tc .vmem (SP g) .bf16 := (sM g).slice (rectS g k) (fun _ => rfl)
def rP (g : Fin 3) (k : Fin 7) : Memref sig .tc .vmem (SP g) .bf16 := (rM g).slice (rectR g k) (fun _ => rfl)
def oP (g : Fin 3) (k : Fin 8) : Memref sig .tc .vmem (SP g) .bf16 := outM.slice (rectC g k) (fun _ => rfl)
def aP (g : Fin 3) (k : Fin 8) : Memref sig .tc .vmem (SP g) .f32 := accM.slice (rectC g k) (fun _ => rfl)

/-- What copy `j` of device `c` reads on `c`, and where a copy `j` that arrives on `c` lands. -/
def srcM (c : Dev nD) : (j : J) → Memref sig .tc .vmem (SP j.2.2) .bf16
  | (false, s, g) => sP g (sendChunk s)
  | (true, s, g) => oP g (chunk c g (sentMask s))
def dstM (c : Dev nD) : (j : J) → Memref sig .tc .vmem (SP j.2.2) .bf16
  | (false, s, g) => rP g (recvChunk s c g)
  | (true, s, g) => oP g (chunk c g (gotMask s))

/-- Device `c` holds a piece at a share, reading these contents; -/
abbrev has (c : Dev nD) {s : Shape} {e : EltTy} (p : Memref sig .tc .vmem s e) (q : PosShare TreeShare) (X : Vec F s e) : sProp 𝕄 :=
  owns (c : Thread nD τ) p q X
/-- outright, at some contents. -/
def junk (c : Dev nD) {s : Shape} {e : EltTy} (p : Memref sig .tc .vmem s e) : sProp 𝕄 :=
  iprop(∃ X : Vec F s e, has c p fullShare X)

instance junk_storable (c : Dev nD) {s : Shape} {e : EltTy} (p : Memref sig .tc .vmem s e) :
    BI.Storable (upEmb : UEmb _ 𝕄) (junk (F := F) c p) := by unfold junk; infer_instance

/-- A finished chunk is lent to up to three copies at once: its holdings by share. The device's own chunk (three copies),
    the one across the last direction (two), and the rest. -/
def shMask : Fin 11 → Fin 8 := ![0, 0, 0, 1, 1, 2, 3, 4, 5, 6, 7]
def shShare (i : Fin 11) : PosShare TreeShare :=
  match i with
  | 0 => (fullShare : PosShare TreeShare).left
  | 1 => (fullShare : PosShare TreeShare).right.left
  | 2 => (fullShare : PosShare TreeShare).right.right
  | 3 => (fullShare : PosShare TreeShare).left
  | 4 => (fullShare : PosShare TreeShare).right
  | _ => fullShare

/-- The share at which a copy borrows its source: all-gather copy `s` the holding numbered `s`. -/
def qJ : J → PosShare TreeShare
  | (false, _, _) => fullShare
  | (true, s, _) => shShare (s.castLE (by decide))

theorem shMask_sent : ∀ s : Fin 7, shMask (s.castLE (by decide)) = sentMask s := by decide

/-! ## The semaphores -/

/-- The runtime's barrier semaphore. -/
abbrev barS : Sem sig := (SemArray.scalar (sig.barrier 0 rfl) : Sems sig S_).sem

/-- The semaphores of the copies: the reduce-scatter's on the sender, on the receiver, then the all-gather's. -/
def semNo (r : Bool) (j : J) : DmaSem sig :=
  (⟨3 + 42 * j.1.toNat + 21 * r.toNat + 3 * j.2.1.val + j.2.2.val, by
    obtain ⟨a, s, g⟩ := j
    have := Bool.toNat_le a; have := Bool.toNat_le r
    show _ < 87
    dsimp only
    omega⟩ : Fin 87)

/-- A device's cells: the barrier, and for each copy the one on its sender (`false`) and on its receiver (`true`). -/
abbrev C : Type := Option (Bool × J)

def csem : C → SemLoc sig
  | none => .reg barS
  | some (r, j) => .dma (semNo r j)

/-- Which cell a semaphore is. -/
def kindDma (q : Fin 87) : Option C :=
  if q.val < 3 then none else
    some (some (decide (((q.val - 3) / 21) % 2 = 1), decide ((q.val - 3) / 42 = 1),
      Fin.ofNat 7 (((q.val - 3) % 21) / 3), Fin.ofNat 3 ((q.val - 3) % 3)))
def kindOf : SemLoc sig → Option C
  | .reg s => if s = barS then some none else none
  | .dma q => kindDma q

theorem kindDma_no : ∀ (r : Bool) (j : J), kindDma (semNo r j) = some (some (r, j)) := by decide +kernel
theorem kindOf_csem (k : C) : kindOf (csem k) = some k := by
  rcases k with - | ⟨r, j⟩
  · show (if barS = barS then some none else none) = some none
    exact if_pos rfl
  · exact kindDma_no r j
theorem csem_inj {k k' : C} (h : csem k = csem k') : k = k' := by
  have := congrArg kindOf h
  rw [kindOf_csem, kindOf_csem] at this
  exact Option.some.inj this

abbrev kcell (ck : Dev nD × C) : GSem nD τ sig := ((ck.1 : Thread nD τ), csem ck.2)
abbrev barCell (c : Dev nD) : GSem nD τ sig := kcell (c, none)
abbrev sendCell (c : Dev nD) (j : J) : GSem nD τ sig := kcell (c, some (false, j))
abbrev recvCell (c : Dev nD) (j : J) : GSem nD τ sig := kcell (c, some (true, j))

/-- The units a copy signals. -/
def NJ (j : J) : ℕ := (sP j.2.2 0).view.dmaCredit
theorem SP_pos : ∀ g, 0 < (SP g).numel := by decide +kernel
theorem NJ_pos (j : J) : 0 < NJ j := View.dmaCredit_pos _ (SP_pos j.2.2)

/-! ## The schedule -/

section Sched

variable (A : Dev nD → Vec F S2048x1024 .bf16) (B : Dev nD → Vec F S1024x2048 .bf16)

/-- What a neighbour's unit on `c`'s barrier stands for: the places on that neighbour where `c`'s copies to it land. -/
def barPay (c : Dev nD) (e : Fin 3) : sProp 𝕄 :=
  bigSep (Finset.univ.filter fun j : J => dirJ j = e) fun j => junk (F := F) (nb e c) (dstM (nb e c) j)
def recvPay (c : Dev nD) (j : J) : sProp 𝕄 := has c (dstM c j) fullShare (sval A B (peer j c) j)
def sendPay (c : Dev nD) (j : J) : sProp 𝕄 := has c (srcM c j) (qJ j) (sval A B c j)

instance barPay_storable (c : Dev nD) (e : Fin 3) : BI.Storable (upEmb : UEmb _ 𝕄) (barPay (F := F) c e) := by
  unfold barPay; infer_instance
instance recvPay_storable (c : Dev nD) (j : J) : BI.Storable (upEmb : UEmb _ 𝕄) (recvPay (F := F) A B c j) := by
  unfold recvPay; infer_instance
instance sendPay_storable (c : Dev nD) (j : J) : BI.Storable (upEmb : UEmb _ 𝕄) (sendPay (F := F) A B c j) := by
  unfold sendPay; infer_instance

def dutiesOf : Option C → Finset (Fin 3)
  | some none => Finset.univ
  | some (some _) => {0}
  | none => ∅
def amountOf : Option C → ℕ
  | some (some (_, j)) => NJ j
  | _ => 1
def payOf (c : Dev nD) (d : Fin 3) : Option C → sProp 𝕄
  | some none => barPay (F := F) c d
  | some (some (true, j)) => recvPay A B c j
  | some (some (false, j)) => sendPay A B c j
  | none => iprop(emp)

/-- One round: the barrier has a duty for each direction, of one unit; a copy's semaphore one duty of its credit. -/
def cubeRd : Rounds.Schedule (GSem nD τ sig) (Fin 3) 𝕄 where
  duties g r := if r = 0 ∧ g.1.2 = .tc then dutiesOf (kindOf g.2) else ∅
  unitless _ := False
  amount g _ _ := amountOf (kindOf g.2)
  payload g _ d := payOf A B g.1.1 d (kindOf g.2)
  amount_pos g _ _ _ := by
    show 0 < amountOf (kindOf g.2)
    rcases kindOf g.2 with - | - | ⟨r, j⟩
    · exact Nat.one_pos
    · exact Nat.one_pos
    · exact NJ_pos j

instance cubeRd_payload_storable (g : GSem nD τ sig) (r : ℕ) (d : Fin 3) :
    BI.Storable (upEmb : UEmb _ 𝕄) ((cubeRd (F := F) A B).payload g r d) := by
  show BI.Storable upEmb (payOf A B g.1.1 d (kindOf g.2))
  rcases kindOf g.2 with - | - | ⟨- | -, j⟩ <;> (unfold payOf; infer_instance)

theorem duties_at (ck : Dev nD × C) : (cubeRd (F := F) A B).duties (kcell ck) 0 = dutiesOf (some ck.2) := by
  show (if (0 : ℕ) = 0 ∧ ((ck.1 : Thread nD τ)).2 = .tc then dutiesOf (kindOf (csem ck.2)) else ∅) = _
  rw [if_pos ⟨rfl, rfl⟩, kindOf_csem]
theorem duties_later (g : GSem nD τ sig) : ∀ r, 1 ≤ r → (cubeRd (F := F) A B).duties g r = ∅ :=
  fun r hr => if_neg fun h => by omega
theorem amount_at (ck : Dev nD × C) (d : Fin 3) : (cubeRd (F := F) A B).amount (kcell ck) 0 d = amountOf (some ck.2) := by
  show amountOf (kindOf (csem ck.2)) = _
  rw [kindOf_csem]
theorem payload_at (ck : Dev nD × C) (d : Fin 3) : (cubeRd (F := F) A B).payload (kcell ck) 0 d = payOf A B ck.1 d (some ck.2) := by
  show payOf A B ck.1 d (kindOf (csem ck.2)) = _
  rw [kindOf_csem]

theorem expect_bar (c : Dev nD) : (cubeRd (F := F) A B).expect (barCell c) 0 = 3 := by
  unfold Schedule.expect Schedule.amountOf
  rw [duties_at, Finset.sum_congr rfl fun d _ => amount_at A B (c, none) d]
  rfl
theorem expect_copy (c : Dev nD) (r : Bool) (j : J) : (cubeRd (F := F) A B).expect (kcell (c, some (r, j))) 0 = NJ j := by
  unfold Schedule.expect Schedule.amountOf
  rw [duties_at, Finset.sum_congr rfl fun d _ => amount_at A B (c, some (r, j)) d]
  exact Finset.sum_singleton _ _

theorem rest_copy (c : Dev nD) (r : Bool) (j : J) :
    bigSep ((cubeRd (F := F) A B).duties (kcell (c, some (r, j))) 0 \ ∅) (fun d => (cubeRd (F := F) A B).payload (kcell (c, some (r, j))) 0 d)
      = payOf A B c 0 (some (some (r, j))) := by
  rw [Finset.sdiff_empty, duties_at]
  show bigSep {0} _ = _
  rw [bigSep_singleton, payload_at]

/-- The barrier's units together: the places where all of `c`'s copies land. -/
theorem rest_bar (c : Dev nD) :
    bigSep ((cubeRd (F := F) A B).duties (barCell c) 0 \ ∅) (fun d => (cubeRd (F := F) A B).payload (barCell c) 0 d)
      = bigSep Finset.univ fun j : J => junk (F := F) (peer j c) (dstM (peer j c) j) := by
  rw [Finset.sdiff_empty, duties_at]
  rw [show (fun d => (cubeRd (F := F) A B).payload (barCell c) 0 d) = fun d => barPay (F := F) c d from funext fun d => payload_at A B (c, none) d]
  show bigSep Finset.univ _ = _
  have h : ∀ e, barPay (F := F) c e = bigSep (Finset.univ.filter fun j : J => dirJ j = e) fun j => junk (F := F) (peer j c) (dstM (peer j c) j) := by
    intro e
    exact bigSep_congr fun j hj => by rw [← (Finset.mem_filter.mp hj).2]
  rw [funext h]
  rw [bigSep_fiberwise Finset.univ dirJ, show Finset.univ.image dirJ = Finset.univ by decide]

end Sched

end Cert.Cube
end
-- ==== Proof.State.lean ====
/-
# What a device holds after each of its steps

The body is a fixed list of steps (the same on every device); what a device holds after the first `n` of them is a
function of `n`, one small number for each copy and each piece of a buffer, and what that number means.
-/
module

public import proofs.«01_k».proof.Proof.Sched

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The steps -/

/-- A step: issue a copy; wait for its source back, for its arrival; store a chunk (numbered `k`) of the send buffer with what
    copy `s` carries; store two chunks of the accumulator with the products (`b`: the two far ones or the two near ones);
    add what arrived to the accumulator's chunk `m` away from the own one; store the finished chunk. -/
inductive Act
  | send (j : J) | waitS (j : J) | waitR (j : J)
  | stS (g : Fin 3) (k : Fin 4) (s : Fin 7) | stA (b : Bool) (g : Fin 3) | upA (g : Fin 3) (m : Fin 8) | fin (g : Fin 3)
  deriving DecidableEq

abbrev rs (s : Fin 7) (g : Fin 3) : J := (false, s, g)
abbrev ag (s : Fin 7) (g : Fin 3) : J := (true, s, g)

/-- The same steps for the three groups in turn. -/
def each (f : Fin 3 → List Act) : List Act := f 0 ++ f 1 ++ f 2

/-- The body's steps, loads left out. -/
def acts : List Act :=
  each (fun g => [.stS g 0 0, .send (rs 0 g)])
  ++ each (fun g => [.stS g 1 6, .send (rs 6 g)])
  ++ each (fun g => [.stA true g])
  ++ each (fun g => [.waitS (rs 0 g), .waitR (rs 0 g), .stS g 0 3, .send (rs 3 g)])
  ++ each (fun g => [.waitS (rs 6 g), .waitR (rs 6 g), .stS g 1 4, .send (rs 4 g)])
  ++ each (fun g => [.stS g 2 1, .send (rs 1 g), .stS g 3 2, .send (rs 2 g)])
  ++ each (fun g => [.stA false g])
  ++ each (fun g => [.waitS (rs 1 g), .waitR (rs 1 g), .upA g 1])
  ++ each (fun g => [.waitS (rs 3 g), .waitR (rs 3 g), .stS g 0 5, .send (rs 5 g)])
  ++ each (fun g => [.waitS (rs 2 g), .waitR (rs 2 g), .waitS (rs 4 g), .waitR (rs 4 g), .upA g 0])
  ++ each (fun g => [.waitS (rs 5 g), .waitR (rs 5 g), .fin g, .send (ag 2 g), .send (ag 0 g), .send (ag 1 g)])
  ++ each (fun g => [.waitS (ag 0 g), .waitR (ag 0 g), .send (ag 3 g), .send (ag 4 g)])
  ++ each (fun g => [.waitS (ag 1 g), .waitR (ag 1 g), .send (ag 5 g)])
  ++ each (fun g => [.waitS (ag 3 g), .waitR (ag 3 g), .send (ag 6 g)])
  ++ each (fun g => [.waitS (ag 2 g), .waitR (ag 2 g), .waitS (ag 4 g), .waitR (ag 4 g),
      .waitS (ag 5 g), .waitR (ag 5 g), .waitS (ag 6 g), .waitR (ag 6 g)])

/-- What the state is about: a copy; a chunk of a send buffer; a chunk of the accumulator (by its distance from the own
    one); a landed chunk of a receive buffer (by its copy); the output's own chunk; a holding of a finished chunk. -/
inductive Key
  | cp (j : J) | snd (g : Fin 3) (k : Fin 4) | acc (g : Fin 3) (m : Fin 8) | rcv (g : Fin 3) (s : Fin 7)
  | ob (g : Fin 3) | sh (g : Fin 3) (i : Fin 11)
  deriving DecidableEq

/-- The keys as a sum of products. -/
abbrev KeySum : Type := J ⊕ (Fin 3 × Fin 4) ⊕ (Fin 3 × Fin 8) ⊕ (Fin 3 × Fin 7) ⊕ Fin 3 ⊕ (Fin 3 × Fin 11)
def keyEquiv : KeySum ≃ Key where
  toFun
    | .inl j => .cp j | .inr (.inl (g, k)) => .snd g k | .inr (.inr (.inl (g, m))) => .acc g m
    | .inr (.inr (.inr (.inl (g, s)))) => .rcv g s | .inr (.inr (.inr (.inr (.inl g)))) => .ob g
    | .inr (.inr (.inr (.inr (.inr (g, i))))) => .sh g i
  invFun
    | .cp j => .inl j | .snd g k => .inr (.inl (g, k)) | .acc g m => .inr (.inr (.inl (g, m)))
    | .rcv g s => .inr (.inr (.inr (.inl (g, s)))) | .ob g => .inr (.inr (.inr (.inr (.inl g))))
    | .sh g i => .inr (.inr (.inr (.inr (.inr (g, i)))))
  left_inv := by rintro (_ | ⟨_, _⟩ | ⟨_, _⟩ | ⟨_, _⟩ | _ | ⟨_, _⟩) <;> rfl
  right_inv := by rintro (_ | _ | _ | _ | _ | _) <;> rfl
instance : Fintype Key := Fintype.ofEquiv KeySum keyEquiv

/-- A state, and one value changed. -/
abbrev Sta : Type := Key → ℕ
def put (st : Sta) (kv : Key × ℕ) : Sta := fun x => if x = kv.1 then kv.2 else st x

/-- The send chunk, or the holding of a finished chunk, that a copy borrows, with the value it has when it is there. -/
def srcKey : J → Key × ℕ
  | (false, s, g) => (.snd g (sendChunk s), s.val + 2)
  | (true, s, g) => (.sh g (s.castLE (by decide)), 1)
/-- The holdings of the finished chunk at distance `m`. -/
def shKeys (g : Fin 3) (m : Fin 8) : List Key := ((List.finRange 11).filter fun i => shMask i = m).map (.sh g)
/-- What an arrived copy gives. -/
def dstKeys : J → List Key
  | (false, s, g) => [.rcv g s]
  | (true, s, g) => shKeys g (gotMask s)

/-- What a step changes, the new values, -/
def upds : Act → List (Key × ℕ)
  | .send j => [(.cp j, 1), ((srcKey j).1, 0)]
  | .waitS j => [(.cp j, 2), srcKey j]
  | .waitR j => (.cp j, 3) :: (dstKeys j).map fun k => (k, 1)
  | .stS g k s => [(.snd g k, s.val + 2)]
  | .stA b g => if b then [(.acc g 2, 1), (.acc g 3, 1)] else [(.acc g 0, 1), (.acc g 1, 1)]
  | .upA g m => [(.acc g m, 2)]
  | .fin g => (.ob g, 0) :: (shKeys g 0).map fun k => (k, 1)

def upd (a : Act) (st : Sta) : Sta := (upds a).foldl put st

def init : Sta
  | .snd _ _ => 1
  | .ob _ => 1
  | _ => 0

def stAt (n : ℕ) : Sta := (acts.take n).foldl (fun st a => upd a st) init

theorem stAt_succ {n : ℕ} {a : Act} (h : acts[n]? = some a) : stAt (n + 1) = upd a (stAt n) := by
  unfold stAt
  rw [List.take_add_one, h, List.foldl_append]
  rfl

/-- The level of a copy's arrival: by the place of its issue in the list. -/
def lvJ (j : J) : ℕ := 2 + acts.idxOf (.send j)
def lvC : Option C → ℕ
  | some none => 1
  | some (some (true, j)) => lvJ j
  | _ => 0

/-- What must hold before a step. -/
def pre (st : Sta) (rest : List Act) : Act → Bool
  | .send j => st (.cp j) == 0 && st (srcKey j).1 == (srcKey j).2
  | .waitS j => st (.cp j) == 1 && st (srcKey j).1 == 0
  | .waitR j => st (.cp j) == 2 && (dstKeys j).all (fun k => st k == 0)
      && rest.all (fun | .send j' => decide (lvJ j < lvJ j') | _ => true)
  | .stS g k s => st (.snd g k) != 0
  | .stA _ _ => true
  | .upA g m => st (.acc g m) != 0
  | .fin g => st (.ob g) == 1 && (shKeys g 0).all (fun k => st k == 0)

/-- The list of steps, run from a state. -/
def runs : List Act → Sta → Bool
  | [], _ => true
  | a :: l, st => pre st l a && runs l (upd a st)

theorem runs_all (l : List Act) (st : Sta) (h : runs l st = true) {n : ℕ} {a : Act} (hn : l[n]? = some a) :
    pre ((l.take n).foldl (fun st a => upd a st) st) (l.drop (n + 1)) a = true := by
  induction l generalizing st n with
  | nil => simp at hn
  | cons b l ih =>
    have h' := Bool.and_eq_true_iff.mp h
    cases n with
    | zero =>
      have : b = a := Option.some.inj hn
      subst this; exact h'.1
    | succ n => exact ih _ h'.2 hn

theorem acts_run : runs acts init = true := by decide +kernel
theorem acts_pre {n : ℕ} {a : Act} (hn : acts[n]? = some a) : pre (stAt n) (acts.drop (n + 1)) a = true :=
  runs_all acts init acts_run hn

/-! ## What a device still owes -/

/-- The arrivals the copies of a list of steps owe. -/
def owedL (c : Dev nD) : List Act → CellTallies nD τ sig Unit
  | .send j :: l => owedL c l + tallyAt (recvCell (peer j c) j) () (NJ j)
  | _ :: l => owedL c l
  | [] => 0

/-- At launch, besides, one unit at each neighbour's barrier, in the order they are paid. -/
def O₂ (c : Dev nD) : CellTallies nD τ sig Unit := owedL c acts + tallyAt (barCell (nb 2 c)) () 1
def O₁ (c : Dev nD) : CellTallies nD τ sig Unit := O₂ c + tallyAt (barCell (nb 1 c)) () 1
def O₀ (c : Dev nD) : CellTallies nD τ sig Unit := O₁ c + tallyAt (barCell (nb 0 c)) () 1

theorem tallyAt_pos {g g' : GSem nD τ sig} {u u' : Unit} {n : ℕ} (h : 0 < (tallyAt g' u' n : CellTallies nD τ sig Unit) g u) : g = g' := by
  rw [tallyAt_apply] at h
  by_contra hn
  rw [if_neg (fun h' => hn h'.1)] at h
  exact Nat.lt_irrefl 0 h

theorem add_pos' {O O' : CellTallies nD τ sig Unit} {g : GSem nD τ sig} {u : Unit} (h : 0 < (O + O') g u) : 0 < O g u ∨ 0 < O' g u := by
  rw [Pi.add_apply, Finsupp.add_apply] at h
  omega

theorem owedL_pos {c : Dev nD} {l : List Act} {g : GSem nD τ sig} {u : Unit} (h : 0 < owedL c l g u) :
    ∃ j, Act.send j ∈ l ∧ g = recvCell (peer j c) j := by
  induction l with
  | nil => exact absurd h (by show ¬ 0 < (0 : CellTallies nD τ sig Unit) g u; simp)
  | cons a l ih =>
    by_cases ha : ∃ j, a = .send j
    · obtain ⟨j, rfl⟩ := ha
      rcases add_pos' h with h | h
      · obtain ⟨j', hj', hg⟩ := ih h
        exact ⟨j', List.mem_cons_of_mem _ hj', hg⟩
      · exact ⟨j, List.mem_cons_self, tallyAt_pos h⟩
    · have : owedL c (a :: l) = owedL c l := by cases a <;> first | rfl | exact absurd ⟨_, rfl⟩ ha
      rw [this] at h
      obtain ⟨j', hj', hg⟩ := ih h
      exact ⟨j', List.mem_cons_of_mem _ hj', hg⟩

def L (g : GSem nD τ sig) : Finset Unit := if g.1.2 = .tc then {()} else ∅
def lv (g : GSem nD τ sig) (_ : Unit) : ℕ := lvC (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (ck : Dev nD × C) (u : Unit) : lv (kcell ck) u = lvC (some ck.2) := by
  show lvC (kindOf (csem ck.2)) = _
  rw [kindOf_csem]

/-- A wait at a semaphore is allowed when everything owed is above it. -/
theorem mayWait (c : Dev nD) (sm : SemLoc sig) (O : CellTallies nD τ sig Unit)
    (h : ∀ g u, 0 < O g u → ∃ ck : Dev nD × C, g = kcell ck ∧ lvC (kindOf sm) < lvC (some ck.2)) :
    (levAts L lv : sProp 𝕄) ⊢ MayWait (c : Thread nD τ) sm () O :=
  MayOwe.of_cut (L := L) (lev := lv) (lvC (kindOf sm)) (fun p hp => by rw [Finset.mem_singleton.mp hp, L_tc]; exact Finset.mem_singleton_self _)
    (fun g u hg => by
      obtain ⟨ck, rfl, -⟩ := h g u hg
      rw [L_tc]; exact Finset.mem_singleton_self _)
    (fun p hp => by rw [Finset.mem_singleton.mp hp]; exact le_refl _)
    (fun g u hg => by
      obtain ⟨ck, rfl, h'⟩ := h g u hg
      rw [lv_at]; exact h')

theorem mayWait_owedL (c : Dev nD) (k : C) (l : List Act) (h : ∀ j, Act.send j ∈ l → lvC (some k) < lvJ j) :
    (levAts L lv : sProp 𝕄) ⊢ MayWait (c : Thread nD τ) (csem k) () (owedL c l) :=
  mayWait c _ _ fun g u hg => by
    obtain ⟨j, hj, rfl⟩ := owedL_pos hg
    refine ⟨(peer j c, some (true, j)), rfl, ?_⟩
    rw [kindOf_csem]; exact h j hj

/-! ## What a state means -/

section Interp

variable (A : Dev nD → Vec F S2048x1024 .bf16) (B : Dev nD → Vec F S1024x2048 .bf16)

/-- A copy not yet issued: the right to issue it, and the place it lands in on the peer; in flight; waited for on the
    sender's side; on both sides. -/
def cpI (c : Dev nD) (j : J) : ℕ → sProp 𝕄
  | 0 => iprop(dutyTok ER (sendCell c j) 0 0 ∗ dutyTok ER (recvCell (peer j c) j) 0 0 ∗ atPos ER (sendCell c j) 0 ∅ 0
      ∗ atPos ER (recvCell c j) 0 ∅ 0 ∗ cred (tallyAt (recvCell c j) () (NJ j)) ∗ junk (F := F) (peer j c) (dstM (peer j c) j))
  | 1 => iprop(atPos ER (sendCell c j) 0 ∅ 0 ∗ cred (tallyAt (sendCell c j) () (NJ j))
      ∗ atPos ER (recvCell c j) 0 ∅ 0 ∗ cred (tallyAt (recvCell c j) () (NJ j)))
  | 2 => iprop(semVal (sendCell c j) 0 ∗ atPos ER (recvCell c j) 0 ∅ 0 ∗ cred (tallyAt (recvCell c j) () (NJ j)))
  | _ => iprop(semVal (sendCell c j) 0 ∗ semVal (recvCell c j) 0)

def sndI (c : Dev nD) (g : Fin 3) (k : Fin 4) : ℕ → sProp 𝕄
  | 0 => iprop(emp)
  | 1 => junk (F := F) c (sP g k)
  | n + 2 => has c (sP g k) fullShare (sval A B c (rs (Fin.ofNat 7 n) g))

def accI (c : Dev nD) (g : Fin 3) (m : Fin 8) : ℕ → sProp 𝕄
  | 0 => junk (F := F) c (aP g (chunk c g m))
  | n + 1 => has c (aP g (chunk c g m)) fullShare (aval A B c g m (n + 1))

def rcvI (c : Dev nD) (g : Fin 3) (s : Fin 7) : ℕ → sProp 𝕄
  | 0 => iprop(emp)
  | _ => has c (rP g (recvChunk s c g)) fullShare (sval A B (peer (rs s g) c) (rs s g))

def obI (c : Dev nD) (g : Fin 3) : ℕ → sProp 𝕄
  | 0 => iprop(emp)
  | _ => junk (F := F) c (oP g (chunk c g 0))

def shI (c : Dev nD) (g : Fin 3) (i : Fin 11) : ℕ → sProp 𝕄
  | 0 => iprop(emp)
  | _ => has c (oP g (chunk c g (shMask i))) (shShare i) (fin A B g (chunk c g (shMask i)))

def interp (c : Dev nD) : Key → ℕ → sProp 𝕄
  | .cp j, n => cpI c j n
  | .snd g k, n => sndI A B c g k n
  | .acc g m, n => accI A B c g m n
  | .rcv g s, n => rcvI A B c g s n
  | .ob g, n => obI c g n
  | .sh g i, n => shI A B c g i n

/-- What never changes: every cell's invariant, that it has reached its round, and the levels. -/
def env (K : Dev nD × C → ℕ) : sProp 𝕄 :=
  iprop((bigSep Finset.univ fun ck : Dev nD × C => iprop(cellInv ER (cubeRd A B) (K ck) (kcell ck) ∗ reached ER (kcell ck) 0)) ∗ levAts L lv)

instance env_persistent (K : Dev nD × C → ℕ) : BI.Persistent (env A B K) := by unfold env; infer_instance

theorem env_at (K : Dev nD × C → ℕ) (ck : Dev nD × C) :
    env A B K ⊢ iprop(cellInv ER (cubeRd A B) (K ck) (kcell ck) ∗ reached ER (kcell ck) 0) := by
  have h : (bigSep Finset.univ fun ck : Dev nD × C => iprop(cellInv ER (cubeRd A B) (K ck) (kcell ck) ∗ reached ER (kcell ck) 0) : sProp 𝕄)
      ⊢ iprop(cellInv ER (cubeRd A B) (K ck) (kcell ck) ∗ reached ER (kcell ck) 0) := bigSep_elim (Finset.mem_univ ck)
  unfold env
  iintro ⟨H, -⟩
  iapply h
  iexact H
theorem env_inv (K : Dev nD × C → ℕ) (ck : Dev nD × C) : env A B K ⊢ cellInv ER (cubeRd A B) (K ck) (kcell ck) := by
  iintro H
  ihave H' := (env_at A B K ck) $$ H
  icases H' with ⟨H, -⟩
  iexact H
theorem env_reached (K : Dev nD × C → ℕ) (ck : Dev nD × C) : env A B K ⊢ reached ER (kcell ck) 0 := by
  iintro H
  ihave H' := (env_at A B K ck) $$ H
  icases H' with ⟨-, H⟩
  iexact H
theorem env_levels (K : Dev nD × C → ℕ) : env A B K ⊢ levAts L lv := by
  unfold env
  iintro ⟨-, H⟩
  iexact H

/-- What device `c` holds after `n` steps. -/
def St (K : Dev nD × C → ℕ) (c : Dev nD) (n : ℕ) : sProp 𝕄 :=
  iprop(env A B K ∗ (∃ W, owes (c : Thread nD τ) (owedL c (acts.drop n)) W)
    ∗ has c aM fullShare (A c) ∗ has c bM fullShare (B c)
    ∗ bigSep Finset.univ fun k => interp A B c k (stAt n k))

end Interp

end Cert.Cube
end
-- ==== Proof.Steps.lean ====
/-
# One rule for each kind of step

Each says: holding what a device holds after `n` steps, the next operation of the program runs, and what follows runs
from what is held after `n + 1`. Loads change nothing.
-/
module

public import proofs.«01_k».proof.Proof.State

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Changing a few values of a state -/

def sepL : List (sProp 𝕄) → sProp 𝕄
  | [] => iprop(emp)
  | P :: l => iprop(P ∗ sepL l)

theorem bigSep_keys (Φ : Key → sProp 𝕄) (l : List Key) (h : l.Nodup) :
    bigSep l.toFinset Φ = sepL (l.map Φ) := by
  induction l with
  | nil => exact bigSep_empty
  | cons k l ih =>
    rw [List.toFinset_cons, bigSep_insert (by rw [List.mem_toFinset]; exact (List.nodup_cons.mp h).1), ih (List.nodup_cons.mp h).2]
    rfl

theorem fold_not_mem (l : List (Key × ℕ)) (st : Sta) {k : Key} (h : k ∉ l.map Prod.fst) : l.foldl put st k = st k := by
  induction l generalizing st with
  | nil => rfl
  | cons kv l ih =>
    rw [List.map_cons, List.mem_cons, not_or] at h
    rw [List.foldl_cons, ih _ h.2]
    exact if_neg h.1
theorem fold_mem (l : List (Key × ℕ)) (st : Sta) (hnd : (l.map Prod.fst).Nodup) {kv : Key × ℕ} (h : kv ∈ l) :
    l.foldl put st kv.1 = kv.2 := by
  induction l generalizing st with
  | nil => cases h
  | cons kv' l ih =>
    rw [List.map_cons, List.nodup_cons] at hnd
    rw [List.foldl_cons]
    rcases List.mem_cons.mp h with rfl | h
    · rw [fold_not_mem l _ hnd.1]; exact if_pos rfl
    · exact ih _ hnd.2 h

theorem bigSep_puts (Φ : Key → ℕ → sProp 𝕄) (st : Sta) (l : List (Key × ℕ)) (hnd : (l.map Prod.fst).Nodup) :
    (bigSep Finset.univ fun k => Φ k (st k))
      ⊢ iprop(sepL (l.map fun kv => Φ kv.1 (st kv.1))
          ∗ (sepL (l.map fun kv => Φ kv.1 kv.2) -∗ bigSep Finset.univ fun k => Φ k (l.foldl put st k))) := by
  have e₁ : sepL (l.map fun kv => Φ kv.1 (st kv.1)) = bigSep (l.map Prod.fst).toFinset fun k => Φ k (st k) := by
    rw [bigSep_keys _ _ hnd, List.map_map]; rfl
  have e₂ : sepL (l.map fun kv => Φ kv.1 kv.2) = bigSep (l.map Prod.fst).toFinset fun k => Φ k (l.foldl put st k) := by
    rw [bigSep_keys _ _ hnd, List.map_map]
    congr 1
    exact List.map_congr_left fun kv hkv => by
      show Φ kv.1 kv.2 = Φ kv.1 (l.foldl put st kv.1)
      rw [fold_mem l st hnd hkv]
  have e₃ : (bigSep (Finset.univ \ (l.map Prod.fst).toFinset) fun k => Φ k (st k))
      = bigSep (Finset.univ \ (l.map Prod.fst).toFinset) fun k => Φ k (l.foldl put st k) :=
    bigSep_congr fun k hk => by
      rw [fold_not_mem l st (by rw [← List.mem_toFinset]; exact (Finset.mem_sdiff.mp hk).2)]
  have e₄ : (bigSep Finset.univ fun k => Φ k (st k))
      = iprop((bigSep (l.map Prod.fst).toFinset fun k => Φ k (st k)) ∗ bigSep (Finset.univ \ (l.map Prod.fst).toFinset) fun k => Φ k (st k)) :=
    bigSep_sdiff_split (Finset.subset_univ _)
  have e₅ : (bigSep Finset.univ fun k => Φ k (l.foldl put st k))
      = iprop((bigSep (l.map Prod.fst).toFinset fun k => Φ k (l.foldl put st k))
          ∗ bigSep (Finset.univ \ (l.map Prod.fst).toFinset) fun k => Φ k (l.foldl put st k)) :=
    bigSep_sdiff_split (Finset.subset_univ _)
  rw [e₁, e₂, e₄, e₅, e₃]
  iintro ⟨H1, H2⟩
  isplitl [H1]; · iexact H1
  iintro H1
  isplitl [H1]; · iexact H1
  iexact H2

theorem upds_nodup : ∀ a ∈ acts, ((upds a).map Prod.fst).Nodup := by decide +kernel

section Steps

variable (A : Dev nD → Vec F S2048x1024 .bf16) (B : Dev nD → Vec F S1024x2048 .bf16) (K : Dev nD × C → ℕ)

/-- The state before a step: what it touches, and how the state after it is made. -/
theorem St_open {c : Dev nD} {n : ℕ} {a : Act} (hn : acts[n]? = some a) :
    St A B K c n
      ⊢ iprop(env A B K ∗ (∃ W, owes (c : Thread nD τ) (owedL c (a :: acts.drop (n + 1))) W)
          ∗ sepL ((upds a).map fun kv => interp A B c kv.1 (stAt n kv.1))
          ∗ ((∃ W, owes (c : Thread nD τ) (owedL c (acts.drop (n + 1))) W)
              -∗ sepL ((upds a).map fun kv => interp A B c kv.1 kv.2) -∗ St A B K c (n + 1))) := by
  obtain ⟨hlt, ha⟩ := List.getElem?_eq_some_iff.mp hn
  have hdrop : acts.drop n = a :: acts.drop (n + 1) := by rw [List.drop_eq_getElem_cons hlt, ha]
  unfold St
  rw [hdrop, stAt_succ hn]
  iintro ⟨#HE, HO, HA, HB, HS⟩
  ihave HS' := (bigSep_puts (fun k v => interp A B c k v) (stAt n) (upds a) (upds_nodup a (List.mem_of_getElem? hn))) $$ HS
  icases HS' with ⟨HS, HC⟩
  isplitr; · iexact HE
  isplitl [HO]; · iexact HO
  isplitl [HS]; · iexact HS
  iintro HO
  iintro HS
  isplitr; · iexact HE
  isplitl [HO]; · iexact HO
  isplitl [HA]; · iexact HA
  isplitl [HB]; · iexact HB
  iapply HC
  iexact HS

/-! ## Copies -/

theorem dst_credit (c : Dev nD) (j : J) : (dstM c j).view.dmaCredit = NJ j := by
  obtain ⟨a, s, g⟩ := j
  cases a <;> fin_cases g <;> rfl

theorem interp_src (c : Dev nD) (j : J) : interp A B c (srcKey j).1 (srcKey j).2 = sendPay A B c j := by
  obtain ⟨a, s, g⟩ := j
  cases a
  · show has c (sP g (sendChunk s)) fullShare (sval A B c (rs (Fin.ofNat 7 s.val) g)) = _
    rw [Fin.ofNat_val_eq_self]; rfl
  · show has c (oP g (chunk c g (shMask (s.castLE (by decide))))) (shShare (s.castLE (by decide)))
      (fin A B g (chunk c g (shMask (s.castLE (by decide))))) = _
    rw [shMask_sent]; rfl
theorem interp_src_none (c : Dev nD) (j : J) : interp A B c (srcKey j).1 0 = iprop(emp) := by
  obtain ⟨a, s, g⟩ := j
  cases a <;> rfl

theorem recv_of_land (c : Dev nD) (j : J) (fd : Buf (Elt F) ((dstM (peer j c) j).view.loc (peer j c : Thread nD τ))) :
    ((dstM (peer j c) j).view.loc (peer j c : Thread nD τ) ↦[(dstM (peer j c) j).view.set]{fullShare}
        ((dstM (peer j c) j).view.write (Elt F) fd (sval A B c j) Finset.univ) : sProp 𝕄)
      ⊢ recvPay A B (peer j c) j := by
  unfold recvPay
  rw [show peer j (peer j c) = c from nb_nb _ _]
  iintro H
  unfold has owns
  iexists _
  isplitr
  swap
  · iexact H
  · ipureintro
    exact View.read_write_univ _ _

theorem duty_mem (c : Dev nD) (r : Bool) (j : J) : (0 : Fin 3) ∈ (cubeRd A B).duties (kcell (c, some (r, j))) 0 := by
  rw [duties_at]; exact Finset.mem_singleton_self _
theorem pay_send (c : Dev nD) (j : J) (fs : Buf (Elt F) ((srcM c j).view.loc (c : Thread nD τ)))
    (hfs : (srcM c j).view.read (Elt F) fs = sval A B c j) :
    ((srcM c j).view.loc (c : Thread nD τ) ↦[(srcM c j).view.set]{qJ j} fs : sProp 𝕄)
      ⊢ (cubeRd A B).payload (kcell (c, some (false, j))) 0 0 := by
  rw [payload_at]
  show _ ⊢ sendPay A B c j
  unfold sendPay has owns
  iintro H
  iexists fs
  isplitr; · ipureintro; exact hfs
  iexact H
theorem pay_recv (c : Dev nD) (j : J) (fd : Buf (Elt F) ((dstM (peer j c) j).view.loc (peer j c : Thread nD τ))) :
    ((dstM (peer j c) j).view.loc (peer j c : Thread nD τ) ↦[(dstM (peer j c) j).view.set]{fullShare}
        ((dstM (peer j c) j).view.write (Elt F) fd (sval A B c j) Finset.univ) : sProp 𝕄)
      ⊢ (cubeRd A B).payload (kcell (peer j c, some (true, j))) 0 0 := by
  rw [payload_at]
  exact recv_of_land A B c j fd

theorem cpI_0 (c : Dev nD) (j : J) : cpI (F := F) c j 0
    = iprop(dutyTok ER (sendCell c j) 0 0 ∗ dutyTok ER (recvCell (peer j c) j) 0 0 ∗ atPos ER (sendCell c j) 0 ∅ 0
      ∗ atPos ER (recvCell c j) 0 ∅ 0 ∗ cred (tallyAt (recvCell c j) () (NJ j)) ∗ junk (F := F) (peer j c) (dstM (peer j c) j)) := rfl
theorem cpI_1 (c : Dev nD) (j : J) : cpI (F := F) c j 1
    = iprop(atPos ER (sendCell c j) 0 ∅ 0 ∗ cred (tallyAt (sendCell c j) () (NJ j))
      ∗ atPos ER (recvCell c j) 0 ∅ 0 ∗ cred (tallyAt (recvCell c j) () (NJ j))) := rfl
theorem cpI_2 (c : Dev nD) (j : J) : cpI (F := F) c j 2
    = iprop(semVal (sendCell c j) 0 ∗ atPos ER (recvCell c j) 0 ∅ 0 ∗ cred (tallyAt (recvCell c j) () (NJ j))) := rfl
theorem cpI_3 (c : Dev nD) (j : J) : cpI (F := F) c j 3 = iprop(semVal (sendCell c j) 0 ∗ semVal (recvCell c j) 0) := rfl

/-- The library's rule for a remote copy, at this kernel's kinds of memory. -/
theorem wp_send_at {c d : Dev nD} {s : Shape}
    {src : Memref sig .tc .vmem s .bf16} {dst : Memref sig (Dev.tc d : Thread nD τ).2.kind .vmem s .bf16}
    {sS rS : DmaSem sig} {hsc : dst.view.ref.isScScratch = false} {hs : src.view.WordExact} {ht : dst.view.WordExact}
    {hsem : DmaTarget.Typed .vmem (.dma rS) (.remote (Dev.tc d : Thread nD τ) dst (.dma sS) hsc)}
    {α : Type} {Q : α → sProp 𝕄} {k : PUnit → Prog (TpuEff nD τ sig (Elt F) Λ₀ .tc) α}
    {q : PosShare TreeShare} {fs : Buf (Elt F) (src.view.loc (c : Thread nD τ))} {fd : Buf (Elt F) (dst.view.loc (d : Thread nD τ))}
    {κ₁ κ₂ : ℕ} {O₀ O : CellTallies nD τ sig Unit} {W : Waits sig Unit} (N : ℕ)
    (hd₁ : (0 : Fin 3) ∈ (cubeRd A B).duties ((c : Thread nD τ), .dma sS) 0)
    (hd₂ : (0 : Fin 3) ∈ (cubeRd A B).duties ((d : Thread nD τ), .dma rS) 0)
    (hN : dst.view.dmaCredit = N)
    (hk₁ : (cubeRd A B).amount ((c : Thread nD τ), .dma sS) 0 0 = N) (hk₂ : (cubeRd A B).amount ((d : Thread nD τ), .dma rS) 0 0 = N)
    (hO : O₀ = O + tallyAt ((d : Thread nD τ), .dma rS) () N)
    (hpay₁ : (src.view.loc (c : Thread nD τ) ↦[src.view.set]{q} fs) ⊢ (cubeRd A B).payload ((c : Thread nD τ), .dma sS) 0 0)
    (hpay₂ : (dst.view.loc (d : Thread nD τ) ↦[dst.view.set]{fullShare} (dst.view.write (Elt F) fd (src.view.read (Elt F) fs) Finset.univ))
      ⊢ (cubeRd A B).payload ((d : Thread nD τ), .dma rS) 0 0) :
    iprop(cellInv ER (cubeRd A B) κ₁ ((c : Thread nD τ), .dma sS) ∗ cellInv ER (cubeRd A B) κ₂ ((d : Thread nD τ), .dma rS)
        ∗ (src.view.loc (c : Thread nD τ) ↦[src.view.set]{q} fs) ∗ (dst.view.loc (d : Thread nD τ) ↦[dst.view.set]{fullShare} fd)
        ∗ owes (c : Thread nD τ) O₀ W
        ∗ dutyTok ER ((c : Thread nD τ), .dma sS) 0 (0 : Fin 3) ∗ reached ER ((c : Thread nD τ), .dma sS) 0
        ∗ dutyTok ER ((d : Thread nD τ), .dma rS) 0 (0 : Fin 3) ∗ reached ER ((d : Thread nD τ), .dma rS) 0)
      ⊢ iprop(((cred (tallyAt ((c : Thread nD τ), .dma sS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc d : Thread nD τ) dst (.dma sS) hsc) (.dma rS) hs ht hsem) k) Q) :=
  Rounds.wp_send_pointsTo 𝒱₀ ER (cubeRd A B) (c : Thread nD τ) none hd₁ hd₂ () () N hN hk₁ hk₂ O hO hpay₁ hpay₂

theorem step_send {c : Dev nD} {n : ℕ} (j : J) (hn : acts[n]? = some (.send j)) {d : Dev nD}
    {src : Memref sig .tc .vmem (SP j.2.2) .bf16} {dst : Memref sig (Dev.tc d : Thread nD τ).2.kind .vmem (SP j.2.2) .bf16}
    {sS rS : DmaSem sig} {hsc : dst.view.ref.isScScratch = false} {hs : src.view.WordExact} {ht : dst.view.WordExact}
    {hsem : DmaTarget.Typed .vmem (.dma rS) (.remote (Dev.tc d : Thread nD τ) dst (.dma sS) hsc)}
    {α : Type} {Q : α → sProp 𝕄} {k : PUnit → Prog (TpuEff nD τ sig (Elt F) Λ₀ .tc) α}
    (hd : d = peer j c) (hsrc : src = srcM c j) (hdst : dst = (dstM (peer j c) j : Memref sig .tc .vmem (SP j.2.2) .bf16))
    (hsS : sS = semNo false j) (hrS : rS = semNo true j)
    (h : St A B K c (n + 1) ⊢ wp frame (wpE (defs₀ (F := F)) 𝒱₀ (c : Thread nD τ) none) Set.univ (k ⟨⟩) Q) :
    St A B K c n ⊢ wp frame (wpE (defs₀ (F := F)) 𝒱₀ (c : Thread nD τ) none) Set.univ
      (.op (.enqueueDma src (.remote (Dev.tc d : Thread nD τ) dst (.dma sS) hsc) (.dma rS) hs ht hsem) k) Q := by
  subst hd hsrc hdst hsS hrS
  have hp := acts_pre hn
  have hp' : stAt n (.cp j) = 0 ∧ stAt n (srcKey j).1 = (srcKey j).2 := by
    have := Bool.and_eq_true_iff.mp hp
    exact ⟨beq_iff_eq.mp this.1, beq_iff_eq.mp this.2⟩
  have e₁ : sepL ((upds (.send j)).map fun kv => interp A B c kv.1 (stAt n kv.1))
      = iprop(cpI (F := F) c j 0 ∗ sendPay A B c j ∗ emp) := by
    show iprop(interp A B c (.cp j) (stAt n (.cp j)) ∗ interp A B c (srcKey j).1 (stAt n (srcKey j).1) ∗ emp) = _
    rw [hp'.1, hp'.2, interp_src]; rfl
  have e₂ : sepL ((upds (.send j)).map fun kv => interp A B c kv.1 kv.2) = iprop(cpI (F := F) c j 1 ∗ emp ∗ emp) := by
    show iprop(interp A B c (.cp j) 1 ∗ interp A B c (srcKey j).1 0 ∗ emp) = _
    rw [interp_src_none]; rfl
  have hopen := St_open A B K (c := c) hn
  rw [e₁, e₂, cpI_0, cpI_1] at hopen
  iintro H
  ihave H := hopen $$ H
  icases H with ⟨#HE, ⟨%W, HO⟩, ⟨Hcp, Hsrc, -⟩, HC⟩
  unfold junk sendPay
  icases Hcp with ⟨HtS, HtR, HaS, HaR, Hcr, ⟨%X, Hdst⟩⟩
  unfold has owns
  icases Hsrc with ⟨%fs, %hfs, Hsrc⟩
  icases Hdst with ⟨%fd, %hfd, Hdst⟩
  ihave #HiS := (env_inv A B K (c, some (false, j))) $$ HE
  ihave #HrS := (env_reached A B K (c, some (false, j))) $$ HE
  ihave #HiR := (env_inv A B K (peer j c, some (true, j))) $$ HE
  ihave #HrR := (env_reached A B K (peer j c, some (true, j))) $$ HE
  iapply (wp_send_at A B (κ₁ := K (c, some (false, j))) (κ₂ := K (peer j c, some (true, j))) (fs := fs) (fd := fd) (W := W)
    (O := owedL c (acts.drop (n + 1))) (NJ j)
    (duty_mem A B c false j) (duty_mem A B (peer j c) true j) (dst_credit (peer j c) j)
    (amount_at A B (c, some (false, j)) 0) (amount_at A B (peer j c, some (true, j)) 0) rfl
    (pay_send A B c j fs hfs) (by rw [hfs]; exact pay_recv A B c j fd)) $$ [HtS HtR Hsrc Hdst HO]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hcs, HO⟩
  iapply h
  iapply HC $$ [HO]
  · iexists W; iexact HO
  isplitl
  · isplitl [HaS]; · iexact HaS
    isplitl [Hcs]; · iexact Hcs
    isplitl [HaR]; · iexact HaR
    iexact Hcr
  · isplitr <;> iempintro

/-! ## Waits -/

theorem shIdx : ∀ m : Fin 8, ((List.finRange 11).filter fun i => shMask i = m)
    = (![[0, 1, 2], [3, 4], [5], [6], [7], [8], [9], [10]] : Fin 8 → List (Fin 11)) m := by decide +kernel

/-- The holdings of a finished chunk, made of the chunk. -/
theorem sh_split (c : Dev nD) (g : Fin 3) (m : Fin 8) :
    (has c (oP g (chunk c g m)) fullShare (fin A B g (chunk c g m)) : sProp 𝕄) ⊢ sepL ((shKeys g m).map fun k => interp A B c k 1) := by
  have hone : ∀ i : Fin 11, shShare i = fullShare → (has c (oP g (chunk c g (shMask i))) fullShare (fin A B g (chunk c g (shMask i))) : sProp 𝕄)
      ⊢ sepL (([i].map (Key.sh g)).map fun k => interp A B c k 1) := by
    intro i hi
    show _ ⊢ iprop(has c (oP g (chunk c g (shMask i))) (shShare i) (fin A B g (chunk c g (shMask i))) ∗ emp)
    rw [hi]
    iintro H
    isplitl [H]; · iexact H
    iempintro
  unfold shKeys
  rw [shIdx]
  fin_cases m
  · show _ ⊢ iprop(has c (oP g (chunk c g 0)) (fullShare : PosShare TreeShare).left (fin A B g (chunk c g 0))
      ∗ has c (oP g (chunk c g 0)) (fullShare : PosShare TreeShare).right.left (fin A B g (chunk c g 0))
      ∗ has c (oP g (chunk c g 0)) (fullShare : PosShare TreeShare).right.right (fin A B g (chunk c g 0)) ∗ emp)
    iintro H
    ihave H := (owns_halves (c : Thread nD τ) _ _ (fin A B g (chunk c g 0))).1 $$ H
    icases H with ⟨H1, H2⟩
    ihave H2 := (owns_halves (c : Thread nD τ) _ _ (fin A B g (chunk c g 0))).1 $$ H2
    icases H2 with ⟨H2, H3⟩
    isplitl [H1]; · iexact H1
    isplitl [H2]; · iexact H2
    isplitl [H3]; · iexact H3
    iempintro
  · show _ ⊢ iprop(has c (oP g (chunk c g 1)) (fullShare : PosShare TreeShare).left (fin A B g (chunk c g 1))
      ∗ has c (oP g (chunk c g 1)) (fullShare : PosShare TreeShare).right (fin A B g (chunk c g 1)) ∗ emp)
    iintro H
    ihave H := (owns_halves (c : Thread nD τ) _ _ (fin A B g (chunk c g 1))).1 $$ H
    icases H with ⟨H1, H2⟩
    isplitl [H1]; · iexact H1
    isplitl [H2]; · iexact H2
    iempintro
  · exact hone 5 rfl
  · exact hone 6 rfl
  · exact hone 7 rfl
  · exact hone 8 rfl
  · exact hone 9 rfl
  · exact hone 10 rfl

theorem recv_split (c : Dev nD) (j : J) : recvPay A B c j ⊢ sepL ((dstKeys j).map fun k => interp A B c k 1) := by
  obtain ⟨a, s, g⟩ := j
  cases a
  · show recvPay A B c (rs s g) ⊢ iprop(recvPay A B c (rs s g) ∗ emp)
    iintro H
    isplitl [H]; · iexact H
    iempintro
  · have e : recvPay A B c (ag s g) = has c (oP g (chunk c g (gotMask s))) fullShare (fin A B g (chunk c g (gotMask s))) := by
      show has c (oP g (chunk c g (gotMask s))) fullShare (fin A B g (chunk (peer (ag s g) c) g (sentMask s))) = _
      rw [chunk_from]
    rw [e]
    exact sh_split A B c g (gotMask s)

/-- A wait for all of a copy's units on one of its two semaphores: what they stand for, and the semaphore back at zero. -/
theorem wp_wait_cell {c : Dev nD} (r : Bool) (j : J)
    {sp sp' : Space} {s s' : Shape} {e e' : EltTy} {src : Memref sig .tc sp' s' e'} {dst : Memref sig .tc sp s e}
    {hs : src.view.WordExact} {ht : dst.view.WordExact}
    {α : Type} {Q : α → sProp 𝕄} {k : PUnit → Prog (TpuEff nD τ sig (Elt F) Λ₀ .tc) α}
    (hcr : dst.view.dmaCredit = NJ j) (l : List Act) (hl : ∀ j', Act.send j' ∈ l → lvC (some (some (r, j))) < lvJ j') (W : Waits sig Unit) :
    iprop(env A B K ∗ cred (tallyAt (kcell (c, some (r, j))) () (NJ j)) ∗ owes (c : Thread nD τ) (owedL c l) W
        ∗ atPos ER (kcell (c, some (r, j))) 0 ∅ 0)
      ⊢ iprop((((∃ W, owes (c : Thread nD τ) (owedL c l) W) ∗ semVal (kcell (c, some (r, j))) 0 ∗ payOf A B c 0 (some (some (r, j))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semNo r j) src dst hs ht) k) Q) := by
  have hw : iprop(cellInv ER (cubeRd A B) (K (c, some (r, j))) (kcell (c, some (r, j)))
        ∗ cred (tallyAt (kcell (c, some (r, j))) () (NJ j)) ∗ owes (c : Thread nD τ) (owedL c l) W
        ∗ MayWait (c : Thread nD τ) (csem (some (r, j))) () (owedL c l) ∗ atPos ER (kcell (c, some (r, j))) 0 ∅ 0)
      ⊢ iprop(((owes (c : Thread nD τ) (owedL c l) (insert (csem (some (r, j)), ()) W)
              ∗ atPos ER (kcell (c, some (r, j))) (0 + 1) ∅ 0 ∗ reached ER (kcell (c, some (r, j))) (0 + 1)
              ∗ payOf A B c 0 (some (some (r, j))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semNo r j) src dst hs ht) k) Q) := by
    rw [← hcr, ← rest_copy A B c r j]
    exact Rounds.wp_wait_rest_token 𝒱₀ ER (cubeRd A B) (c : Thread nD τ) none (κ := K (c, some (r, j)))
      (wpE_waitDma2_eq 𝒱₀ (c : Thread nD τ) none Set.univ) (Set.mem_univ _) () (O := owedL c l) (W := W) (R := 0) (m := 0) (T := ∅)
      (by rw [Nat.zero_add, hcr]; exact (expect_copy A B c r j).symm)
  iintro ⟨#HE, Hcr, HO, Ha⟩ Hk
  ihave #Hi := (env_inv A B K (c, some (r, j))) $$ HE
  ihave #HL := (env_levels A B K) $$ HE
  iapply hw $$ [Hcr HO Ha]
  · isplitr; · iexact Hi
    isplitl [Hcr]; · iexact Hcr
    isplitl [HO]; · iexact HO
    isplitr
    · iapply (mayWait_owedL c (some (r, j)) l hl); iexact HL
    iexact Ha
  iintro ⟨HO, Ha, -, Hpay⟩
  imod (Rounds.cell_close ER (cubeRd A B) (Set.mem_univ (K (c, some (r, j)))) (fun h => h) (R := 0 + 1) (duties_later A B (kcell (c, some (r, j))))) $$ [Ha] with Hz
  · isplitr; · iexact Hi
    iexact Ha
  iapply Hk
  isplitl [HO]; · iexists _; iexact HO
  isplitl [Hz]; · iexact Hz
  iexact Hpay

theorem lvJ_pos (j : J) : 0 < lvJ j := by unfold lvJ; omega

theorem step_waitS {c : Dev nD} {n : ℕ} (j : J) (hn : acts[n]? = some (.waitS j))
    {sp sp' : Space} {s s' : Shape} {e e' : EltTy} {src : Memref sig .tc sp' s' e'} {dst : Memref sig .tc sp s e} {sS : DmaSem sig}
    {hs : src.view.WordExact} {ht : dst.view.WordExact}
    {α : Type} {Q : α → sProp 𝕄} {k : PUnit → Prog (TpuEff nD τ sig (Elt F) Λ₀ .tc) α}
    (hsS : sS = semNo false j) (hcr : dst.view.dmaCredit = NJ j)
    (h : St A B K c (n + 1) ⊢ wp frame (wpE (defs₀ (F := F)) 𝒱₀ (c : Thread nD τ) none) Set.univ (k ⟨⟩) Q) :
    St A B K c n ⊢ wp frame (wpE (defs₀ (F := F)) 𝒱₀ (c : Thread nD τ) none) Set.univ
      (.op (.waitDma2 sS src dst hs ht) k) Q := by
  subst hsS
  have hp := acts_pre hn
  have hp' : stAt n (.cp j) = 1 ∧ stAt n (srcKey j).1 = 0 := by
    have := Bool.and_eq_true_iff.mp hp
    exact ⟨beq_iff_eq.mp this.1, beq_iff_eq.mp this.2⟩
  have e₁ : sepL ((upds (.waitS j)).map fun kv => interp A B c kv.1 (stAt n kv.1)) = iprop(cpI (F := F) c j 1 ∗ emp ∗ emp) := by
    show iprop(interp A B c (.cp j) (stAt n (.cp j)) ∗ interp A B c (srcKey j).1 (stAt n (srcKey j).1) ∗ emp) = _
    rw [hp'.1, hp'.2, interp_src_none]; rfl
  have e₂ : sepL ((upds (.waitS j)).map fun kv => interp A B c kv.1 kv.2) = iprop(cpI (F := F) c j 2 ∗ sendPay A B c j ∗ emp) := by
    show iprop(interp A B c (.cp j) 2 ∗ interp A B c (srcKey j).1 (srcKey j).2 ∗ emp) = _
    rw [interp_src]; rfl
  have hopen := St_open A B K (c := c) hn
  rw [e₁, e₂, cpI_1, cpI_2, show owedL c (Act.waitS j :: acts.drop (n + 1)) = owedL c (acts.drop (n + 1)) from rfl] at hopen
  iintro H
  ihave H := hopen $$ H
  icases H with ⟨#HE, ⟨%W, HO⟩, ⟨⟨HaS, HcS, HaR, HcR⟩, -, -⟩, HC⟩
  iapply (wp_wait_cell A B K false j hcr (acts.drop (n + 1)) (fun j' _ => lvJ_pos j') W) $$ [HcS HO HaS]
  · isplitr; · iexact HE
    isplitl [HcS]; · iexact HcS
    isplitl [HO]; · iexact HO
    iexact HaS
  iintro ⟨HO, HzS, Hpay⟩
  ihave Hpay := (Entails.of_eq (show payOf A B c 0 (some (some (false, j))) = sendPay A B c j from rfl)) $$ Hpay
  iapply h
  iapply HC $$ [HO]
  · iexact HO
  isplitl [HzS HaR HcR]
  · isplitl [HzS]; · iexact HzS
    isplitl [HaR]; · iexact HaR
    iexact HcR
  · isplitl [Hpay]; · iexact Hpay
    iempintro

theorem step_waitR {c : Dev nD} {n : ℕ} (j : J) (hn : acts[n]? = some (.waitR j))
    {sp sp' : Space} {s s' : Shape} {e e' : EltTy} {src : Memref sig .tc sp' s' e'} {dst : Memref sig .tc sp s e} {rS : DmaSem sig}
    {hs : src.view.WordExact} {ht : dst.view.WordExact}
    {α : Type} {Q : α → sProp 𝕄} {k : PUnit → Prog (TpuEff nD τ sig (Elt F) Λ₀ .tc) α}
    (hrS : rS = semNo true j) (hcr : dst.view.dmaCredit = NJ j)
    (h : St A B K c (n + 1) ⊢ wp frame (wpE (defs₀ (F := F)) 𝒱₀ (c : Thread nD τ) none) Set.univ (k ⟨⟩) Q) :
    St A B K c n ⊢ wp frame (wpE (defs₀ (F := F)) 𝒱₀ (c : Thread nD τ) none) Set.univ
      (.op (.waitDma2 rS src dst hs ht) k) Q := by
  subst hrS
  have hp := acts_pre hn
  have hp' : stAt n (.cp j) = 2 ∧ ∀ j', Act.send j' ∈ acts.drop (n + 1) → lvJ j < lvJ j' := by
    have h1 := Bool.and_eq_true_iff.mp hp
    have h2 := Bool.and_eq_true_iff.mp h1.1
    exact ⟨beq_iff_eq.mp h2.1, fun j' hj' => of_decide_eq_true (List.all_eq_true.mp h1.2 _ hj')⟩
  have e₂ : sepL ((upds (.waitR j)).map fun kv => interp A B c kv.1 kv.2)
      = iprop(cpI (F := F) c j 3 ∗ sepL ((dstKeys j).map fun k => interp A B c k 1)) := by
    show iprop(interp A B c (.cp j) 3 ∗ sepL (((dstKeys j).map fun k => (k, 1)).map fun kv => interp A B c kv.1 kv.2)) = _
    rw [List.map_map]; rfl
  have hopen := St_open A B K (c := c) hn
  have hfirst : sepL ((upds (.waitR j)).map fun kv => interp A B c kv.1 (stAt n kv.1)) ⊢ iprop(cpI (F := F) c j 2 ∗ True) := by
    show iprop(interp A B c (.cp j) (stAt n (.cp j)) ∗ _) ⊢ _
    rw [hp'.1, show interp A B c (.cp j) 2 = cpI (F := F) c j 2 from rfl]
    iintro ⟨H, -⟩
    isplitl [H]; · iexact H
    ipureintro; trivial
  rw [e₂, cpI_3, show owedL c (Act.waitR j :: acts.drop (n + 1)) = owedL c (acts.drop (n + 1)) from rfl] at hopen
  rw [cpI_2] at hfirst
  iintro H
  ihave H := hopen $$ H
  icases H with ⟨#HE, ⟨%W, HO⟩, HS, HC⟩
  ihave HS := hfirst $$ HS
  icases HS with ⟨⟨HzS, HaR, HcR⟩, -⟩
  iapply (wp_wait_cell A B K true j hcr (acts.drop (n + 1)) hp'.2 W) $$ [HcR HO HaR]
  · isplitr; · iexact HE
    isplitl [HcR]; · iexact HcR
    isplitl [HO]; · iexact HO
    iexact HaR
  iintro ⟨HO, HzR, Hpay⟩
  ihave Hpay := (Entails.of_eq (show payOf A B c 0 (some (some (true, j))) = recvPay A B c j from rfl)) $$ Hpay
  iapply h
  iapply HC $$ [HO]
  · iexact HO
  isplitl [HzS HzR]
  · isplitl [HzS]; · iexact HzS
    iexact HzR
  · iapply (recv_split A B c j); iexact Hpay

end Steps

end Cert.Cube
end
-- ==== Proof.Access.lean ====
/-
# Loads and stores through a piece of a buffer

What is held of a buffer is held piece by piece. A load or a store goes through one rectangle, which is a piece, or two
pieces side by side.
-/
module

public import proofs.«01_k».proof.Proof.Sched

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Access

variable {c : Dev nD} {S : Shape} {e : EltTy} {m : Memref sig .tc .vmem S e}
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_load_has {α : Type} {Q : α → sProp 𝕄} {r : Rect S} {hr : ∀ a, r.stride a = 1} {hl : m.view.LoadsAt r.toLoadRect}
    {k : (r.shape.Idx → Elt F e) → Prog (TpuEff nD τ sig (Elt F) Λ₀ .tc) α} (q : PosShare TreeShare) (X : r.shape.Idx → Elt F e) :
    (owns (c : Thread nD τ) (m.slice r hr) q X : sProp 𝕄)
      ⊢ iprop((owns (c : Thread nD τ) (m.slice r hr) q X -∗ wpc c (k X) Q) -∗ wpc c (.op (.load m r.toLoadRect hl) k) Q) := by
  iintro H Hk
  ihave H' := (show (owns (c : Thread nD τ) (m.slice r hr) q X : sProp 𝕄)
    ⊢ iprop(∃ f, ⌜(m.access r).read (Elt F) f = X⌝ ∗ ((m.access r).loc (c : Thread nD τ) ↦[(m.access r).set]{q} f)) from .rfl) $$ H
  icases H' with ⟨%f, %hf, H⟩
  subst hf
  iapply (wp_load_rect 𝒱₀ (c : Thread nD τ) none Set.univ (Finset.Subset.refl _)) $$ H
  iintro H
  iapply Hk
  iapply (owns_intro (c : Thread nD τ) (m.slice r hr) q f)
  iexact H

theorem wp_store_has {α : Type} {Q : α → sProp 𝕄} {r : Rect S} {hr : ∀ a, r.stride a = 1} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (X : r.shape.Idx → Elt F e) :
    (owns (c : Thread nD τ) (m.slice r hr) fullShare X : sProp 𝕄)
      ⊢ iprop((owns (c : Thread nD τ) (m.slice r hr) fullShare w -∗ wpc c (k ⟨⟩) Q) -∗ wpc c (.op (.store m r w Finset.univ hx hm) k) Q) := by
  iintro H Hk
  ihave H' := (show (owns (c : Thread nD τ) (m.slice r hr) fullShare X : sProp 𝕄)
    ⊢ iprop(∃ f, ⌜(m.access r).read (Elt F) f = X⌝ ∗ ((m.access r).loc (c : Thread nD τ) ↦[(m.access r).set]{fullShare} f)) from .rfl) $$ H
  icases H' with ⟨%f, %hf, H⟩
  iapply (wp_store 𝒱₀ (c : Thread nD τ) none Set.univ (m := m) (r := r) (Mk := Finset.univ) (S := (m.access r).set) (f := f)
    (by exact Finset.Subset.refl _)) $$ H
  iintro H
  iapply Hk
  ihave H' := (owns_intro (c : Thread nD τ) (m.slice r hr) fullShare ((m.access r).write (Elt F) f w Finset.univ)) $$ H
  iapply (Entails.of_eq (congrArg (fun Y => (owns (c : Thread nD τ) (m.slice r hr) fullShare Y : sProp 𝕄))
    (View.read_write_univ (v := m.access r) (Val := Elt F) f w)))
  iexact H'

/-! ## A rectangle that is two pieces -/

variable {r r0 r1 : Rect S} {hr0 : ∀ a, r0.stride a = 1} {hr1 : ∀ a, r1.stride a = 1}

theorem two_set (hcov : r.set = r0.set ∪ r1.set) : (m.access r).set = (m.access r0).set ∪ (m.access r1).set := by
  rw [View.set_slice, View.set_slice, View.set_slice, hcov, Finset.map_union]
theorem two_disj (hdis : Disjoint r0.set r1.set) : Disjoint (m.access r0).set (m.access r1).set := by
  rw [View.set_slice, View.set_slice]; exact (Finset.disjoint_map _).mpr hdis

theorem two_join (hcov : r.set = r0.set ∪ r1.set) (hdis : Disjoint r0.set r1.set) (q : PosShare TreeShare)
    (X0 : r0.shape.Idx → Elt F e) (X1 : r1.shape.Idx → Elt F e) :
    iprop(owns (c : Thread nD τ) (m.slice r0 hr0) q X0 ∗ owns (c : Thread nD τ) (m.slice r1 hr1) q X1)
      ⊢ (iprop(∃ f, (m.access r).loc (c : Thread nD τ) ↦[(m.access r).set]{q} f) : sProp 𝕄) := by
  iintro ⟨H0, H1⟩
  ihave H0' := (show (owns (c : Thread nD τ) (m.slice r0 hr0) q X0 : sProp 𝕄)
    ⊢ iprop(∃ f, ⌜(m.access r0).read (Elt F) f = X0⌝ ∗ ((m.access r).loc (c : Thread nD τ) ↦[(m.access r0).set]{q} f)) from .rfl) $$ H0
  ihave H1' := (show (owns (c : Thread nD τ) (m.slice r1 hr1) q X1 : sProp 𝕄)
    ⊢ iprop(∃ f, ⌜(m.access r1).read (Elt F) f = X1⌝ ∗ ((m.access r).loc (c : Thread nD τ) ↦[(m.access r1).set]{q} f)) from .rfl) $$ H1
  icases H0' with ⟨%f0, %h0, H0⟩
  icases H1' with ⟨%f1, %h1, H1⟩
  ihave H := (pointsTo_join (ℓ := (m.access r).loc (c : Thread nD τ)) (I := (m.access r0).set) (J := (m.access r1).set)
    (by exact two_disj (m := m) hdis)) $$ [H0 H1]
  · isplitl [H0]; · iexact H0
    iexact H1
  iexists _
  iapply (Entails.of_eq (congrArg (fun I => ((m.access r).loc (c : Thread nD τ) ↦[I]{q} _ : sProp 𝕄)) (two_set (m := m) (r := r) (r0 := r0) (r1 := r1) hcov).symm))
  iexact H

theorem two_split (hcov : r.set = r0.set ∪ r1.set) (hdis : Disjoint r0.set r1.set) (q : PosShare TreeShare)
    (f : Buf (Elt F) ((m.access r).loc (c : Thread nD τ))) :
    ((m.access r).loc (c : Thread nD τ) ↦[(m.access r).set]{q} f : sProp 𝕄)
      ⊢ iprop(owns (c : Thread nD τ) (m.slice r0 hr0) q ((m.access r0).read (Elt F) f) ∗ owns (c : Thread nD τ) (m.slice r1 hr1) q ((m.access r1).read (Elt F) f)) := by
  iintro H
  ihave H' := (Entails.of_eq (congrArg (fun I => ((m.access r).loc (c : Thread nD τ) ↦[I]{q} f : sProp 𝕄)) (two_set (m := m) (r := r) (r0 := r0) (r1 := r1) hcov))) $$ H
  ihave H2 := (pointsTo_union (ℓ := (m.access r).loc (c : Thread nD τ)) (I := (m.access r0).set) (J := (m.access r1).set)
    (by exact two_disj (m := m) hdis)).1 $$ H'
  icases H2 with ⟨H0, H1⟩
  isplitl [H0]
  · iapply (owns_intro (c : Thread nD τ) (m.slice r0 hr0) q f); iexact H0
  · iapply (owns_intro (c : Thread nD τ) (m.slice r1 hr1) q f); iexact H1

theorem wp_load_two {α : Type} {Q : α → sProp 𝕄} (hcov : r.set = r0.set ∪ r1.set) (hdis : Disjoint r0.set r1.set) {hl : m.view.LoadsAt r.toLoadRect}
    {k : (r.shape.Idx → Elt F e) → Prog (TpuEff nD τ sig (Elt F) Λ₀ .tc) α} (q : PosShare TreeShare)
    (X0 : r0.shape.Idx → Elt F e) (X1 : r1.shape.Idx → Elt F e) :
    iprop(owns (c : Thread nD τ) (m.slice r0 hr0) q X0 ∗ owns (c : Thread nD τ) (m.slice r1 hr1) q X1)
      ⊢ iprop((∀ X Y0 Y1, (owns (c : Thread nD τ) (m.slice r0 hr0) q Y0 ∗ owns (c : Thread nD τ) (m.slice r1 hr1) q Y1) -∗ wpc c (k X) Q)
          -∗ wpc c (.op (.load m r.toLoadRect hl) k) Q) := by
  iintro H Hk
  ihave H := (two_join hcov hdis q X0 X1) $$ H
  icases H with ⟨%f, H⟩
  iapply (wp_load_rect 𝒱₀ (c : Thread nD τ) none Set.univ (Finset.Subset.refl _)) $$ H
  iintro H
  iapply Hk
  iapply (two_split hcov hdis q f)
  iexact H

theorem wp_store_two {α : Type} {Q : α → sProp 𝕄} (hcov : r.set = r0.set ∪ r1.set) (hdis : Disjoint r0.set r1.set)
    (i0 : r0.shape.Idx → r.shape.Idx) (i1 : r1.shape.Idx → r.shape.Idx) (h0 : ∀ j, r.emb (i0 j) = r0.emb j) (h1 : ∀ j, r.emb (i1 j) = r1.emb j)
    {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α}
    (X0 : r0.shape.Idx → Elt F e) (X1 : r1.shape.Idx → Elt F e) :
    iprop(owns (c : Thread nD τ) (m.slice r0 hr0) fullShare X0 ∗ owns (c : Thread nD τ) (m.slice r1 hr1) fullShare X1)
      ⊢ iprop(((owns (c : Thread nD τ) (m.slice r0 hr0) fullShare (fun j => w (i0 j)) ∗ owns (c : Thread nD τ) (m.slice r1 hr1) fullShare (fun j => w (i1 j))) -∗ wpc c (k ⟨⟩) Q)
          -∗ wpc c (.op (.store m r w Finset.univ hx hm) k) Q) := by
  have hread (r' : Rect S) (i : r'.shape.Idx → r.shape.Idx) (h : ∀ j, r.emb (i j) = r'.emb j) (f : (m.access r).ty.Contents (Elt F)) :
      (m.access r').read (Elt F) ((m.access r).write (Elt F) f w Finset.univ) = fun j => w (i j) := by
    funext j
    have := View.read_slice_write_emb (v := m.view) (Val := Elt F) r f w (Finset.mem_univ (i j))
    rw [h j] at this
    exact this
  iintro H Hk
  ihave H := (two_join hcov hdis fullShare X0 X1) $$ H
  icases H with ⟨%f, H⟩
  iapply (wp_store 𝒱₀ (c : Thread nD τ) none Set.univ (m := m) (r := r) (Mk := Finset.univ) (S := (m.access r).set) (f := f)
    (by exact Finset.Subset.refl _)) $$ H
  iintro H
  iapply Hk
  ihave H' := (two_split (hr0 := hr0) (hr1 := hr1) hcov hdis fullShare ((m.access r).write (Elt F) f w Finset.univ)) $$ H
  icases H' with ⟨H0, H1⟩
  isplitl [H0]
  · iapply (Entails.of_eq (congrArg (fun Y => (owns (c : Thread nD τ) (m.slice r0 hr0) fullShare Y : sProp 𝕄)) (hread r0 i0 h0 f)))
    iexact H0
  · iapply (Entails.of_eq (congrArg (fun Y => (owns (c : Thread nD τ) (m.slice r1 hr1) fullShare Y : sProp 𝕄)) (hread r1 i1 h1 f)))
    iexact H1

end Access

/-! ## The two chunks of a 512-row piece -/

theorem inbQ (g : Fin 3) (p : Fin 4) : ∀ a, (![512 * p.val, col g] : Fin 2 → ℕ) a + (SQ g).size a ≤ S2048x2048.size a := by
  intro a; fin_cases a
  · show 512 * p.val + 512 ≤ 2048; omega
  · show col g + W g ≤ 2048; revert g; decide
abbrev rectQ (g : Fin 3) (p : Fin 4) : Rect S2048x2048 := Rect.unit (s := S2048x2048) ![512 * p.val, col g] (SQ g).size (inbQ g p)

def inHalf (g : Fin 3) (b : Fin 2) (j : (SP g).Idx) : (SQ g).Idx := (Rect.unit (s := SQ g) (offR b) (SP g).size (inbH g b)).emb j

theorem pair_side : ∀ k : Fin 8, 256 * k.val = 512 * (pair k).val + 256 * (side k).val := by decide

theorem half_emb (g : Fin 3) (k : Fin 8) (j : (SP g).Idx) : (rectQ g (pair k)).emb (inHalf g (side k) j) = (rectC g k).emb j := by
  funext a
  apply Fin.ext
  have := pair_side k
  fin_cases a
  · show 512 * (pair k).val + 1 * (256 * (side k).val + 1 * (j 0).val) = 256 * k.val + 1 * (j 0).val
    omega
  · show col g + 1 * (0 + 1 * (j 1).val) = col g + 1 * (j 1).val
    omega

theorem two_cov (g : Fin 3) (k k' : Fin 8) (hp : pair k = pair k') (hs : side k ≠ side k') : (rectQ g (pair k)).set = (rectC g k).set ∪ (rectC g k').set := by
  have h := pair_side k
  have h' := pair_side k'
  have hs' : (side k).val ≠ (side k').val := fun e => hs (Fin.ext e)
  have := (side k).isLt; have := (side k').isLt
  rw [← hp] at h'
  ext i
  rw [Finset.mem_union, Rect.mem_set_unit, Rect.mem_set_unit, Rect.mem_set_unit, Fin.forall_fin_two, Fin.forall_fin_two, Fin.forall_fin_two]
  show (512 * (pair k).val ≤ (i 0).val ∧ (i 0).val < 512 * (pair k).val + 512) ∧ (col g ≤ (i 1).val ∧ (i 1).val < col g + W g)
    ↔ ((256 * k.val ≤ (i 0).val ∧ (i 0).val < 256 * k.val + 256) ∧ (col g ≤ (i 1).val ∧ (i 1).val < col g + W g))
      ∨ ((256 * k'.val ≤ (i 0).val ∧ (i 0).val < 256 * k'.val + 256) ∧ (col g ≤ (i 1).val ∧ (i 1).val < col g + W g))
  omega

theorem rectC_disj (g : Fin 3) (k k' : Fin 8) (h : k ≠ k') : Disjoint (rectC g k).set (rectC g k').set := by
  refine Rect.unit_disjoint (0 : Fin 2) ?_
  show 256 * k.val + 256 ≤ 256 * k'.val ∨ 256 * k'.val + 256 ≤ 256 * k.val
  have : k.val ≠ k'.val := fun e => h (Fin.ext e)
  omega

end Cert.Cube
end
-- ==== Proof.Moves.lean ====
/-
# The steps as the program writes them

The rules of the steps with the offsets, devices and semaphores as the program prints them, each with the equation
that says which piece it is; and the rules of the loads and stores.
-/
module

public import proofs.«01_k».proof.Proof.Steps
public import proofs.«01_k».proof.Proof.Access
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Moves

variable (A : Dev nD → Vec F S2048x1024 .bf16) (B : Dev nD → Vec F S1024x2048 .bf16) (K : Dev nD × C → ℕ)

/-! ## Copies and waits -/

theorem step_sendRS {c : Dev nD} {n : ℕ} (s : Fin 7) (g : Fin 3) {dv : Dev nD → ℕ} {hdv : ∀ c, dv c < nD} {offS : Fin 2 → ℕ} {offD : Dev nD → Fin 2 → ℕ}
    {inbS' : ∀ a, offS a + (SP g).size a ≤ (SS g).size a} {inbD : ∀ a, offD c a + (SP g).size a ≤ (SR g).size a}
    {sS rS : DmaSem sig}
    {hsc : (((rM g).slice (Rect.unit (s := SR g) (offD c) (SP g).size inbD) (fun _ => rfl) :
      Memref sig (Dev.tc (⟨dv c, hdv c⟩ : Dev nD) : Thread nD τ).2.kind .vmem (SP g) .bf16)).view.ref.isScScratch = false}
    {hs : ((sM g).slice (Rect.unit (s := SS g) offS (SP g).size inbS') (fun _ => rfl)).view.WordExact}
    {ht : ((rM g).slice (Rect.unit (s := SR g) (offD c) (SP g).size inbD) (fun _ => rfl)).view.WordExact}
    {hsem : DmaTarget.Typed .vmem (.dma rS) (.remote (Dev.tc (⟨dv c, hdv c⟩ : Dev nD) : Thread nD τ)
      ((rM g).slice (Rect.unit (s := SR g) (offD c) (SP g).size inbD) (fun _ => rfl)) (.dma sS) hsc)}
    {α : Type} {Q : α → sProp 𝕄} {k : PUnit → Prog (TpuEff nD τ sig (Elt F) Λ₀ .tc) α}
    (h : St A B K c (n + 1) ⊢ wpc c (k ⟨⟩) Q)
    (hn : acts[n]? = some (.send (rs s g)) := by decide +kernel)
    (hd : ∀ c, dv c = (peer (rs s g) c).val := by decide +kernel)
    (hoS : offS = offR (sendChunk s) := by decide +kernel)
    (hoD : ∀ c, offD c = offR (recvChunk s (peer (rs s g) c) g) := by decide +kernel)
    (hsS : sS = semNo false (rs s g) := by decide +kernel) (hrS : rS = semNo true (rs s g) := by decide +kernel) :
    St A B K c n ⊢ wpc c
      (.op (.enqueueDma ((sM g).slice (Rect.unit (s := SS g) offS (SP g).size inbS') (fun _ => rfl))
        (.remote (Dev.tc (⟨dv c, hdv c⟩ : Dev nD) : Thread nD τ) ((rM g).slice (Rect.unit (s := SR g) (offD c) (SP g).size inbD) (fun _ => rfl)) (.dma sS) hsc)
        (.dma rS) hs ht hsem) k) Q := by
  have e2 := hoD c
  generalize offD c = o2 at *
  subst hoS e2
  exact step_send A B K (rs s g) hn (Fin.ext (hd c)) rfl rfl hsS hrS h

theorem step_sendAG {c : Dev nD} {n : ℕ} (s : Fin 7) (g : Fin 3) {dv : Dev nD → ℕ} {hdv : ∀ c, dv c < nD} {offS offD : Dev nD → Fin 2 → ℕ}
    {inbS' : ∀ a, offS c a + (SP g).size a ≤ S2048x2048.size a} {inbD : ∀ a, offD c a + (SP g).size a ≤ S2048x2048.size a}
    {sS rS : DmaSem sig}
    {hsc : ((outM.slice (Rect.unit (s := S2048x2048) (offD c) (SP g).size inbD) (fun _ => rfl) :
      Memref sig (Dev.tc (⟨dv c, hdv c⟩ : Dev nD) : Thread nD τ).2.kind .vmem (SP g) .bf16)).view.ref.isScScratch = false}
    {hs : (outM.slice (Rect.unit (s := S2048x2048) (offS c) (SP g).size inbS') (fun _ => rfl)).view.WordExact}
    {ht : (outM.slice (Rect.unit (s := S2048x2048) (offD c) (SP g).size inbD) (fun _ => rfl)).view.WordExact}
    {hsem : DmaTarget.Typed .vmem (.dma rS) (.remote (Dev.tc (⟨dv c, hdv c⟩ : Dev nD) : Thread nD τ)
      (outM.slice (Rect.unit (s := S2048x2048) (offD c) (SP g).size inbD) (fun _ => rfl)) (.dma sS) hsc)}
    {α : Type} {Q : α → sProp 𝕄} {k : PUnit → Prog (TpuEff nD τ sig (Elt F) Λ₀ .tc) α}
    (h : St A B K c (n + 1) ⊢ wpc c (k ⟨⟩) Q)
    (hn : acts[n]? = some (.send (ag s g)) := by decide +kernel)
    (hd : ∀ c, dv c = (peer (ag s g) c).val := by decide +kernel)
    (hoS : ∀ c, offS c = offC g (chunk c g (sentMask s)) := by decide +kernel)
    (hoD : ∀ c, offD c = offC g (chunk (peer (ag s g) c) g (gotMask s)) := by decide +kernel)
    (hsS : sS = semNo false (ag s g) := by decide +kernel) (hrS : rS = semNo true (ag s g) := by decide +kernel) :
    St A B K c n ⊢ wpc c
      (.op (.enqueueDma (outM.slice (Rect.unit (s := S2048x2048) (offS c) (SP g).size inbS') (fun _ => rfl))
        (.remote (Dev.tc (⟨dv c, hdv c⟩ : Dev nD) : Thread nD τ) (outM.slice (Rect.unit (s := S2048x2048) (offD c) (SP g).size inbD) (fun _ => rfl)) (.dma sS) hsc)
        (.dma rS) hs ht hsem) k) Q := by
  have e1 := hoS c
  have e2 := hoD c
  generalize offS c = o1 at *
  generalize offD c = o2 at *
  subst e1 e2
  exact step_send A B K (ag s g) hn (Fin.ext (hd c)) rfl rfl hsS hrS h

/-! ## Loads of the inputs -/

theorem wp_load_part {c : Dev nD} {S : Shape} {e : EltTy} {m : Memref sig .tc .vmem S e} {α : Type} {Q : α → sProp 𝕄} {r : Rect S}
    {hl : m.view.LoadsAt r.toLoadRect} {k : (r.shape.Idx → Elt F e) → Prog (TpuEff nD τ sig (Elt F) Λ₀ .tc) α}
    (q : PosShare TreeShare) (X : S.Idx → Elt F e) :
    (owns (c : Thread nD τ) m q X : sProp 𝕄)
      ⊢ iprop((owns (c : Thread nD τ) m q X -∗ wpc c (k fun i => X (r.emb i)) Q) -∗ wpc c (.op (.load m r.toLoadRect hl) k) Q) := by
  iintro H Hk
  ihave H' := (show (owns (c : Thread nD τ) m q X : sProp 𝕄)
    ⊢ iprop(∃ f, ⌜m.view.read (Elt F) f = X⌝ ∗ ((m.access r).loc (c : Thread nD τ) ↦[m.view.set]{q} f)) from .rfl) $$ H
  icases H' with ⟨%f, %hf, H⟩
  subst hf
  iapply (wp_load_rect 𝒱₀ (c : Thread nD τ) none Set.univ (m := m) (r := r) (S := m.view.set) (f := f) (by exact View.set_slice_subset _ r)) $$ H
  iintro H
  iapply Hk
  iapply (owns_intro (c : Thread nD τ) m q f)
  iexact H

theorem ldA {c : Dev nD} {n : ℕ} {α : Type} {Q : α → sProp 𝕄} {r : Rect S2048x1024}
    {hl : aM.view.LoadsAt r.toLoadRect} {k : (r.shape.Idx → Elt F .bf16) → Prog (TpuEff nD τ sig (Elt F) Λ₀ .tc) α}
    (h : St A B K c n ⊢ wpc c (k fun i => A c (r.emb i)) Q) :
    St A B K c n ⊢ wpc c (.op (.load aM r.toLoadRect hl) k) Q := by
  refine BIBase.Entails.trans (Q := iprop(has c aM fullShare (A c) ∗ (has c aM fullShare (A c) -∗ St A B K c n))) ?_ ?_
  · unfold St
    iintro ⟨#HE, HO, HA, HB, HS⟩
    isplitl [HA]; · iexact HA
    iintro HA
    isplitr; · iexact HE
    isplitl [HO]; · iexact HO
    isplitl [HA]; · iexact HA
    isplitl [HB]; · iexact HB
    iexact HS
  · iintro ⟨HA, HC⟩
    iapply (wp_load_part fullShare (A c)) $$ HA
    iintro HA
    iapply h
    iapply HC
    iexact HA

/-- Rows of the left operand: 256 of them, 512 of them. -/
theorem ldA256 {c : Dev nD} {n : ℕ} (kk : Dev nD → Fin 8) {off : Dev nD → Fin 2 → ℕ} {inb : ∀ a, off c a + S256x1024.size a ≤ S2048x1024.size a}
    {α : Type} {Q : α → sProp 𝕄} {hl : aM.view.LoadsAt (Rect.unit (s := S2048x1024) (off c) S256x1024.size inb).toLoadRect}
    {k : Vec F S256x1024 .bf16 → Prog (TpuEff nD τ sig (Elt F) Λ₀ .tc) α}
    (h : St A B K c n ⊢ wpc c (k (rows256 (A c) (kk c))) Q) (ho : ∀ c, off c = offR (kk c) := by decide +kernel) :
    St A B K c n ⊢ wpc c (.op (.load aM (Rect.unit (s := S2048x1024) (off c) S256x1024.size inb).toLoadRect hl) k) Q := by
  have e := ho c
  generalize off c = o at *
  subst e
  exact ldA A B K h
theorem ldA512 {c : Dev nD} {n : ℕ} (kk : Dev nD → Fin 4) {off : Dev nD → Fin 2 → ℕ} {inb : ∀ a, off c a + S512x1024.size a ≤ S2048x1024.size a}
    {α : Type} {Q : α → sProp 𝕄} {hl : aM.view.LoadsAt (Rect.unit (s := S2048x1024) (off c) S512x1024.size inb).toLoadRect}
    {k : Vec F S512x1024 .bf16 → Prog (TpuEff nD τ sig (Elt F) Λ₀ .tc) α}
    (h : St A B K c n ⊢ wpc c (k (rows512 (A c) (kk c))) Q) (ho : ∀ c, off c = offR2 (kk c) := by decide +kernel) :
    St A B K c n ⊢ wpc c (.op (.load aM (Rect.unit (s := S2048x1024) (off c) S512x1024.size inb).toLoadRect hl) k) Q := by
  have e := ho c
  generalize off c = o at *
  subst e
  exact ldA A B K h

/-- The right operand, all of it. -/
theorem ldB {c : Dev nD} {n : ℕ} {inb : ∀ a, (![0, 0] : Fin 2 → ℕ) a + S1024x2048.size a ≤ S1024x2048.size a}
    {α : Type} {Q : α → sProp 𝕄} {hl : bM.view.LoadsAt (Rect.unit (s := S1024x2048) ![0, 0] S1024x2048.size inb).toLoadRect}
    {k : Vec F S1024x2048 .bf16 → Prog (TpuEff nD τ sig (Elt F) Λ₀ .tc) α}
    (h : St A B K c n ⊢ wpc c (k (B c)) Q) :
    St A B K c n ⊢ wpc c (.op (.load bM (Rect.unit (s := S1024x2048) ![0, 0] S1024x2048.size inb).toLoadRect hl) k) Q := by
  have e : (fun i => B c ((Rect.unit (s := S1024x2048) ![0, 0] S1024x2048.size inb).emb i)) = B c := by
    funext i
    congr 1
    funext a
    apply Fin.ext
    fin_cases a
    · show 0 + 1 * (i 0).val = (i 0).val; omega
    · show 0 + 1 * (i 1).val = (i 1).val; omega
  refine BIBase.Entails.trans (Q := iprop(has c bM fullShare (B c) ∗ (has c bM fullShare (B c) -∗ St A B K c n))) ?_ ?_
  · unfold St
    iintro ⟨#HE, HO, HA, HB, HS⟩
    isplitl [HB]; · iexact HB
    iintro HB
    isplitr; · iexact HE
    isplitl [HO]; · iexact HO
    isplitl [HA]; · iexact HA
    isplitl [HB]; · iexact HB
    iexact HS
  · have h' : St A B K c n ⊢ wpc c (k (fun i => B c ((Rect.unit (s := S1024x2048) ![0, 0] S1024x2048.size inb).emb i))) Q :=
      Eq.mpr (congrArg (fun Y : Vec F S1024x2048 .bf16 => St A B K c n ⊢ wpc c (k Y) Q) e) h
    iintro ⟨HB, HC⟩
    iapply (wp_load_part (r := Rect.unit (s := S1024x2048) ![0, 0] S1024x2048.size inb) fullShare (B c)) $$ HB
    iintro HB
    iapply h'
    iapply HC
    iexact HB

/-! ## Loads of the pieces -/

theorem put_same (st : Sta) (k : Key) : put st (k, st k) = st := by
  funext x
  show (if x = k then st k else st x) = st x
  split
  · next h => rw [h]
  · rfl

/-- One thing a state is about, and the rest. -/
theorem St_peek {c : Dev nD} {n : ℕ} (key : Key) :
    St A B K c n ⊢ iprop(interp A B c key (stAt n key) ∗ (interp A B c key (stAt n key) -∗ St A B K c n)) := by
  have hp := bigSep_puts (fun k v => interp A B c k v) (stAt n) [(key, stAt n key)] (List.nodup_singleton _)
  rw [show ([(key, stAt n key)] : List (Key × ℕ)).foldl put (stAt n) = stAt n from put_same _ _] at hp
  have hp' : (bigSep Finset.univ fun k => interp A B c k (stAt n k))
      ⊢ iprop((interp A B c key (stAt n key) ∗ emp) ∗ ((interp A B c key (stAt n key) ∗ emp) -∗ bigSep Finset.univ fun k => interp A B c k (stAt n k))) := hp
  unfold St
  iintro ⟨#HE, HO, HA, HB, HS⟩
  ihave HS := hp' $$ HS
  icases HS with ⟨⟨HK, -⟩, HC⟩
  isplitl [HK]; · iexact HK
  iintro HK
  isplitr; · iexact HE
  isplitl [HO]; · iexact HO
  isplitl [HA]; · iexact HA
  isplitl [HB]; · iexact HB
  iapply HC
  isplitl [HK]; · iexact HK
  iempintro

theorem ldKey {c : Dev nD} {n : ℕ} (key : Key) (v : ℕ) {S : Shape} {e : EltTy} {m : Memref sig .tc .vmem S e} {r : Rect S} (hr : ∀ a, r.stride a = 1)
    {α : Type} {Q : α → sProp 𝕄} {hl : m.view.LoadsAt r.toLoadRect} {k : (r.shape.Idx → Elt F e) → Prog (TpuEff nD τ sig (Elt F) Λ₀ .tc) α}
    (q : PosShare TreeShare) (X : r.shape.Idx → Elt F e)
    (hi : interp A B c key v = owns (c : Thread nD τ) (m.slice r hr) q X) (hv : stAt n key = v)
    (h : St A B K c n ⊢ wpc c (k X) Q) :
    St A B K c n ⊢ wpc c (.op (.load m r.toLoadRect hl) k) Q := by
  have hp := St_peek A B K (c := c) (n := n) key
  rw [hv, hi] at hp
  iintro H
  ihave H := hp $$ H
  icases H with ⟨HK, HC⟩
  iapply (wp_load_has q X) $$ HK
  iintro HK
  iapply h
  iapply HC
  iexact HK

/-- A piece held outright at some contents. -/
def Open (c : Dev nD) {s : Shape} {e : EltTy} (p : Memref sig .tc .vmem s e) (P : sProp 𝕄) : Prop :=
  P ⊢ iprop(∃ X : Vec F s e, has c p fullShare X ∗ (has c p fullShare X -∗ P))

theorem open_has (c : Dev nD) {s : Shape} {e : EltTy} (p : Memref sig .tc .vmem s e) (X : Vec F s e) : Open (F := F) c p (has c p fullShare X) := by
  unfold Open
  iintro H
  iexists X
  isplitl [H]; · iexact H
  iintro H
  iexact H
theorem open_junk (c : Dev nD) {s : Shape} {e : EltTy} (p : Memref sig .tc .vmem s e) : Open (F := F) c p (junk c p) := by
  unfold Open junk
  iintro ⟨%X, H⟩
  iexists X
  isplitl [H]; · iexact H
  iintro H
  iexists X
  iexact H
theorem open_drop {c : Dev nD} {s : Shape} {e : EltTy} {p : Memref sig .tc .vmem s e} {P : sProp 𝕄} (h : Open (F := F) c p P) : P ⊢ junk c p := by
  unfold junk
  iintro H
  ihave H := (show P ⊢ iprop(∃ X : Vec F s e, has c p fullShare X ∗ (has c p fullShare X -∗ P)) from h) $$ H
  icases H with ⟨%X, H, -⟩
  iexists X
  iexact H

theorem open_acc (c : Dev nD) (g : Fin 3) (m : Fin 8) (v : ℕ) : Open (F := F) c (aP g (chunk c g m)) (interp A B c (.acc g m) v) := by
  cases v
  · exact open_junk c _
  · exact open_has c _ _
theorem open_snd (c : Dev nD) (g : Fin 3) (k : Fin 4) (v : ℕ) (hv : v ≠ 0) : Open (F := F) c (sP g k) (interp A B c (.snd g k) v) := by
  rcases v with - | - | v
  · exact absurd rfl hv
  · exact open_junk c _
  · exact open_has c _ _
theorem open_ob (c : Dev nD) (g : Fin 3) (v : ℕ) (hv : v ≠ 0) : Open (F := F) c (oP g (chunk c g 0)) (interp A B c (.ob g) v) := by
  cases v
  · exact absurd rfl hv
  · exact open_junk c _

theorem ldAny {c : Dev nD} {n : ℕ} (key : Key) {S : Shape} {e : EltTy} {m : Memref sig .tc .vmem S e} {r : Rect S} (hr : ∀ a, r.stride a = 1)
    {α : Type} {Q : α → sProp 𝕄} {hl : m.view.LoadsAt r.toLoadRect} {k : (r.shape.Idx → Elt F e) → Prog (TpuEff nD τ sig (Elt F) Λ₀ .tc) α}
    (hi : Open (F := F) c (m.slice r hr) (interp A B c key (stAt n key)))
    (h : ∀ X, St A B K c n ⊢ wpc c (k X) Q) :
    St A B K c n ⊢ wpc c (.op (.load m r.toLoadRect hl) k) Q := by
  have hi' : interp A B c key (stAt n key) ⊢ iprop(∃ X : Vec F r.shape e, has c (m.slice r hr) fullShare X
    ∗ (has c (m.slice r hr) fullShare X -∗ interp A B c key (stAt n key))) := hi
  iintro H
  ihave H := (St_peek A B K key) $$ H
  icases H with ⟨HK, HC⟩
  ihave HK := hi' $$ HK
  icases HK with ⟨%X, HK, HR⟩
  iapply (wp_load_has fullShare X) $$ HK
  iintro HK
  iapply (h X)
  iapply HC
  iapply HR
  iexact HK

/-- The accumulator's chunk, at stage `v` of its life; -/
theorem ldAcc {c : Dev nD} {n : ℕ} (g : Fin 3) (m : Fin 8) (v : ℕ) {off : Dev nD → Fin 2 → ℕ} {inb : ∀ a, off c a + (SP g).size a ≤ S2048x2048.size a}
    {α : Type} {Q : α → sProp 𝕄} {hl : accM.view.LoadsAt (Rect.unit (s := S2048x2048) (off c) (SP g).size inb).toLoadRect}
    {k : Vec F (SP g) .f32 → Prog (TpuEff nD τ sig (Elt F) Λ₀ .tc) α}
    (h : St A B K c n ⊢ wpc c (k (aval A B c g m (v + 1))) Q)
    (hv : stAt n (.acc g m) = v + 1 := by decide +kernel)
    (ho : ∀ c, off c = offC g (chunk c g m) := by decide +kernel) :
    St A B K c n ⊢ wpc c (.op (.load accM (Rect.unit (s := S2048x2048) (off c) (SP g).size inb).toLoadRect hl) k) Q := by
  have e := ho c
  generalize off c = o at *
  subst e
  exact ldKey A B K (.acc g m) (v + 1) (fun _ => rfl) fullShare (aval A B c g m (v + 1)) rfl hv h
theorem ldAcc' {c : Dev nD} {n : ℕ} (g : Fin 3) (m : Fin 8) {off : Dev nD → Fin 2 → ℕ} {inb : ∀ a, off c a + (SP g).size a ≤ S2048x2048.size a}
    {α : Type} {Q : α → sProp 𝕄} {hl : accM.view.LoadsAt (Rect.unit (s := S2048x2048) (off c) (SP g).size inb).toLoadRect}
    {k : Vec F (SP g) .f32 → Prog (TpuEff nD τ sig (Elt F) Λ₀ .tc) α}
    (h : ∀ X, St A B K c n ⊢ wpc c (k X) Q)
    (ho : ∀ c, off c = offC g (chunk c g m) := by decide +kernel) :
    St A B K c n ⊢ wpc c (.op (.load accM (Rect.unit (s := S2048x2048) (off c) (SP g).size inb).toLoadRect hl) k) Q := by
  have e := ho c
  generalize off c = o at *
  subst e
  exact ldAny A B K (.acc g m) (fun _ => rfl) (open_acc A B c g m _) h

/-- what a copy brought; -/
theorem ldRcv {c : Dev nD} {n : ℕ} (s : Fin 7) (g : Fin 3) {off : Dev nD → Fin 2 → ℕ} {inb : ∀ a, off c a + (SP g).size a ≤ (SR g).size a}
    {α : Type} {Q : α → sProp 𝕄} {hl : (rM g).view.LoadsAt (Rect.unit (s := SR g) (off c) (SP g).size inb).toLoadRect}
    {k : Vec F (SP g) .bf16 → Prog (TpuEff nD τ sig (Elt F) Λ₀ .tc) α}
    (h : St A B K c n ⊢ wpc c (k (sval A B (peer (rs s g) c) (rs s g))) Q)
    (hv : stAt n (.rcv g s) = 1 := by decide +kernel)
    (ho : ∀ c, off c = offR (recvChunk s c g) := by decide +kernel) :
    St A B K c n ⊢ wpc c (.op (.load (rM g) (Rect.unit (s := SR g) (off c) (SP g).size inb).toLoadRect hl) k) Q := by
  have e := ho c
  generalize off c = o at *
  subst e
  exact ldKey A B K (.rcv g s) 1 (fun _ => rfl) fullShare (sval A B (peer (rs s g) c) (rs s g)) rfl hv h

/-- a chunk of a send buffer, and the output's own chunk, for nothing. -/
theorem ldSnd {c : Dev nD} {n : ℕ} (g : Fin 3) (kk : Fin 4) {off : Fin 2 → ℕ} {inb : ∀ a, off a + (SP g).size a ≤ (SS g).size a}
    {α : Type} {Q : α → sProp 𝕄} {hl : (sM g).view.LoadsAt (Rect.unit (s := SS g) off (SP g).size inb).toLoadRect}
    {k : Vec F (SP g) .bf16 → Prog (TpuEff nD τ sig (Elt F) Λ₀ .tc) α}
    (h : ∀ X, St A B K c n ⊢ wpc c (k X) Q)
    (hv : stAt n (.snd g kk) ≠ 0 := by decide +kernel)
    (ho : off = offR kk := by decide +kernel) :
    St A B K c n ⊢ wpc c (.op (.load (sM g) (Rect.unit (s := SS g) off (SP g).size inb).toLoadRect hl) k) Q := by
  subst ho
  exact ldAny A B K (.snd g kk) (fun _ => rfl) (open_snd A B c g kk _ hv) h
theorem ldOb {c : Dev nD} {n : ℕ} (g : Fin 3) {off : Dev nD → Fin 2 → ℕ} {inb : ∀ a, off c a + (SP g).size a ≤ S2048x2048.size a}
    {α : Type} {Q : α → sProp 𝕄} {hl : outM.view.LoadsAt (Rect.unit (s := S2048x2048) (off c) (SP g).size inb).toLoadRect}
    {k : Vec F (SP g) .bf16 → Prog (TpuEff nD τ sig (Elt F) Λ₀ .tc) α}
    (h : ∀ X, St A B K c n ⊢ wpc c (k X) Q)
    (hv : stAt n (.ob g) ≠ 0 := by decide +kernel)
    (ho : ∀ c, off c = offC g (chunk c g 0) := by decide +kernel) :
    St A B K c n ⊢ wpc c (.op (.load outM (Rect.unit (s := S2048x2048) (off c) (SP g).size inb).toLoadRect hl) k) Q := by
  have e := ho c
  generalize off c = o at *
  subst e
  exact ldAny A B K (.ob g) (fun _ => rfl) (open_ob A B c g _ hv) h

/-! ## Waits, with everything decided -/

theorem waitS {c : Dev nD} {n : ℕ} (j : J)
    {sp sp' : Space} {s s' : Shape} {e e' : EltTy} {src : Memref sig .tc sp' s' e'} {dst : Memref sig .tc sp s e} {sS : DmaSem sig}
    {hs : src.view.WordExact} {ht : dst.view.WordExact}
    {α : Type} {Q : α → sProp 𝕄} {k : PUnit → Prog (TpuEff nD τ sig (Elt F) Λ₀ .tc) α}
    (h : St A B K c (n + 1) ⊢ wpc c (k ⟨⟩) Q)
    (hn : acts[n]? = some (.waitS j) := by decide +kernel) (hsS : sS = semNo false j := by decide +kernel)
    (hcr : dst.view.dmaCredit = NJ j := by rfl) :
    St A B K c n ⊢ wpc c (.op (.waitDma2 sS src dst hs ht) k) Q :=
  step_waitS A B K j hn hsS hcr h

theorem waitR {c : Dev nD} {n : ℕ} (j : J)
    {sp sp' : Space} {s s' : Shape} {e e' : EltTy} {src : Memref sig .tc sp' s' e'} {dst : Memref sig .tc sp s e} {rS : DmaSem sig}
    {hs : src.view.WordExact} {ht : dst.view.WordExact}
    {α : Type} {Q : α → sProp 𝕄} {k : PUnit → Prog (TpuEff nD τ sig (Elt F) Λ₀ .tc) α}
    (h : St A B K c (n + 1) ⊢ wpc c (k ⟨⟩) Q)
    (hn : acts[n]? = some (.waitR j) := by decide +kernel) (hrS : rS = semNo true j := by decide +kernel)
    (hcr : dst.view.dmaCredit = NJ j := by rfl) :
    St A B K c n ⊢ wpc c (.op (.waitDma2 rS src dst hs ht) k) Q :=
  step_waitR A B K j hn hrS hcr h

/-! ## Stores -/

theorem stKey {c : Dev nD} {n : ℕ} {a : Act} (hn : acts[n]? = some a) (key : Key) (v : ℕ) (L' : List (Key × ℕ)) (hup : upds a = (key, v) :: L')
    (how : ∀ l, owedL c (a :: l) = owedL c l)
    {S : Shape} {e : EltTy} {m : Memref sig .tc .vmem S e} {r : Rect S} (hr : ∀ a, r.stride a = 1) {w : r.shape.Idx → Elt F e}
    {hx : (m.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (hi : interp A B c key (stAt n key) ⊢ junk c (m.slice r hr))
    (hi' : has c (m.slice r hr) fullShare w ⊢ sepL (((key, v) :: L').map fun kv => interp A B c kv.1 kv.2))
    (h : St A B K c (n + 1) ⊢ wpc c (k ⟨⟩) Q) :
    St A B K c n ⊢ wpc c (.op (.store m r w Finset.univ hx hm) k) Q := by
  have hopen := St_open A B K (c := c) hn
  rw [hup, how] at hopen
  have hi₁ : sepL (((key, v) :: L').map fun kv => interp A B c kv.1 (stAt n kv.1)) ⊢ iprop(∃ X : Vec F r.shape e, has c (m.slice r hr) fullShare X) := by
    show iprop(interp A B c key (stAt n key) ∗ _) ⊢ _
    iintro ⟨H, -⟩
    iapply (show interp A B c key (stAt n key) ⊢ iprop(∃ X : Vec F r.shape e, has c (m.slice r hr) fullShare X) from hi)
    iexact H
  iintro H
  ihave H := hopen $$ H
  icases H with ⟨-, HO, HS, HC⟩
  ihave HS := hi₁ $$ HS
  icases HS with ⟨%X, HS⟩
  iapply (wp_store_has X) $$ HS
  iintro HS
  iapply h
  iapply HC $$ [HO]
  · iexact HO
  iapply hi'
  iexact HS

/-- What copy `s` of the reduce-scatter carries, into a chunk of the send buffer; -/
theorem stS {c : Dev nD} {n : ℕ} (g : Fin 3) (kk : Fin 4) (s : Fin 7) {off : Fin 2 → ℕ} {inb : ∀ a, off a + (SP g).size a ≤ (SS g).size a}
    {w : Vec F (SP g) .bf16}
    {hx : ((sM g).access (Rect.unit (s := SS g) off (SP g).size inb)).Stores Finset.univ}
    {hm : (Finset.univ : Finset (Rect.unit (s := SS g) off (SP g).size inb).shape.Idx) = Finset.univ ∨ ∀ a, (Rect.unit (s := SS g) off (SP g).size inb).stride a = 1}
    {α : Type} {Q : α → sProp 𝕄} {k : PUnit → Prog (TpuEff nD τ sig (Elt F) Λ₀ .tc) α}
    (hw : w = sval A B c (rs s g))
    (h : St A B K c (n + 1) ⊢ wpc c (k ⟨⟩) Q)
    (hn : acts[n]? = some (.stS g kk s) := by decide +kernel)
    (ho : off = offR kk := by decide +kernel) :
    St A B K c n ⊢ wpc c (.op (.store (sM g) (Rect.unit (s := SS g) off (SP g).size inb) w Finset.univ hx hm) k) Q := by
  subst ho hw
  have hp := acts_pre hn
  refine stKey A B K hn (.snd g kk) (s.val + 2) [] rfl (fun _ => rfl) (fun _ => rfl)
    (open_drop (open_snd A B c g kk _ (bne_iff_ne.mp hp))) ?_ h
  show _ ⊢ iprop(has c (sP g kk) fullShare (sval A B c (rs (Fin.ofNat 7 s.val) g)) ∗ emp)
  rw [Fin.ofNat_val_eq_self]
  iintro H
  isplitl [H]; · iexact H
  iempintro

/-- the accumulator's chunk with what arrived added; -/
theorem upA {c : Dev nD} {n : ℕ} (g : Fin 3) (m : Fin 8) {off : Dev nD → Fin 2 → ℕ} {inb : ∀ a, off c a + (SP g).size a ≤ S2048x2048.size a}
    {w : Vec F (SP g) .f32}
    {hx : (accM.access (Rect.unit (s := S2048x2048) (off c) (SP g).size inb)).Stores Finset.univ}
    {hm : (Finset.univ : Finset (Rect.unit (s := S2048x2048) (off c) (SP g).size inb).shape.Idx) = Finset.univ
      ∨ ∀ a, (Rect.unit (s := S2048x2048) (off c) (SP g).size inb).stride a = 1}
    {α : Type} {Q : α → sProp 𝕄} {k : PUnit → Prog (TpuEff nD τ sig (Elt F) Λ₀ .tc) α}
    (hw : w = aval A B c g m 2)
    (h : St A B K c (n + 1) ⊢ wpc c (k ⟨⟩) Q)
    (hn : acts[n]? = some (.upA g m) := by decide +kernel)
    (ho : ∀ c, off c = offC g (chunk c g m) := by decide +kernel) :
    St A B K c n ⊢ wpc c (.op (.store accM (Rect.unit (s := S2048x2048) (off c) (SP g).size inb) w Finset.univ hx hm) k) Q := by
  have e := ho c
  generalize off c = o at *
  subst e hw
  refine stKey A B K hn (.acc g m) 2 [] rfl (fun _ => rfl) (fun _ => rfl) (open_drop (open_acc A B c g m _)) ?_ h
  show _ ⊢ iprop(has c (aP g (chunk c g m)) fullShare (aval A B c g m 2) ∗ emp)
  iintro H
  isplitl [H]; · iexact H
  iempintro

/-- the finished chunk into the output. -/
theorem stFin {c : Dev nD} {n : ℕ} (g : Fin 3) {off : Dev nD → Fin 2 → ℕ} {inb : ∀ a, off c a + (SP g).size a ≤ S2048x2048.size a}
    {w : Vec F (SP g) .bf16}
    {hx : (outM.access (Rect.unit (s := S2048x2048) (off c) (SP g).size inb)).Stores Finset.univ}
    {hm : (Finset.univ : Finset (Rect.unit (s := S2048x2048) (off c) (SP g).size inb).shape.Idx) = Finset.univ
      ∨ ∀ a, (Rect.unit (s := S2048x2048) (off c) (SP g).size inb).stride a = 1}
    {α : Type} {Q : α → sProp 𝕄} {k : PUnit → Prog (TpuEff nD τ sig (Elt F) Λ₀ .tc) α}
    (hw : w = done A B c g)
    (h : St A B K c (n + 1) ⊢ wpc c (k ⟨⟩) Q)
    (hn : acts[n]? = some (.fin g) := by decide +kernel)
    (ho : ∀ c, off c = offC g (chunk c g 0) := by decide +kernel) :
    St A B K c n ⊢ wpc c (.op (.store outM (Rect.unit (s := S2048x2048) (off c) (SP g).size inb) w Finset.univ hx hm) k) Q := by
  have e := ho c
  generalize off c = o at *
  rw [← fin_own] at hw
  subst e hw
  have hp := (Bool.and_eq_true_iff.mp (acts_pre hn)).1
  refine stKey A B K hn (.ob g) 0 ((shKeys g 0).map fun k => (k, 1)) rfl (fun _ => rfl) (fun _ => rfl)
    (open_drop (open_ob A B c g _ (by rw [beq_iff_eq.mp hp]; exact Nat.one_ne_zero))) ?_ h
  have e : sepL ((((Key.ob g, 0) :: (shKeys g 0).map fun k => (k, 1))).map fun kv => interp A B c kv.1 kv.2)
      = iprop(emp ∗ sepL ((shKeys g 0).map fun k => interp A B c k 1)) := by
    show iprop(interp A B c (.ob g) 0 ∗ sepL (((shKeys g 0).map fun k => (k, 1)).map fun kv => interp A B c kv.1 kv.2)) = _
    rw [List.map_map]; rfl
  rw [e]
  iintro H
  isplitr; · iempintro
  iapply (sh_split A B c g 0)
  iexact H

/-! ## Two chunks of the accumulator at once -/

def accMask (b : Bool) : Fin 8 × Fin 8 := if b then (2, 3) else (0, 1)
theorem acc_pair : ∀ (b : Bool) (c : Dev nD) (g : Fin 3), pair (chunk c g (accMask b).1) = pair (chunk c g (accMask b).2) := by decide +kernel
theorem acc_side : ∀ (b : Bool) (c : Dev nD) (g : Fin 3), side (chunk c g (accMask b).1) ≠ side (chunk c g (accMask b).2) := by decide +kernel
theorem acc_ne (b : Bool) (c : Dev nD) (g : Fin 3) : chunk c g (accMask b).1 ≠ chunk c g (accMask b).2 :=
  fun h => acc_side b c g (congrArg side h)

theorem upds_stA (b : Bool) (g : Fin 3) : upds (.stA b g) = [(.acc g (accMask b).1, 1), (.acc g (accMask b).2, 1)] := by cases b <;> rfl

/-- The pair of chunks (`b`: the two far ones or the two near ones) stored as one product of 512 rows. -/
theorem stA {c : Dev nD} {n : ℕ} (b : Bool) (g : Fin 3) {off : Dev nD → Fin 2 → ℕ} {inb : ∀ a, off c a + (SQ g).size a ≤ S2048x2048.size a}
    {w : Vec F (SQ g) .f32}
    {hx : (accM.access (Rect.unit (s := S2048x2048) (off c) (SQ g).size inb)).Stores Finset.univ}
    {hm : (Finset.univ : Finset (Rect.unit (s := S2048x2048) (off c) (SQ g).size inb).shape.Idx) = Finset.univ
      ∨ ∀ a, (Rect.unit (s := S2048x2048) (off c) (SQ g).size inb).stride a = 1}
    {α : Type} {Q : α → sProp 𝕄} {k : PUnit → Prog (TpuEff nD τ sig (Elt F) Λ₀ .tc) α}
    (hw : w = mm512 g (rows512 (A c) (pair (chunk c g (accMask b).1))) (B c))
    (h : St A B K c (n + 1) ⊢ wpc c (k ⟨⟩) Q)
    (hn : acts[n]? = some (.stA b g) := by decide +kernel)
    (ho : ∀ c, off c = ![512 * (pair (chunk c g (accMask b).1)).val, col g] := by decide +kernel) :
    St A B K c n ⊢ wpc c (.op (.store accM (Rect.unit (s := S2048x2048) (off c) (SQ g).size inb) w Finset.univ hx hm) k) Q := by
  have e := ho c
  generalize off c = o at *
  subst e
  have hp := acc_pair b c g
  have hs := acc_side b c g
  have hne := acc_ne b c g
  have hopen := St_open A B K (c := c) hn
  rw [upds_stA, show owedL c (Act.stA b g :: acts.drop (n + 1)) = owedL c (acts.drop (n + 1)) from rfl] at hopen
  generalize (accMask b).1 = m0 at *
  generalize (accMask b).2 = m1 at *
  have hi₁ : sepL ([(Key.acc g m0, 1), (Key.acc g m1, 1)].map fun kv => interp A B c kv.1 (stAt n kv.1))
      ⊢ iprop((∃ X : Vec F (SP g) .f32, has c (aP g (chunk c g m0)) fullShare X) ∗ (∃ X : Vec F (SP g) .f32, has c (aP g (chunk c g m1)) fullShare X)) := by
    show iprop(interp A B c (.acc g m0) (stAt n (.acc g m0)) ∗ interp A B c (.acc g m1) (stAt n (.acc g m1)) ∗ emp) ⊢ _
    iintro ⟨H0, H1, -⟩
    isplitl [H0]
    · iapply (show interp A B c (.acc g m0) (stAt n (.acc g m0)) ⊢ iprop(∃ X : Vec F (SP g) .f32, has c (aP g (chunk c g m0)) fullShare X) from
        open_drop (open_acc A B c g m0 _))
      iexact H0
    · iapply (show interp A B c (.acc g m1) (stAt n (.acc g m1)) ⊢ iprop(∃ X : Vec F (SP g) .f32, has c (aP g (chunk c g m1)) fullShare X) from
        open_drop (open_acc A B c g m1 _))
      iexact H1
  have hi₂ : iprop(has c (aP g (chunk c g m0)) fullShare (fun j => w (inHalf g (side (chunk c g m0)) j))
        ∗ has c (aP g (chunk c g m1)) fullShare (fun j => w (inHalf g (side (chunk c g m1)) j)))
      ⊢ sepL ([(Key.acc g m0, 1), (Key.acc g m1, 1)].map fun kv => interp A B c kv.1 kv.2) := by
    have e0 : (fun j => w (inHalf g (side (chunk c g m0)) j)) = aval A B c g m0 1 := by subst hw; rfl
    have e1 : (fun j => w (inHalf g (side (chunk c g m1)) j)) = aval A B c g m1 1 := by
      rw [hp] at hw
      subst hw; rfl
    rw [e0, e1]
    show _ ⊢ iprop(has c (aP g (chunk c g m0)) fullShare (aval A B c g m0 1) ∗ has c (aP g (chunk c g m1)) fullShare (aval A B c g m1 1) ∗ emp)
    iintro ⟨H0, H1⟩
    isplitl [H0]; · iexact H0
    isplitl [H1]; · iexact H1
    iempintro
  iintro H
  ihave H := hopen $$ H
  icases H with ⟨-, HO, HS, HC⟩
  ihave HS := hi₁ $$ HS
  icases HS with ⟨⟨%X0, H0⟩, ⟨%X1, H1⟩⟩
  iapply (wp_store_two (m := accM) (r := rectQ g (pair (chunk c g m0))) (r0 := rectC g (chunk c g m0)) (r1 := rectC g (chunk c g m1))
    (hr0 := fun _ => rfl) (hr1 := fun _ => rfl)
    (two_cov g _ _ hp hs) (rectC_disj g _ _ hne) (inHalf g (side (chunk c g m0))) (inHalf g (side (chunk c g m1)))
    (half_emb g _) (fun j => by rw [hp]; exact half_emb g _ j) X0 X1) $$ [H0 H1]
  · isplitl [H0]; · iexact H0
    iexact H1
  iintro HS
  iapply h
  iapply HC $$ [HO]
  · iexact HO
  iapply hi₂
  iexact HS

/-- The pair loaded for nothing, before it is first stored. -/
theorem ldAcc2 {c : Dev nD} {n : ℕ} (b : Bool) (g : Fin 3) {off : Dev nD → Fin 2 → ℕ} {inb : ∀ a, off c a + (SQ g).size a ≤ S2048x2048.size a}
    {α : Type} {Q : α → sProp 𝕄} {hl : accM.view.LoadsAt (Rect.unit (s := S2048x2048) (off c) (SQ g).size inb).toLoadRect}
    {k : Vec F (SQ g) .f32 → Prog (TpuEff nD τ sig (Elt F) Λ₀ .tc) α}
    (h : ∀ X, St A B K c n ⊢ wpc c (k X) Q)
    (hv0 : stAt n (.acc g (accMask b).1) = 0 := by decide +kernel) (hv1 : stAt n (.acc g (accMask b).2) = 0 := by decide +kernel)
    (ho : ∀ c, off c = ![512 * (pair (chunk c g (accMask b).1)).val, col g] := by decide +kernel) :
    St A B K c n ⊢ wpc c (.op (.load accM (Rect.unit (s := S2048x2048) (off c) (SQ g).size inb).toLoadRect hl) k) Q := by
  have e := ho c
  generalize off c = o at *
  subst e
  have hp := acc_pair b c g
  have hs := acc_side b c g
  have hne := acc_ne b c g
  generalize (accMask b).1 = m0 at *
  generalize (accMask b).2 = m1 at *
  have hm : m0 ≠ m1 := fun h => hne (by rw [h])
  have hp2 := bigSep_puts (fun k v => interp A B c k v) (stAt n) [(.acc g m0, stAt n (.acc g m0)), (.acc g m1, stAt n (.acc g m1))]
    (List.nodup_cons.mpr ⟨fun h => hm (by injection List.mem_singleton.mp h), List.nodup_singleton _⟩)
  rw [show ([(Key.acc g m0, stAt n (.acc g m0)), (Key.acc g m1, stAt n (.acc g m1))] : List (Key × ℕ)).foldl put (stAt n) = stAt n by
    show put (put (stAt n) _) _ = _
    rw [put_same, put_same]] at hp2
  have hp3 : (bigSep Finset.univ fun k => interp A B c k (stAt n k))
      ⊢ iprop((junk (F := F) c (aP g (chunk c g m0)) ∗ junk (F := F) c (aP g (chunk c g m1)) ∗ emp)
        ∗ ((junk (F := F) c (aP g (chunk c g m0)) ∗ junk (F := F) c (aP g (chunk c g m1)) ∗ emp) -∗ bigSep Finset.univ fun k => interp A B c k (stAt n k))) := by
    have hp2' : (bigSep Finset.univ fun k => interp A B c k (stAt n k))
        ⊢ iprop((interp A B c (.acc g m0) (stAt n (.acc g m0)) ∗ interp A B c (.acc g m1) (stAt n (.acc g m1)) ∗ emp)
          ∗ ((interp A B c (.acc g m0) (stAt n (.acc g m0)) ∗ interp A B c (.acc g m1) (stAt n (.acc g m1)) ∗ emp)
            -∗ bigSep Finset.univ fun k => interp A B c k (stAt n k))) := hp2
    rw [hv0, hv1] at hp2'
    exact hp2'
  unfold junk at hp3
  unfold St at h ⊢
  iintro ⟨#HE, HO, HA, HB, HS⟩
  ihave HS := hp3 $$ HS
  icases HS with ⟨⟨⟨%X0, H0⟩, ⟨%X1, H1⟩, -⟩, HC⟩
  iapply (wp_load_two (m := accM) (r := rectQ g (pair (chunk c g m0))) (r0 := rectC g (chunk c g m0)) (r1 := rectC g (chunk c g m1))
    (hr0 := fun _ => rfl) (hr1 := fun _ => rfl)
    (two_cov g _ _ hp hs) (rectC_disj g _ _ hne) fullShare X0 X1) $$ [H0 H1]
  · isplitl [H0]; · iexact H0
    iexact H1
  iintro %X %Y0 %Y1 ⟨H0, H1⟩
  iapply (h X)
  isplitr; · iexact HE
  isplitl [HO]; · iexact HO
  isplitl [HA]; · iexact HA
  isplitl [HB]; · iexact HB
  iapply HC
  isplitl [H0]; · iexists Y0; iexact H0
  isplitl [H1]; · iexists Y1; iexact H1
  iempintro

end Moves

end Cert.Cube
end
-- ==== Proof.RunA.lean ====
/-
# The body, first half

Each part of the printed body takes a device from one state to a later one: the first stage's copies, the far
products, the second stage's copies, the near products, and the third chunk's sum. One line for each operation.
-/
module

public import proofs.«01_k».proof.Proof.Moves

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the body at this call's buffers and semaphores. -/
abbrev wb {X : Type 1} (f : (a0 : Memref sig .tc .vmem S2048x1024 .bf16) → a0.IsWhole → (a1 : Memref sig .tc .vmem S1024x2048 .bf16) → a1.IsWhole
    → (a2 : Memref sig .tc .vmem S2048x2048 .bf16) → a2.IsWhole → (a3 : Memref sig .tc .vmem S2048x2048 .f32) → a3.IsWhole
    → (a4 : Memref sig .tc .vmem S1024x768 .bf16) → a4.IsWhole → (a5 : Memref sig .tc .vmem S1024x640 .bf16) → a5.IsWhole
    → (a6 : Memref sig .tc .vmem S1024x640 .bf16) → a6.IsWhole → (a7 : Memref sig .tc .vmem S1792x768 .bf16) → a7.IsWhole
    → (a8 : Memref sig .tc .vmem S1792x640 .bf16) → a8.IsWhole → (a9 : Memref sig .tc .vmem S1792x640 .bf16) → a9.IsWhole
    → DmaSems sig S7x3 → DmaSems sig S7x3 → DmaSems sig S7x3 → DmaSems sig S7x3 → X) : X :=
  f aM (Memref.isWhole_whole _) bM (Memref.isWhole_whole _) outM (Memref.isWhole_whole _) accM (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    cc0_scratch7 cc0_scratch8 cc0_scratch9 cc0_scratch10

section Run

variable (A : Dev nD → Vec F S2048x1024 .bf16) (B : Dev nD → Vec F S1024x2048 .bf16) (K : Dev nD × C → ℕ)

theorem wpc_ret {c : Dev nD} {α : Type} {Q : α → sProp 𝕄} {P : sProp 𝕄} {x : α} (h : P ⊢ Q x) : P ⊢ wpc c (.ret x) Q := by
  rw [wpc, wp_ret]
  iintro H
  imodintro
  iapply h
  iexact H

theorem run5 {c : Dev nD} {Q : _ → sProp 𝕄} {v27 v39 v63 v65 v72 v74 v81 v83 : BitVec 32}
    (h : St A B K c 4 ⊢ Q ⟨k0_pay4 (rows256 (A c) (chunk c 2 7)), k0_pay5 (B c)⟩) :
    St A B K c 1 ⊢ wpc c (wb (k0_part5 (F := F)) c v27 v39 v63 v65 v72 v74 v81 v83 (B c)) Q := by
  rw [k0_part5_eq_skeleton]
  unfold wb k0_part5_skel
  simp only [Prog.lift, Prog.bind_op, Prog.bind_ret, Prog.pure_eq_ret]
  refine step_sendRS A B K 0 0 (offD := (k0_off2 ·)) ?_
  refine ldA256 A B K (fun c => chunk c 1 7) (off := (k0_off1 · 1#32 2#32 0#32)) ?_
  refine ldSnd A B K 1 0 fun _ => ?_
  refine stS A B K 1 0 0 (by simp only [k0_pay3, shapeCast_self]; rfl) ?_
  refine step_sendRS A B K 0 1 (offD := (k0_off3 · 2#32 0#32)) ?_
  refine ldA256 A B K (fun c => chunk c 2 7) (off := (k0_off1 · 2#32 0#32 1#32)) ?_
  exact wpc_ret h

theorem run6 {c : Dev nD} {Q : _ → sProp 𝕄} {v27 v51 v61 v70 v74 v83 v84 : BitVec 32}
    (h : St A B K c 7 ⊢ Q ⟨⟩) :
    St A B K c 4 ⊢ wpc c (wb (k0_part6 (F := F)) c v27 v51 v61 v70 v74 v83 v84 (B c) (k0_pay4 (rows256 (A c) (chunk c 2 7))) (k0_pay5 (B c))) Q := by
  rw [k0_part6_eq_skeleton]
  unfold wb k0_part6_skel
  simp only [Prog.lift, Prog.bind_op, Prog.bind_ret, Prog.pure_eq_ret]
  refine ldSnd A B K 2 0 fun _ => ?_
  refine stS A B K 2 0 0 (by simp only [k0_pay4, k0_pay5, k0_pay6, shapeCast_self]; rfl) ?_
  refine step_sendRS A B K 0 2 (offD := (k0_off3 · 0#32 1#32)) ?_
  refine ldA256 A B K (fun c => chunk c 0 6) (off := (k0_off4 · 0#32 1#32 2#32)) ?_
  refine ldSnd A B K 0 1 fun _ => ?_
  refine stS A B K 0 1 6 (by simp only [k0_pay7, shapeCast_self]; rfl) ?_
  exact wpc_ret h

theorem run7 {c : Dev nD} {Q : _ → sProp 𝕄} {v39 v63 v65 v72 v74 v85 v86 : BitVec 32}
    (h : ∀ x, St A B K c 11 ⊢ Q x) :
    St A B K c 7 ⊢ wpc c (wb (k0_part7 (F := F)) c v39 v63 v65 v72 v74 v85 v86 (B c)) Q := by
  rw [k0_part7_eq_skeleton]
  unfold wb k0_part7_skel
  simp only [Prog.lift, Prog.bind_op, Prog.bind_ret, Prog.pure_eq_ret]
  refine step_sendRS A B K 6 0 (offD := (k0_off5 ·)) ?_
  refine ldA256 A B K (fun c => chunk c 1 6) (off := (k0_off4 · 1#32 2#32 0#32)) ?_
  refine ldSnd A B K 1 1 fun _ => ?_
  refine stS A B K 1 1 6 (by simp only [k0_pay8, shapeCast_self]; rfl) ?_
  refine step_sendRS A B K 6 1 (offD := (k0_off6 · 2#32 0#32)) ?_
  refine ldA256 A B K (fun c => chunk c 2 6) (off := (k0_off4 · 2#32 0#32 1#32)) ?_
  refine ldSnd A B K 2 1 fun _ => ?_
  refine stS A B K 2 1 6 (by simp only [k0_pay9, shapeCast_self]; rfl) ?_
  exact wpc_ret (h _)

theorem run8 {c : Dev nD} {Q : _ → sProp 𝕄} {v51 v66 v67 v68 v70 v72 v74 c1_i32_157 : BitVec 32}
    (h : St A B K c 15 ⊢ Q ⟨⟩) :
    St A B K c 11 ⊢ wpc c (wb (k0_part8 (F := F)) c v51 v66 v67 v68 v70 v72 v74 (B c) c1_i32_157) Q := by
  rw [k0_part8_eq_skeleton]
  unfold wb k0_part8_skel
  simp only [Prog.lift, Prog.bind_op, Prog.bind_ret, Prog.pure_eq_ret]
  refine step_sendRS A B K 6 2 (offD := (k0_off6 · 0#32 1#32)) ?_
  refine ldA512 A B K (fun c => pair (chunk c 0 (accMask true).1)) (off := (k0_off7 · 0#32 1#32)) ?_
  refine ldAcc2 A B K true 0 (off := (k0_off8 ·)) fun _ => ?_
  refine stA A B K true 0 (off := (k0_off8 ·)) (by simp only [k0_pay10, shapeCast_self]; rfl) ?_
  refine ldA512 A B K (fun c => pair (chunk c 1 (accMask true).1)) (off := (k0_off7 · 1#32 2#32)) ?_
  refine ldAcc2 A B K true 1 (off := (k0_off9 ·)) fun _ => ?_
  refine stA A B K true 1 (off := (k0_off9 ·)) (by simp only [k0_pay11, shapeCast_self]; rfl) ?_
  refine ldA512 A B K (fun c => pair (chunk c 2 (accMask true).1)) (off := (k0_off7 · 2#32 0#32)) ?_
  refine ldAcc2 A B K true 2 (off := (k0_off10 ·)) fun _ => ?_
  refine stA A B K true 2 (off := (k0_off10 ·)) (by simp only [k0_pay12, shapeCast_self]; rfl) ?_
  exact wpc_ret h

theorem run9 {c : Dev nD} {Q : _ → sProp 𝕄} {v27 v31 v66 v70 v79 : BitVec 32}
    (h : St A B K c 18 ⊢ Q ⟨⟩) :
    St A B K c 15 ⊢ wpc c (wb (k0_part9 (F := F)) c v27 v31 v66 v70 v79) Q := by
  rw [k0_part9_eq_skeleton]
  unfold wb k0_part9_skel
  simp only [Prog.lift, Prog.bind_op, Prog.bind_ret, Prog.pure_eq_ret]
  refine waitS A B K (rs 0 0) ?_
  refine waitR A B K (rs 0 0) ?_
  refine ldAcc A B K 0 3 0 (off := (k0_off11 ·)) ?_
  refine ldRcv A B K 0 0 (off := (k0_off12 ·)) ?_
  refine ldSnd A B K 0 0 fun _ => ?_
  refine stS A B K 0 0 3 (by simp only [k0_pay13, shapeCast_self]; rfl) ?_
  exact wpc_ret h

theorem run10 {c : Dev nD} {Q : _ → sProp 𝕄} {v39 v43 v67 v72 v81 : BitVec 32}
    (h : ∀ x, St A B K c 22 ⊢ Q x) :
    St A B K c 18 ⊢ wpc c (wb (k0_part10 (F := F)) c v39 v43 v67 v72 v81) Q := by
  rw [k0_part10_eq_skeleton]
  unfold wb k0_part10_skel
  simp only [Prog.lift, Prog.bind_op, Prog.bind_ret, Prog.pure_eq_ret]
  refine step_sendRS A B K 3 0 (offD := (k0_off13 ·)) ?_
  refine waitS A B K (rs 0 1) ?_
  refine waitR A B K (rs 0 1) ?_
  refine ldAcc A B K 1 3 0 (off := (k0_off14 ·)) ?_
  refine ldRcv A B K 0 1 (off := (k0_off15 · 2#32 0#32)) ?_
  refine ldSnd A B K 1 0 fun _ => ?_
  refine stS A B K 1 0 3 (by simp only [k0_pay14, shapeCast_self]; rfl) ?_
  exact wpc_ret (h _)

theorem run11 {c : Dev nD} {Q : _ → sProp 𝕄} {v51 v68 v74 v83 v329 : BitVec 32}
    (h : ∀ x, St A B K c 26 ⊢ Q x) :
    St A B K c 22 ⊢ wpc c (wb (k0_part11 (F := F)) c v51 v68 v74 v83 v329) Q := by
  rw [k0_part11_eq_skeleton]
  unfold wb k0_part11_skel
  simp only [Prog.lift, Prog.bind_op, Prog.bind_ret, Prog.pure_eq_ret]
  refine step_sendRS A B K 3 1 (offD := (k0_off16 · 0#32)) ?_
  refine waitS A B K (rs 0 2) ?_
  refine waitR A B K (rs 0 2) ?_
  refine ldAcc A B K 2 3 0 (off := (k0_off17 ·)) ?_
  refine ldRcv A B K 0 2 (off := (k0_off15 · 0#32 1#32)) ?_
  refine ldSnd A B K 2 0 fun _ => ?_
  refine stS A B K 2 0 3 (by simp only [k0_pay15, shapeCast_self]; rfl) ?_
  exact wpc_ret (h _)

theorem run12 {c : Dev nD} {Q : _ → sProp 𝕄} {v27 v55 v66 v70 v83 v84 c1024_i32_252 : BitVec 32}
    (h : St A B K c 29 ⊢ Q (k0_pay16 (aval A B c 0 2 1) (sval A B (peer (rs 6 0) c) (rs 6 0)))) :
    St A B K c 26 ⊢ wpc c (wb (k0_part12 (F := F)) c v27 v55 v66 v70 v83 v84 c1024_i32_252) Q := by
  rw [k0_part12_eq_skeleton]
  unfold wb k0_part12_skel
  simp only [Prog.lift, Prog.bind_op, Prog.bind_ret, Prog.pure_eq_ret]
  refine step_sendRS A B K 3 2 (offD := (k0_off16 · 1#32)) ?_
  refine waitS A B K (rs 6 0) ?_
  refine waitR A B K (rs 6 0) ?_
  refine ldAcc A B K 0 2 0 (off := (k0_off18 ·)) ?_
  refine ldRcv A B K 6 0 (off := (k0_off19 ·)) ?_
  exact wpc_ret h

theorem run13 {c : Dev nD} {Q : _ → sProp 𝕄} {v31 v39 v67 v72 v84 v85 : BitVec 32}
    (h : St A B K c 33 ⊢ Q (aval A B c 1 2 1)) :
    St A B K c 29 ⊢ wpc c (wb (k0_part13 (F := F)) c v31 v39 v67 v72 v84 v85 (k0_pay16 (aval A B c 0 2 1) (sval A B (peer (rs 6 0) c) (rs 6 0)))) Q := by
  rw [k0_part13_eq_skeleton]
  unfold wb k0_part13_skel
  simp only [Prog.lift, Prog.bind_op, Prog.bind_ret, Prog.pure_eq_ret]
  refine ldSnd A B K 0 1 fun _ => ?_
  refine stS A B K 0 1 4 (by simp only [k0_pay16, k0_pay17, shapeCast_self]; rfl) ?_
  refine step_sendRS A B K 4 0 (offD := (k0_off20 ·)) ?_
  refine waitS A B K (rs 6 1) ?_
  refine waitR A B K (rs 6 1) ?_
  refine ldAcc A B K 1 2 0 (off := (k0_off21 ·)) ?_
  exact wpc_ret h

theorem run14 {c : Dev nD} {Q : _ → sProp 𝕄} {v43 v51 v72 v85 : BitVec 32}
    (h : St A B K c 36 ⊢ Q ⟨⟩) :
    St A B K c 33 ⊢ wpc c (wb (k0_part14 (F := F)) c v43 v51 v72 v85 (aval A B c 1 2 1)) Q := by
  rw [k0_part14_eq_skeleton]
  unfold wb k0_part14_skel
  simp only [Prog.lift, Prog.bind_op, Prog.bind_ret, Prog.pure_eq_ret]
  refine ldRcv A B K 6 1 (off := (k0_off22 · 2#32 0#32)) ?_
  refine ldSnd A B K 1 1 fun _ => ?_
  refine stS A B K 1 1 4 (by simp only [k0_pay18, shapeCast_self]; rfl) ?_
  refine step_sendRS A B K 4 1 (offD := (k0_off23 · 0#32)) ?_
  refine waitS A B K (rs 6 2) ?_
  exact wpc_ret h

theorem run15 {c : Dev nD} {Q : _ → sProp 𝕄} {v55 v61 v68 v74 v86 v93 : BitVec 32}
    (h : ∀ x, St A B K c 40 ⊢ Q x) :
    St A B K c 36 ⊢ wpc c (wb (k0_part15 (F := F)) c v55 v61 v68 v74 v86 v93 (B c)) Q := by
  rw [k0_part15_eq_skeleton]
  unfold wb k0_part15_skel
  simp only [Prog.lift, Prog.bind_op, Prog.bind_ret, Prog.pure_eq_ret]
  refine waitR A B K (rs 6 2) ?_
  refine ldAcc A B K 2 2 0 (off := (k0_off24 ·)) ?_
  refine ldRcv A B K 6 2 (off := (k0_off22 · 0#32 1#32)) ?_
  refine ldSnd A B K 2 1 fun _ => ?_
  refine stS A B K 2 1 4 (by simp only [k0_pay19, shapeCast_self]; rfl) ?_
  refine step_sendRS A B K 4 2 (offD := (k0_off23 · 1#32)) ?_
  refine ldA256 A B K (fun c => chunk c 0 5) (off := (k0_off25 · 0#32 1#32 2#32)) ?_
  refine ldSnd A B K 0 2 fun _ => ?_
  refine stS A B K 0 2 1 (by simp only [k0_pay20, shapeCast_self]; rfl) ?_
  exact wpc_ret (h _)

theorem run16 {c : Dev nD} {Q : _ → sProp 𝕄} {v27 v61 v63 v94 v96 c1_i32_362 : BitVec 32}
    (h : St A B K c 43 ⊢ Q (k0_pay22 (B c) (rows256 (A c) (chunk c 1 5)))) :
    St A B K c 40 ⊢ wpc c (wb (k0_part16 (F := F)) c v27 v61 v63 v94 v96 (B c) c1_i32_362) Q := by
  rw [k0_part16_eq_skeleton]
  unfold wb k0_part16_skel
  simp only [Prog.lift, Prog.bind_op, Prog.bind_ret, Prog.pure_eq_ret]
  refine step_sendRS A B K 1 0 (offD := (k0_off26 ·)) ?_
  refine ldA256 A B K (fun c => chunk c 0 4) (off := (k0_off27 · 0#32 1#32 2#32)) ?_
  refine ldSnd A B K 0 3 fun _ => ?_
  refine stS A B K 0 3 2 (by simp only [k0_pay21, shapeCast_self]; rfl) ?_
  refine step_sendRS A B K 2 0 (offD := (k0_off28 ·)) ?_
  refine ldA256 A B K (fun c => chunk c 1 5) (off := (k0_off25 · 1#32 2#32 0#32)) ?_
  refine ldSnd A B K 1 2 fun _ => ?_
  exact wpc_ret h

theorem run17 {c : Dev nD} {Q : _ → sProp 𝕄} {v39 v63 v65 v95 v97 : BitVec 32}
    (h : St A B K c 47 ⊢ Q (k0_pay24 (B c) (rows256 (A c) (chunk c 2 5)))) :
    St A B K c 43 ⊢ wpc c (wb (k0_part17 (F := F)) c v39 v63 v65 v95 v97 (B c) (k0_pay22 (B c) (rows256 (A c) (chunk c 1 5)))) Q := by
  rw [k0_part17_eq_skeleton]
  unfold wb k0_part17_skel
  simp only [Prog.lift, Prog.bind_op, Prog.bind_ret, Prog.pure_eq_ret]
  refine stS A B K 1 2 1 (by simp only [k0_pay22, shapeCast_self]; rfl) ?_
  refine step_sendRS A B K 1 1 (offD := (k0_off29 · 2#32 0#32)) ?_
  refine ldA256 A B K (fun c => chunk c 1 4) (off := (k0_off27 · 1#32 2#32 0#32)) ?_
  refine ldSnd A B K 1 3 fun _ => ?_
  refine stS A B K 1 3 2 (by simp only [k0_pay23, shapeCast_self]; rfl) ?_
  refine step_sendRS A B K 2 1 (offD := (k0_off30 · 2#32 0#32)) ?_
  refine ldA256 A B K (fun c => chunk c 2 5) (off := (k0_off25 · 2#32 0#32 1#32)) ?_
  exact wpc_ret h

theorem run18 {c : Dev nD} {Q : _ → sProp 𝕄} {v51 v65 v87 v98 : BitVec 32}
    (h : St A B K c 51 ⊢ Q ⟨⟩) :
    St A B K c 47 ⊢ wpc c (wb (k0_part18 (F := F)) c v51 v65 v87 v98 (B c) (k0_pay24 (B c) (rows256 (A c) (chunk c 2 5)))) Q := by
  rw [k0_part18_eq_skeleton]
  unfold wb k0_part18_skel
  simp only [Prog.lift, Prog.bind_op, Prog.bind_ret, Prog.pure_eq_ret]
  refine ldSnd A B K 2 2 fun _ => ?_
  refine stS A B K 2 2 1 (by simp only [k0_pay24, k0_pay25, shapeCast_self]; rfl) ?_
  refine step_sendRS A B K 1 2 (offD := (k0_off29 · 0#32 1#32)) ?_
  refine ldA256 A B K (fun c => chunk c 2 4) (off := (k0_off27 · 2#32 0#32 1#32)) ?_
  refine ldSnd A B K 2 3 fun _ => ?_
  refine stS A B K 2 3 2 (by simp only [k0_pay26, shapeCast_self]; rfl) ?_
  refine step_sendRS A B K 2 2 (offD := (k0_off30 · 0#32 1#32)) ?_
  exact wpc_ret h

theorem run19 {c : Dev nD} {Q : _ → sProp 𝕄} {v27 v87 v88 v89 : BitVec 32}
    (h : St A B K c 55 ⊢ Q ⟨⟩) :
    St A B K c 51 ⊢ wpc c (wb (k0_part19 (F := F)) c v27 v87 v88 v89 (B c)) Q := by
  rw [k0_part19_eq_skeleton]
  unfold wb k0_part19_skel
  simp only [Prog.lift, Prog.bind_op, Prog.bind_ret, Prog.pure_eq_ret]
  refine ldA512 A B K (fun c => pair (chunk c 0 (accMask false).1)) (off := (k0_off31 · 0#32 1#32)) ?_
  refine ldAcc2 A B K false 0 (off := (k0_off32 ·)) fun _ => ?_
  refine stA A B K false 0 (off := (k0_off32 ·)) (by simp only [k0_pay27, shapeCast_self]; rfl) ?_
  refine ldA512 A B K (fun c => pair (chunk c 1 (accMask false).1)) (off := (k0_off31 · 1#32 2#32)) ?_
  refine ldAcc2 A B K false 1 (off := (k0_off33 ·)) fun _ => ?_
  refine stA A B K false 1 (off := (k0_off33 ·)) (by simp only [k0_pay28, shapeCast_self]; rfl) ?_
  refine ldA512 A B K (fun c => pair (chunk c 2 (accMask false).1)) (off := (k0_off31 · 2#32 0#32)) ?_
  refine ldAcc2 A B K false 2 (off := (k0_off34 ·)) fun _ => ?_
  refine stA A B K false 2 (off := (k0_off34 ·)) (by simp only [k0_pay29, shapeCast_self]; rfl) ?_
  refine waitS A B K (rs 1 0) ?_
  exact wpc_ret h

theorem run20 {c : Dev nD} {Q : _ → sProp 𝕄} {v39 v79 v81 v87 v88 v93 v94 : BitVec 32}
    (h : St A B K c 59 ⊢ Q (k0_pay31 (aval A B c 1 1 1) (sval A B (peer (rs 1 1) c) (rs 1 1)))) :
    St A B K c 55 ⊢ wpc c (wb (k0_part20 (F := F)) c v39 v79 v81 v87 v88 v93 v94) Q := by
  rw [k0_part20_eq_skeleton]
  unfold wb k0_part20_skel
  simp only [Prog.lift, Prog.bind_op, Prog.bind_ret, Prog.pure_eq_ret]
  refine waitR A B K (rs 1 0) ?_
  refine ldAcc A B K 0 1 0 (off := (k0_off35 ·)) ?_
  refine ldRcv A B K 1 0 (off := (k0_off36 ·)) ?_
  refine ldAcc' A B K 0 1 (off := (k0_off35 ·)) fun _ => ?_
  refine upA A B K 0 1 (off := (k0_off35 ·)) (by simp only [k0_pay30, shapeCast_self]; rfl) ?_
  refine waitS A B K (rs 1 1) ?_
  refine waitR A B K (rs 1 1) ?_
  refine ldAcc A B K 1 1 0 (off := (k0_off37 ·)) ?_
  refine ldRcv A B K 1 1 (off := (k0_off38 · 2#32 0#32)) ?_
  exact wpc_ret h

theorem run21 {c : Dev nD} {Q : _ → sProp 𝕄} {v51 v83 v89 v95 : BitVec 32}
    (h : St A B K c 63 ⊢ Q ⟨⟩) :
    St A B K c 59 ⊢ wpc c (wb (k0_part21 (F := F)) c v51 v83 v89 v95 (k0_pay31 (aval A B c 1 1 1) (sval A B (peer (rs 1 1) c) (rs 1 1)))) Q := by
  rw [k0_part21_eq_skeleton]
  unfold wb k0_part21_skel
  simp only [Prog.lift, Prog.bind_op, Prog.bind_ret, Prog.pure_eq_ret]
  refine ldAcc' A B K 1 1 (off := (k0_off37 ·)) fun _ => ?_
  refine upA A B K 1 1 (off := (k0_off37 ·)) (by simp only [k0_pay31, k0_pay32, shapeCast_self]; rfl) ?_
  refine waitS A B K (rs 1 2) ?_
  refine waitR A B K (rs 1 2) ?_
  refine ldAcc A B K 2 1 0 (off := (k0_off39 ·)) ?_
  refine ldRcv A B K 1 2 (off := (k0_off38 · 0#32 1#32)) ?_
  refine ldAcc' A B K 2 1 (off := (k0_off39 ·)) fun _ => ?_
  refine upA A B K 2 1 (off := (k0_off39 ·)) (by simp only [k0_pay33, shapeCast_self]; rfl) ?_
  exact wpc_ret h

end Run

end Cert.Cube
end
-- ==== Proof.RunB.lean ====
/-
# The body, second half

The third stage of the reduce-scatter, the activation, and the all-gather. One line for each operation.
-/
module

public import proofs.«01_k».proof.Proof.RunA

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run

variable (A : Dev nD → Vec F S2048x1024 .bf16) (B : Dev nD → Vec F S1024x2048 .bf16) (K : Dev nD × C → ℕ)

theorem run22 {c : Dev nD} {Q : _ → sProp 𝕄} {v31 v35 v79 v87 : BitVec 32}
    (h : St A B K c 67 ⊢ Q ⟨⟩) :
    St A B K c 63 ⊢ wpc c (wb (k0_part22 (F := F)) c v31 v35 v79 v87) Q := by
  rw [k0_part22_eq_skeleton]
  unfold wb k0_part22_skel
  simp only [Prog.lift, Prog.bind_op, Prog.bind_ret, Prog.pure_eq_ret]
  refine waitS A B K (rs 3 0) ?_
  refine waitR A B K (rs 3 0) ?_
  refine ldAcc A B K 0 1 1 (off := (k0_off35 ·)) ?_
  refine ldRcv A B K 3 0 (off := (k0_off40 ·)) ?_
  refine ldSnd A B K 0 0 fun _ => ?_
  refine stS A B K 0 0 5 (by simp only [k0_pay34, shapeCast_self]; rfl) ?_
  refine step_sendRS A B K 5 0 (offD := fun _ => ![1536, 0]) ?_
  exact wpc_ret h

theorem run23 {c : Dev nD} {Q : _ → sProp 𝕄} {v43 v47 v81 v88 : BitVec 32}
    (h : St A B K c 70 ⊢ Q ⟨⟩) :
    St A B K c 67 ⊢ wpc c (wb (k0_part23 (F := F)) c v43 v47 v81 v88) Q := by
  rw [k0_part23_eq_skeleton]
  unfold wb k0_part23_skel
  simp only [Prog.lift, Prog.bind_op, Prog.bind_ret, Prog.pure_eq_ret]
  refine waitS A B K (rs 3 1) ?_
  refine waitR A B K (rs 3 1) ?_
  refine ldAcc A B K 1 1 1 (off := (k0_off37 ·)) ?_
  refine ldRcv A B K 3 1 (off := (k0_off41 · 0#32)) ?_
  refine ldSnd A B K 1 0 fun _ => ?_
  refine stS A B K 1 0 5 (by simp only [k0_pay35, shapeCast_self]; rfl) ?_
  exact wpc_ret h

theorem run24 {c : Dev nD} {Q : _ → sProp 𝕄} {v55 v59 v83 v89 : BitVec 32}
    (h : St A B K c 74 ⊢ Q ⟨⟩) :
    St A B K c 70 ⊢ wpc c (wb (k0_part24 (F := F)) c v55 v59 v83 v89) Q := by
  rw [k0_part24_eq_skeleton]
  unfold wb k0_part24_skel
  simp only [Prog.lift, Prog.bind_op, Prog.bind_ret, Prog.pure_eq_ret]
  refine step_sendRS A B K 5 1 (offD := fun _ => ![1536, 0]) ?_
  refine waitS A B K (rs 3 2) ?_
  refine waitR A B K (rs 3 2) ?_
  refine ldAcc A B K 2 1 1 (off := (k0_off39 ·)) ?_
  refine ldRcv A B K 3 2 (off := (k0_off41 · 1#32)) ?_
  refine ldSnd A B K 2 0 fun _ => ?_
  refine stS A B K 2 0 5 (by simp only [k0_pay36, shapeCast_self]; rfl) ?_
  exact wpc_ret h

theorem run25 {c : Dev nD} {Q : _ → sProp 𝕄} {v27 v31 : BitVec 32}
    (h : St A B K c 78 ⊢ Q ⟨⟩) :
    St A B K c 74 ⊢ wpc c (wb (k0_part25 (F := F)) c v27 v31) Q := by
  rw [k0_part25_eq_skeleton]
  unfold wb k0_part25_skel
  simp only [Prog.lift, Prog.bind_op, Prog.bind_ret, Prog.pure_eq_ret]
  refine step_sendRS A B K 5 2 (offD := fun _ => ![1536, 0]) ?_
  refine waitS A B K (rs 2 0) ?_
  refine waitR A B K (rs 2 0) ?_
  refine waitS A B K (rs 4 0) ?_
  exact wpc_ret h

theorem run26 {c : Dev nD} {Q : _ → sProp 𝕄} {v39 v84 v90 v96 : BitVec 32}
    (h : St A B K c 82 ⊢ Q ⟨⟩) :
    St A B K c 78 ⊢ wpc c (wb (k0_part26 (F := F)) c v39 v84 v90 v96) Q := by
  rw [k0_part26_eq_skeleton]
  unfold wb k0_part26_skel
  simp only [Prog.lift, Prog.bind_op, Prog.bind_ret, Prog.pure_eq_ret]
  refine waitR A B K (rs 4 0) ?_
  refine ldAcc A B K 0 0 0 (off := (k0_off42 ·)) ?_
  refine ldRcv A B K 2 0 (off := (k0_off43 ·)) ?_
  refine ldRcv A B K 4 0 (off := (k0_off44 ·)) ?_
  refine ldAcc' A B K 0 0 (off := (k0_off42 ·)) fun _ => ?_
  refine upA A B K 0 0 (off := (k0_off42 ·)) (by simp only [k0_pay37, shapeCast_self]; rfl) ?_
  refine waitS A B K (rs 2 1) ?_
  refine waitR A B K (rs 2 1) ?_
  exact wpc_ret h

theorem run27 {c : Dev nD} {Q : _ → sProp 𝕄} {v43 v85 v91 v97 : BitVec 32}
    (h : St A B K c 86 ⊢ Q ⟨⟩) :
    St A B K c 82 ⊢ wpc c (wb (k0_part27 (F := F)) c v43 v85 v91 v97) Q := by
  rw [k0_part27_eq_skeleton]
  unfold wb k0_part27_skel
  simp only [Prog.lift, Prog.bind_op, Prog.bind_ret, Prog.pure_eq_ret]
  refine waitS A B K (rs 4 1) ?_
  refine waitR A B K (rs 4 1) ?_
  refine ldAcc A B K 1 0 0 (off := (k0_off45 ·)) ?_
  refine ldRcv A B K 2 1 (off := (k0_off46 · 2#32 0#32)) ?_
  refine ldRcv A B K 4 1 (off := (k0_off47 · 0#32)) ?_
  refine ldAcc' A B K 1 0 (off := (k0_off45 ·)) fun _ => ?_
  refine upA A B K 1 0 (off := (k0_off45 ·)) (by simp only [k0_pay38, shapeCast_self]; rfl) ?_
  refine waitS A B K (rs 2 2) ?_
  exact wpc_ret h

theorem run28 {c : Dev nD} {Q : _ → sProp 𝕄} {v51 v55 v86 v92 v98 : BitVec 32}
    (h : St A B K c 89 ⊢ Q (k0_pay39 (aval A B c 2 0 1) (sval A B (peer (rs 2 2) c) (rs 2 2)) (sval A B (peer (rs 4 2) c) (rs 4 2)))) :
    St A B K c 86 ⊢ wpc c (wb (k0_part28 (F := F)) c v51 v55 v86 v92 v98) Q := by
  rw [k0_part28_eq_skeleton]
  unfold wb k0_part28_skel
  simp only [Prog.lift, Prog.bind_op, Prog.bind_ret, Prog.pure_eq_ret]
  refine waitR A B K (rs 2 2) ?_
  refine waitS A B K (rs 4 2) ?_
  refine waitR A B K (rs 4 2) ?_
  refine ldAcc A B K 2 0 0 (off := (k0_off48 ·)) ?_
  refine ldRcv A B K 2 2 (off := (k0_off46 · 0#32 1#32)) ?_
  refine ldRcv A B K 4 2 (off := (k0_off47 · 1#32)) ?_
  exact wpc_ret h

theorem run29 {c : Dev nD} {Q : _ → sProp 𝕄} {v35 v90 : BitVec 32}
    (h : St A B K c 92 ⊢ Q (k0_pay41 (aval A B c 0 0 2) (sval A B (peer (rs 5 0) c) (rs 5 0)))) :
    St A B K c 89 ⊢ wpc c (wb (k0_part29 (F := F)) c v35 v90 (k0_pay39 (aval A B c 2 0 1) (sval A B (peer (rs 2 2) c) (rs 2 2)) (sval A B (peer (rs 4 2) c) (rs 4 2)))) Q := by
  rw [k0_part29_eq_skeleton]
  unfold wb k0_part29_skel
  simp only [Prog.lift, Prog.bind_op, Prog.bind_ret, Prog.pure_eq_ret]
  refine ldAcc' A B K 2 0 (off := (k0_off48 ·)) fun _ => ?_
  refine upA A B K 2 0 (off := (k0_off48 ·)) (by simp only [k0_pay39, k0_pay40, shapeCast_self]; rfl) ?_
  refine waitS A B K (rs 5 0) ?_
  refine waitR A B K (rs 5 0) ?_
  refine ldAcc A B K 0 0 1 (off := (k0_off42 ·)) ?_
  refine ldRcv A B K 5 0 (off := fun _ => ![1536, 0]) ?_
  exact wpc_ret h

theorem run30 {c : Dev nD} {Q : _ → sProp 𝕄} {v27 v31 v35 v90 : BitVec 32}
    (h : St A B K c 96 ⊢ Q ⟨⟩) :
    St A B K c 92 ⊢ wpc c (wb (k0_part30 (F := F)) c v27 v31 v35 v90 (k0_pay41 (aval A B c 0 0 2) (sval A B (peer (rs 5 0) c) (rs 5 0)))) Q := by
  rw [k0_part30_eq_skeleton]
  unfold wb k0_part30_skel
  simp only [Prog.lift, Prog.bind_op, Prog.bind_ret, Prog.pure_eq_ret]
  refine ldOb A B K 0 (off := (k0_off42 ·)) fun _ => ?_
  refine stFin A B K 0 (off := (k0_off42 ·)) (by simp only [k0_pay41, k0_pay42, shapeCast_self]; rfl) ?_
  refine step_sendAG A B K 2 0 (offS := (k0_off49 ·)) (offD := (k0_off49 ·)) ?_
  refine step_sendAG A B K 0 0 (offS := (k0_off49 ·)) (offD := (k0_off49 ·)) ?_
  refine step_sendAG A B K 1 0 (offS := (k0_off49 ·)) (offD := (k0_off49 ·)) ?_
  exact wpc_ret h

theorem run31 {c : Dev nD} {Q : _ → sProp 𝕄} {v47 v91 : BitVec 32}
    (h : St A B K c 99 ⊢ Q ⟨⟩) :
    St A B K c 96 ⊢ wpc c (wb (k0_part31 (F := F)) c v47 v91) Q := by
  rw [k0_part31_eq_skeleton]
  unfold wb k0_part31_skel
  simp only [Prog.lift, Prog.bind_op, Prog.bind_ret, Prog.pure_eq_ret]
  refine waitS A B K (rs 5 1) ?_
  refine waitR A B K (rs 5 1) ?_
  refine ldAcc A B K 1 0 1 (off := (k0_off45 ·)) ?_
  refine ldRcv A B K 5 1 (off := fun _ => ![1536, 0]) ?_
  refine ldOb A B K 1 (off := (k0_off45 ·)) fun _ => ?_
  refine stFin A B K 1 (off := (k0_off45 ·)) (by simp only [k0_pay43, shapeCast_self]; rfl) ?_
  exact wpc_ret h

theorem run32 {c : Dev nD} {Q : _ → sProp 𝕄} {v39 v43 v47 : BitVec 32}
    (h : St A B K c 102 ⊢ Q ⟨⟩) :
    St A B K c 99 ⊢ wpc c (wb (k0_part32 (F := F)) c v39 v43 v47) Q := by
  rw [k0_part32_eq_skeleton]
  unfold wb k0_part32_skel
  simp only [Prog.lift, Prog.bind_op, Prog.bind_ret, Prog.pure_eq_ret]
  refine step_sendAG A B K 2 1 (offS := (k0_off50 ·)) (offD := (k0_off50 ·)) ?_
  refine step_sendAG A B K 0 1 (offS := (k0_off50 ·)) (offD := (k0_off50 ·)) ?_
  refine step_sendAG A B K 1 1 (offS := (k0_off50 ·)) (offD := (k0_off50 ·)) ?_
  exact wpc_ret h

theorem run33 {c : Dev nD} {Q : _ → sProp 𝕄} {v51 v59 v92 : BitVec 32}
    (h : St A B K c 105 ⊢ Q ⟨⟩) :
    St A B K c 102 ⊢ wpc c (wb (k0_part33 (F := F)) c v51 v59 v92) Q := by
  rw [k0_part33_eq_skeleton]
  unfold wb k0_part33_skel
  simp only [Prog.lift, Prog.bind_op, Prog.bind_ret, Prog.pure_eq_ret]
  refine waitS A B K (rs 5 2) ?_
  refine waitR A B K (rs 5 2) ?_
  refine ldAcc A B K 2 0 1 (off := (k0_off48 ·)) ?_
  refine ldRcv A B K 5 2 (off := fun _ => ![1536, 0]) ?_
  refine ldOb A B K 2 (off := (k0_off48 ·)) fun _ => ?_
  refine stFin A B K 2 (off := (k0_off48 ·)) (by simp only [k0_pay44, shapeCast_self]; rfl) ?_
  exact wpc_ret h

theorem run34 {c : Dev nD} {Q : _ → sProp 𝕄} {v11 v55 v59 v90 : BitVec 32}
    (h : St A B K c 109 ⊢ Q ⟨⟩) :
    St A B K c 105 ⊢ wpc c (wb (k0_part34 (F := F)) c v11 v55 v59 v90) Q := by
  rw [k0_part34_eq_skeleton]
  unfold wb k0_part34_skel
  simp only [Prog.lift, Prog.bind_op, Prog.bind_ret, Prog.pure_eq_ret]
  refine step_sendAG A B K 2 2 (offS := (k0_off51 ·)) (offD := (k0_off51 ·)) ?_
  refine step_sendAG A B K 0 2 (offS := (k0_off51 ·)) (offD := (k0_off51 ·)) ?_
  refine step_sendAG A B K 1 2 (offS := (k0_off51 ·)) (offD := (k0_off51 ·)) ?_
  refine waitS A B K (ag 0 0) ?_
  exact wpc_ret h

theorem run35 {c : Dev nD} {Q : _ → sProp 𝕄} {v17 v27 v31 v35 v91 : BitVec 32}
    (h : St A B K c 112 ⊢ Q ⟨⟩) :
    St A B K c 109 ⊢ wpc c (wb (k0_part35 (F := F)) c v17 v27 v31 v35 v91) Q := by
  rw [k0_part35_eq_skeleton]
  unfold wb k0_part35_skel
  simp only [Prog.lift, Prog.bind_op, Prog.bind_ret, Prog.pure_eq_ret]
  refine waitR A B K (ag 0 0) ?_
  refine step_sendAG A B K 3 0 (offS := (k0_off52 ·)) (offD := (k0_off52 ·)) ?_
  refine step_sendAG A B K 4 0 (offS := (k0_off52 ·)) (offD := (k0_off52 ·)) ?_
  exact wpc_ret h

theorem run36 {c : Dev nD} {Q : _ → sProp 𝕄} {v23 v39 v43 v47 : BitVec 32}
    (h : ∀ x, St A B K c 116 ⊢ Q x) :
    St A B K c 112 ⊢ wpc c (wb (k0_part36 (F := F)) c v23 v39 v43 v47) Q := by
  rw [k0_part36_eq_skeleton]
  unfold wb k0_part36_skel
  simp only [Prog.lift, Prog.bind_op, Prog.bind_ret, Prog.pure_eq_ret]
  refine waitS A B K (ag 0 1) ?_
  refine waitR A B K (ag 0 1) ?_
  refine step_sendAG A B K 3 1 (offS := (k0_off53 ·)) (offD := (k0_off53 ·)) ?_
  refine step_sendAG A B K 4 1 (offS := (k0_off53 ·)) (offD := (k0_off53 ·)) ?_
  exact wpc_ret (h _)

theorem run37 {c : Dev nD} {Q : _ → sProp 𝕄} {v51 v55 v59 v92 v1084 : BitVec 32}
    (h : St A B K c 119 ⊢ Q ⟨⟩) :
    St A B K c 116 ⊢ wpc c (wb (k0_part37 (F := F)) c v51 v55 v59 v92 v1084) Q := by
  rw [k0_part37_eq_skeleton]
  unfold wb k0_part37_skel
  simp only [Prog.lift, Prog.bind_op, Prog.bind_ret, Prog.pure_eq_ret]
  refine waitS A B K (ag 0 2) ?_
  refine waitR A B K (ag 0 2) ?_
  refine step_sendAG A B K 3 2 (offS := (k0_off54 ·)) (offD := (k0_off54 ·)) ?_
  exact wpc_ret h

theorem run38 {c : Dev nD} {Q : _ → sProp 𝕄} {v9 v15 v27 v31 v90 : BitVec 32}
    (h : ∀ x y, St A B K c 123 ⊢ Q ⟨x, y⟩) :
    St A B K c 119 ⊢ wpc c (wb (k0_part38 (F := F)) c v9 v15 v27 v31 v90) Q := by
  rw [k0_part38_eq_skeleton]
  unfold wb k0_part38_skel
  simp only [Prog.lift, Prog.bind_op, Prog.bind_ret, Prog.pure_eq_ret]
  refine step_sendAG A B K 4 2 (offS := (k0_off54 ·)) (offD := (k0_off54 ·)) ?_
  refine waitS A B K (ag 1 0) ?_
  refine waitR A B K (ag 1 0) ?_
  refine step_sendAG A B K 5 0 (offS := (k0_off55 ·)) (offD := (k0_off55 ·)) ?_
  exact wpc_ret (h _ _)

theorem run39 {c : Dev nD} {Q : _ → sProp 𝕄} {v21 v39 v43 v91 v92 v1136 c512_i32_992 : BitVec 32}
    (h : St A B K c 126 ⊢ Q ⟨⟩) :
    St A B K c 123 ⊢ wpc c (wb (k0_part39 (F := F)) c v21 v39 v43 v91 v92 v1136 c512_i32_992) Q := by
  rw [k0_part39_eq_skeleton]
  unfold wb k0_part39_skel
  simp only [Prog.lift, Prog.bind_op, Prog.bind_ret, Prog.pure_eq_ret]
  refine waitS A B K (ag 1 1) ?_
  refine waitR A B K (ag 1 1) ?_
  refine step_sendAG A B K 5 1 (offS := (k0_off56 ·)) (offD := (k0_off56 ·)) ?_
  exact wpc_ret h

theorem run40 {c : Dev nD} {Q : _ → sProp 𝕄} {v9 v11 v51 v55 v90 : BitVec 32}
    (h : St A B K c 129 ⊢ Q ⟨⟩) :
    St A B K c 126 ⊢ wpc c (wb (k0_part40 (F := F)) c v9 v11 v51 v55 v90) Q := by
  rw [k0_part40_eq_skeleton]
  unfold wb k0_part40_skel
  simp only [Prog.lift, Prog.bind_op, Prog.bind_ret, Prog.pure_eq_ret]
  refine waitS A B K (ag 1 2) ?_
  refine waitR A B K (ag 1 2) ?_
  refine step_sendAG A B K 5 2 (offS := (k0_off57 ·)) (offD := (k0_off57 ·)) ?_
  exact wpc_ret h

theorem run41 {c : Dev nD} {Q : _ → sProp 𝕄} {v15 v17 v27 v31 v91 : BitVec 32}
    (h : St A B K c 132 ⊢ Q ⟨⟩) :
    St A B K c 129 ⊢ wpc c (wb (k0_part41 (F := F)) c v15 v17 v27 v31 v91) Q := by
  rw [k0_part41_eq_skeleton]
  unfold wb k0_part41_skel
  simp only [Prog.lift, Prog.bind_op, Prog.bind_ret, Prog.pure_eq_ret]
  refine waitS A B K (ag 3 0) ?_
  refine waitR A B K (ag 3 0) ?_
  refine step_sendAG A B K 6 0 (offS := (k0_off58 ·)) (offD := (k0_off58 ·)) ?_
  exact wpc_ret h

theorem run42 {c : Dev nD} {Q : _ → sProp 𝕄} {v21 v23 v39 v43 v92 : BitVec 32}
    (h : St A B K c 136 ⊢ Q ⟨⟩) :
    St A B K c 132 ⊢ wpc c (wb (k0_part42 (F := F)) c v21 v23 v39 v43 v92) Q := by
  rw [k0_part42_eq_skeleton]
  unfold wb k0_part42_skel
  simp only [Prog.lift, Prog.bind_op, Prog.bind_ret, Prog.pure_eq_ret]
  refine waitS A B K (ag 3 1) ?_
  refine waitR A B K (ag 3 1) ?_
  refine step_sendAG A B K 6 1 (offS := (k0_off59 ·)) (offD := (k0_off59 ·)) ?_
  refine waitS A B K (ag 3 2) ?_
  exact wpc_ret h

theorem run43 {c : Dev nD} {Q : _ → sProp 𝕄} {v27 v51 v55 : BitVec 32}
    (h : St A B K c 140 ⊢ Q ⟨⟩) :
    St A B K c 136 ⊢ wpc c (wb (k0_part43 (F := F)) c v27 v51 v55) Q := by
  rw [k0_part43_eq_skeleton]
  unfold wb k0_part43_skel
  simp only [Prog.lift, Prog.bind_op, Prog.bind_ret, Prog.pure_eq_ret]
  refine waitR A B K (ag 3 2) ?_
  refine step_sendAG A B K 6 2 (offS := (k0_off60 ·)) (offD := (k0_off60 ·)) ?_
  refine waitS A B K (ag 2 0) ?_
  refine waitR A B K (ag 2 0) ?_
  exact wpc_ret h

theorem run44 {c : Dev nD} {Q : _ → sProp 𝕄} {v27 : BitVec 32}
    (h : St A B K c 144 ⊢ Q ⟨⟩) :
    St A B K c 140 ⊢ wpc c (wb (k0_part44 (F := F)) c v27) Q := by
  rw [k0_part44_eq_skeleton]
  unfold wb k0_part44_skel
  simp only [Prog.lift, Prog.bind_op, Prog.bind_ret, Prog.pure_eq_ret]
  refine waitS A B K (ag 4 0) ?_
  refine waitR A B K (ag 4 0) ?_
  refine waitS A B K (ag 5 0) ?_
  refine waitR A B K (ag 5 0) ?_
  exact wpc_ret h

theorem run45 {c : Dev nD} {Q : _ → sProp 𝕄} {v27 v39 : BitVec 32}
    (h : St A B K c 149 ⊢ Q ⟨⟩) :
    St A B K c 144 ⊢ wpc c (wb (k0_part45 (F := F)) c v27 v39) Q := by
  rw [k0_part45_eq_skeleton]
  unfold wb k0_part45_skel
  simp only [Prog.lift, Prog.bind_op, Prog.bind_ret, Prog.pure_eq_ret]
  refine waitS A B K (ag 6 0) ?_
  refine waitR A B K (ag 6 0) ?_
  refine waitS A B K (ag 2 1) ?_
  refine waitR A B K (ag 2 1) ?_
  refine waitS A B K (ag 4 1) ?_
  exact wpc_ret h

theorem run46 {c : Dev nD} {Q : _ → sProp 𝕄} {v39 : BitVec 32}
    (h : St A B K c 153 ⊢ Q ⟨⟩) :
    St A B K c 149 ⊢ wpc c (wb (k0_part46 (F := F)) c v39) Q := by
  rw [k0_part46_eq_skeleton]
  unfold wb k0_part46_skel
  simp only [Prog.lift, Prog.bind_op, Prog.bind_ret, Prog.pure_eq_ret]
  refine waitR A B K (ag 4 1) ?_
  refine waitS A B K (ag 5 1) ?_
  refine waitR A B K (ag 5 1) ?_
  refine waitS A B K (ag 6 1) ?_
  exact wpc_ret h

theorem run47 {c : Dev nD} {Q : _ → sProp 𝕄} {v51 : BitVec 32}
    (h : St A B K c 157 ⊢ Q ⟨⟩) :
    St A B K c 153 ⊢ wpc c (wb (k0_part47 (F := F)) c v51) Q := by
  rw [k0_part47_eq_skeleton]
  unfold wb k0_part47_skel
  simp only [Prog.lift, Prog.bind_op, Prog.bind_ret, Prog.pure_eq_ret]
  refine waitR A B K (ag 6 1) ?_
  refine waitS A B K (ag 2 2) ?_
  refine waitR A B K (ag 2 2) ?_
  refine waitS A B K (ag 4 2) ?_
  exact wpc_ret h

end Run

end Cert.Cube
end
-- ==== Proof.Body.lean ====
/-
# The body

The entry handshake, and the parts of the body in order.
-/
module

public import proofs.«01_k».proof.Proof.RunB

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run

variable (A : Dev nD → Vec F S2048x1024 .bf16) (B : Dev nD → Vec F S1024x2048 .bf16) (K : Dev nD × C → ℕ)

/-! ## The entry handshake -/

/-- A copy before the handshake: all but the place it lands in. -/
def cpI₀ (c : Dev nD) (j : J) : sProp 𝕄 :=
  iprop(dutyTok ER (sendCell c j) 0 0 ∗ dutyTok ER (recvCell (peer j c) j) 0 0 ∗ atPos ER (sendCell c j) 0 ∅ 0
      ∗ atPos ER (recvCell c j) 0 ∅ 0 ∗ cred (tallyAt (recvCell c j) () (NJ j)))

/-- Everything else, before the first step. -/
def others (c : Dev nD) : sProp 𝕄 :=
  iprop((bigSep Finset.univ fun gk : Fin 3 × Fin 4 => junk (F := F) c (sP gk.1 gk.2))
    ∗ (bigSep Finset.univ fun gm : Fin 3 × Fin 8 => junk (F := F) c (aP gm.1 (chunk c gm.1 gm.2)))
    ∗ (bigSep Finset.univ fun g : Fin 3 => junk (F := F) c (oP g (chunk c g 0))))

/-- What a device starts with: the duties it pays at its neighbours' barriers, its own barrier's units to come, and the
    places on it where copies land, one lot for each neighbour. -/
def Start (c : Dev nD) : sProp 𝕄 :=
  iprop(env A B K ∗ (∃ W, owes (c : Thread nD τ) (O₀ c) W) ∗ has c aM fullShare (A c) ∗ has c bM fullShare (B c)
    ∗ (dutyTok ER (barCell (nb 0 c)) 0 0 ∗ dutyTok ER (barCell (nb 1 c)) 0 1 ∗ dutyTok ER (barCell (nb 2 c)) 0 2)
    ∗ (barPay (F := F) (nb 0 c) 0 ∗ barPay (F := F) (nb 1 c) 1 ∗ barPay (F := F) (nb 2 c) 2)
    ∗ (atPos ER (barCell c) 0 ∅ 0 ∗ cred (tallyAt (barCell c) () 3))
    ∗ (bigSep Finset.univ fun j : J => cpI₀ (F := F) c j) ∗ others (F := F) c)

/-- All the keys, kind by kind. -/
theorem keys_eq (Φ : Key → sProp 𝕄) :
    bigSep Finset.univ Φ = iprop((bigSep Finset.univ fun j => Φ (.cp j)) ∗ (bigSep Finset.univ fun x : Fin 3 × Fin 4 => Φ (.snd x.1 x.2))
      ∗ (bigSep Finset.univ fun x : Fin 3 × Fin 8 => Φ (.acc x.1 x.2)) ∗ (bigSep Finset.univ fun x : Fin 3 × Fin 7 => Φ (.rcv x.1 x.2))
      ∗ (bigSep Finset.univ fun g => Φ (.ob g)) ∗ (bigSep Finset.univ fun x : Fin 3 × Fin 11 => Φ (.sh x.1 x.2))) := by
  rw [bigSep_univ_equiv keyEquiv, bigSep_univ_sum, bigSep_univ_sum, bigSep_univ_sum, bigSep_univ_sum, bigSep_univ_sum]
  rfl

/-- The landing places arrived, the first state is complete. -/
theorem first_state (c : Dev nD) :
    iprop((bigSep Finset.univ fun j : J => junk (F := F) (peer j c) (dstM (peer j c) j))
        ∗ (bigSep Finset.univ fun j : J => cpI₀ (F := F) c j) ∗ others (F := F) c)
      ⊢ bigSep Finset.univ fun k => interp A B c k (stAt 0 k) := by
  rw [keys_eq]
  have e3 : (bigSep Finset.univ fun gs : Fin 3 × Fin 7 => interp A B c (.rcv gs.1 gs.2) (stAt 0 (.rcv gs.1 gs.2)) : sProp 𝕄) = iprop(emp) :=
    bigSep_emp_const _
  have e5 : (bigSep Finset.univ fun gi : Fin 3 × Fin 11 => interp A B c (.sh gi.1 gi.2) (stAt 0 (.sh gi.1 gi.2)) : sProp 𝕄) = iprop(emp) :=
    bigSep_emp_const _
  have hc : iprop((bigSep Finset.univ fun j : J => cpI₀ (F := F) c j) ∗ (bigSep Finset.univ fun j : J => junk (F := F) (peer j c) (dstM (peer j c) j)))
      ⊢ (bigSep Finset.univ fun j => interp A B c (.cp j) (stAt 0 (.cp j)) : sProp 𝕄) := by
    rw [← bigSep_sep']
    refine bigSep_mono fun j _ => ?_
    show iprop(cpI₀ (F := F) c j ∗ junk (F := F) (peer j c) (dstM (peer j c) j)) ⊢ cpI (F := F) c j 0
    rw [cpI_0]
    unfold cpI₀
    iintro ⟨⟨H1, H2, H3, H4, H5⟩, H6⟩
    isplitl [H1]; · iexact H1
    isplitl [H2]; · iexact H2
    isplitl [H3]; · iexact H3
    isplitl [H4]; · iexact H4
    isplitl [H5]; · iexact H5
    iexact H6
  rw [e3, e5]
  unfold others
  iintro ⟨Hj, Hc, Hs, Ha, Ho⟩
  isplitl [Hj Hc]
  · iapply hc
    isplitl [Hc] <;> iassumption
  isplitl [Hs]; · iexact Hs
  isplitl [Ha]; · iexact Ha
  isplitr; · iempintro
  isplitl [Ho]; · iexact Ho
  iempintro

theorem dev_nb : ∀ c : Dev nD, (⟨k0_dev1 c, k0_dev1_lt c⟩ : Dev nD) = nb 0 c ∧ (⟨k0_dev2 c, k0_dev2_lt c⟩ : Dev nD) = nb 1 c
    ∧ (⟨k0_dev3 c, k0_dev3_lt c⟩ : Dev nD) = nb 2 c := by decide +kernel

/-- One unit to a neighbour's barrier. -/
theorem wp_signal_nb (c : Dev nD) (e : Fin 3) (O : CellTallies nD τ sig Unit) (W : Waits sig Unit) {α : Type} {Q : α → sProp 𝕄}
    {k : PUnit → Prog (TpuEff nD τ sig (Elt F) Λ₀ .tc) α} {d : Dev nD} (hd : d = nb e c) :
    iprop(env A B K ∗ owes (c : Thread nD τ) (O + tallyAt (barCell (nb e c)) () 1) W ∗ dutyTok ER (barCell (nb e c)) 0 e
        ∗ barPay (F := F) (nb e c) e)
      ⊢ iprop((owes (c : Thread nD τ) O W -∗ wpc c (k ⟨⟩) Q)
          -∗ wpc c (.op (.semSignal (d : Thread nD τ) barS 1) k) Q) := by
  subst hd
  have hs : iprop(cellInv ER (cubeRd A B) (K (nb e c, none)) (barCell (nb e c)) ∗ owes (c : Thread nD τ) (O + tallyAt (barCell (nb e c)) () 1) W
        ∗ dutyTok ER (barCell (nb e c)) 0 e ∗ barPay (F := F) (nb e c) e ∗ reached ER (barCell (nb e c)) 0)
      ⊢ iprop((owes (c : Thread nD τ) O W -∗ wpc c (k ⟨⟩) Q)
          -∗ wpc c (.op (.semSignal (nb e c : Thread nD τ) barS 1) k) Q) := by
    rw [show barPay (F := F) (nb e c) e = (cubeRd A B).payload (barCell (nb e c)) 0 e from (payload_at A B (nb e c, none) e).symm]
    exact Rounds.wp_signal 𝒱₀ ER (cubeRd A B) (c : Thread nD τ) none (dst := (nb e c : Thread nD τ)) (κ := K (nb e c, none))
      (d := e) (by show e ∈ (cubeRd A B).duties (kcell (nb e c, none)) 0; rw [duties_at]; exact Finset.mem_univ _) (amount_at A B (nb e c, none) e) () O rfl
  iintro ⟨#HE, HO, Ht, Hp⟩
  iapply hs
  isplitr; · iapply (env_inv A B K (nb e c, none)); iexact HE
  isplitl [HO]; · iexact HO
  isplitl [Ht]; · iexact Ht
  isplitl [Hp]; · iexact Hp
  iapply (env_reached A B K (nb e c, none)); iexact HE

/-- The three units from the neighbours, waited for: the places where its copies land, and the counter closed at zero. -/
theorem wp_wait_bar (c : Dev nD) (W : Waits sig Unit) {α : Type} {Q : α → sProp 𝕄}
    {k : PUnit → Prog (TpuEff nD τ sig (Elt F) Λ₀ .tc) α} :
    iprop(env A B K ∗ cred (tallyAt (barCell c) () 3) ∗ owes (c : Thread nD τ) (owedL c acts) W ∗ atPos ER (barCell c) 0 ∅ 0)
      ⊢ iprop((((∃ W, owes (c : Thread nD τ) (owedL c acts) W) ∗ semVal (barCell c) 0
              ∗ bigSep Finset.univ fun j : J => junk (F := F) (peer j c) (dstM (peer j c) j)) -∗ wpc c (k ⟨⟩) Q)
          -∗ wpc c (.op (.semWait barS 3) k) Q) := by
  have hw : iprop(cellInv ER (cubeRd A B) (K (c, none)) (barCell c)
        ∗ cred (tallyAt (barCell c) () 3) ∗ owes (c : Thread nD τ) (owedL c acts) W
        ∗ MayWait (c : Thread nD τ) (csem none) () (owedL c acts) ∗ atPos ER (barCell c) 0 ∅ 0)
      ⊢ iprop(((owes (c : Thread nD τ) (owedL c acts) (insert (csem none, ()) W)
              ∗ atPos ER (barCell c) (0 + 1) ∅ 0 ∗ reached ER (barCell c) (0 + 1)
              ∗ bigSep Finset.univ fun j : J => junk (F := F) (peer j c) (dstM (peer j c) j))
            -∗ wpc c (k ⟨⟩) Q)
          -∗ wpc c (.op (.semWait barS 3) k) Q) := by
    rw [← rest_bar A B c]
    exact Rounds.wp_wait_rest_token 𝒱₀ ER (cubeRd A B) (c : Thread nD τ) none (κ := K (c, none))
      (wpE_semWait_eq 𝒱₀ (c : Thread nD τ) none Set.univ) (Set.mem_univ _) () (O := owedL c acts) (W := W) (R := 0) (m := 0) (T := ∅)
      (by rw [Nat.zero_add]; exact (expect_bar A B c).symm)
  iintro ⟨#HE, Hcr, HO, Ha⟩ Hk
  iapply hw $$ [Hcr HO Ha]
  · isplitr; · iapply (env_inv A B K (c, none)); iexact HE
    isplitl [Hcr]; · iexact Hcr
    isplitl [HO]; · iexact HO
    isplitr
    · iapply (mayWait_owedL c none acts fun j _ => show 1 < 2 + acts.idxOf (.send j) by omega)
      iapply (env_levels A B K); iexact HE
    iexact Ha
  iintro ⟨HO, Ha, -, Hp⟩
  imod (Rounds.cell_close ER (cubeRd A B) (Set.mem_univ (K (c, none))) (fun h => h) (R := 0 + 1) (duties_later A B (barCell c))) $$ [Ha] with Hz
  · isplitr; · iapply (env_inv A B K (c, none)); iexact HE
    iexact Ha
  iapply Hk
  isplitl [HO]; · iexists _; iexact HO
  isplitl [Hz] <;> iassumption

/-- The handshake: the device's landing places given to its neighbours, theirs received. -/
theorem handshake {c : Dev nD} {α : Type} {Q : α → sProp 𝕄} {k : PUnit → Prog (TpuEff nD τ sig (Elt F) Λ₀ .tc) α}
    (h : iprop(semVal (barCell c) 0 ∗ St A B K c 0) ⊢ wpc c (k ⟨⟩) Q) :
    Start A B K c ⊢ wpc c (.op (.semSignal ((⟨k0_dev1 c, k0_dev1_lt c⟩ : Dev nD) : Thread nD τ) barS 1) fun _ =>
      .op (.semSignal ((⟨k0_dev2 c, k0_dev2_lt c⟩ : Dev nD) : Thread nD τ) barS 1) fun _ =>
      .op (.semSignal ((⟨k0_dev3 c, k0_dev3_lt c⟩ : Dev nD) : Thread nD τ) barS 1) fun _ => .op (.semWait barS 3) k) Q := by
  unfold Start
  iintro ⟨#HE, ⟨%W, HO⟩, HA, HB, ⟨Ht0, Ht1, Ht2⟩, ⟨Hp0, Hp1, Hp2⟩, ⟨Hb, Hcr⟩, Hc, Ho⟩
  unfold O₀
  iapply (wp_signal_nb A B K c 0 (O₁ c) W (dev_nb c).1) $$ [HO Ht0 Hp0]
  · isplitr; · iexact HE
    isplitl [HO]; · iexact HO
    isplitl [Ht0] <;> iassumption
  iintro HO
  unfold O₁
  iapply (wp_signal_nb A B K c 1 (O₂ c) W (dev_nb c).2.1) $$ [HO Ht1 Hp1]
  · isplitr; · iexact HE
    isplitl [HO]; · iexact HO
    isplitl [Ht1] <;> iassumption
  iintro HO
  unfold O₂
  iapply (wp_signal_nb A B K c 2 (owedL c acts) W (dev_nb c).2.2) $$ [HO Ht2 Hp2]
  · isplitr; · iexact HE
    isplitl [HO]; · iexact HO
    isplitl [Ht2] <;> iassumption
  iintro HO
  iapply (wp_wait_bar A B K c W) $$ [HO Hcr Hb]
  · isplitr; · iexact HE
    isplitl [Hcr]; · iexact Hcr
    isplitl [HO] <;> iassumption
  iintro ⟨HO, Hz, Hj⟩
  iapply h
  isplitl [Hz]; · iexact Hz
  unfold St
  isplitr; · iexact HE
  isplitl [HO]; · iexact HO
  isplitl [HA]; · iexact HA
  isplitl [HB]; · iexact HB
  iapply (first_state A B c)
  isplitl [Hj]; · iexact Hj
  isplitl [Hc] <;> iassumption

/-! ## The whole body -/

theorem bindWp {c : Dev nD} {α β : Type} {P : sProp 𝕄} {Q : β → sProp 𝕄} {p : Prog (TpuEff nD τ sig (Elt F) Λ₀ .tc) α}
    {k : α → Prog (TpuEff nD τ sig (Elt F) Λ₀ .tc) β} (h : P ⊢ wpc c p (fun x => wpc c (k x) Q)) : P ⊢ wpc c (p >>= k) Q := by
  rw [wpc, wp_bind]; exact h

/-- A program before which something is put aside. -/
theorem aside {c : Dev nD} {α : Type} {P R : sProp 𝕄} {Q : α → sProp 𝕄} {p : Prog (TpuEff nD τ sig (Elt F) Λ₀ .tc) α}
    (h : P ⊢ wpc c p Q) : iprop(R ∗ P) ⊢ wpc c p (fun x => iprop(R ∗ Q x)) := by
  have hf : iprop(R ∗ wpc c p Q) ⊢ wpc c p (fun x => iprop(R ∗ Q x)) := wp_frame_l _ _ _
  exact (sep_mono_right h).trans hf

theorem pay1_self (v : Vec F S1024x2048 .bf16) : k0_pay1 v = v := by
  simp only [k0_pay1, shapeCast_self]

/-- The handshake and the first stored chunk. -/
theorem run4 {c : Dev nD} {Q : _ → sProp 𝕄} {v5 v61 v70 v79 w1 w2 : BitVec 32}
    (h : St A B K c 1 ⊢ Q (B c)) :
    Start A B K c ⊢ wpc c (wb (k0_part4 (F := F)) c v5 v61 v70 v79 (SemArray.scalar (sig.barrier 0 rfl)) w1 w2) (fun x => iprop(semVal (barCell c) 0 ∗ Q x)) := by
  rw [k0_part4_eq_skeleton]
  unfold wb k0_part4_skel
  simp only [semSignalWord, semWaitWord, Prog.lift, Prog.bind_op, Prog.bind_ret, Prog.pure_eq_ret]
  refine handshake A B K (aside ?_)
  refine ldB A B K ?_
  refine ldA256 A B K (fun c => chunk c 0 7) (off := (k0_off1 · 0#32 1#32 2#32)) ?_
  refine ldSnd A B K 0 0 fun _ => ?_
  refine stS A B K 0 0 0 (by simp only [k0_pay2, k0_pay1, shapeCast_self]; rfl) ?_
  exact wpc_ret (by rw [pay1_self]; exact h)

/-- A part run with something put aside, what follows it run without. -/
theorem bindAside {c : Dev nD} {α β : Type} {P R : sProp 𝕄} {Q : β → sProp 𝕄} {p : Prog (TpuEff nD τ sig (Elt F) Λ₀ .tc) α}
    {k : α → Prog (TpuEff nD τ sig (Elt F) Λ₀ .tc) β} (h : P ⊢ wpc c p (fun x => iprop(R ∗ wpc c (k x) Q))) :
    P ⊢ wpc c (p >>= k) (fun x => iprop(R ∗ Q x)) := by
  refine bindWp (h.trans ?_)
  have hm : ∀ x, iprop(R ∗ wpc c (k x) Q) ⊢ wpc c (k x) (fun y => iprop(R ∗ Q y)) := fun x => aside (BI.Entails.refl _)
  exact wp_mono _ _ _ hm

theorem wpc_dev {c : Dev nD} {α : Type} {P : sProp 𝕄} {Q : α → sProp 𝕄} {k : Dev nD → Prog (TpuEff nD τ sig (Elt F) Λ₀ .tc) α}
    (h : P ⊢ wpc c (k c) Q) : P ⊢ wpc c (.op .deviceId k) Q := by
  rw [wpc, wp_deviceId]; exact h

theorem run1 {c : Dev nD} {P : sProp 𝕄} {Q : _ → sProp 𝕄} (h : ∀ x, P ⊢ Q ⟨c, x⟩) : P ⊢ wpc c (wb (k0_part1 (F := F))) Q := by
  rw [k0_part1_eq_skeleton]
  unfold wb k0_part1_skel
  refine bindWp (wpc_dev (wpc_ret ?_))
  exact wpc_ret (h _)

theorem run2 {c : Dev nD} {P : sProp 𝕄} {Q : _ → sProp 𝕄} {v5 v7 v13 v19 v28 v30 : BitVec 32} (h : ∀ x, P ⊢ Q x) :
    P ⊢ wpc c (wb (k0_part2 (F := F)) v5 v7 v13 v19 v28 v30) Q := by
  rw [k0_part2_eq_skeleton]
  exact wpc_ret (h _)

theorem run3 {c : Dev nD} {P : sProp 𝕄} {Q : _ → sProp 𝕄} {v5 v7 v9 v11 v13 v15 v17 v19 v21 v23 v64 : BitVec 32}
    (h : ∀ v65 v66 v67 v68 v70 v72 v74 v79 v81 v83 v84 v85 v86 v87 v88 v89 v90 v91 v92 v93 v94 v95 v96 v97 v98 v100 w, P ⊢ Q ⟨v65, v66, v67, v68, v70, v72, v74, v79, v81, v83, v84, v85, v86, v87, v88, v89, v90, v91, v92, v93, v94, v95, v96, v97, v98, SemArray.scalar (sig.barrier 0 rfl), v100, w⟩) :
    P ⊢ wpc c (wb (k0_part3 (F := F)) v5 v7 v9 v11 v13 v15 v17 v19 v21 v23 v64) Q := by
  rw [k0_part3_eq_skeleton]
  exact wpc_ret (h _ _ _ _ _ _ _ _ _ _ _ _ _ _ _ _ _ _ _ _ _ _ _ _ _ _ _)

/-- The parts of the body in order. -/
theorem run48 {c : Dev nD} {Q : _ → sProp 𝕄} (h : ∀ x, St A B K c 159 ⊢ Q ⟨c, x⟩) :
    Start A B K c ⊢ wpc c (wb (k0_part48 (F := F))) (fun x => iprop(semVal (barCell c) 0 ∗ Q x)) := by
  rw [k0_part48_eq_skeleton]
  unfold wb k0_part48_skel
  refine bindWp (run1 ?_)
  rintro ⟨v5, v7, v9, v11, v13, v15, v17, v19, v21, v23, v27, v28, v30⟩
  refine bindWp (run2 ?_)
  rintro ⟨v31, v35, v39, v43, v47, v51, v55, v59, v61, v63, v64⟩
  refine bindWp (run3 fun v65 v66 v67 v68 v70 v72 v74 v79 v81 v83 v84 v85 v86 v87 v88 v89 v90 v91 v92 v93 v94 v95 v96 v97 v98 v100 w => ?_)
  refine bindAside ?_
  refine run4 A B K ?_
  refine bindWp (run5 A B K ?_)
  refine bindWp (run6 A B K ?_)
  refine bindWp (run7 A B K fun _ => ?_)
  refine bindWp (run8 A B K ?_)
  refine bindWp (run9 A B K ?_)
  refine bindWp (run10 A B K fun _ => ?_)
  refine bindWp (run11 A B K fun _ => ?_)
  refine bindWp (run12 A B K ?_)
  refine bindWp (run13 A B K ?_)
  refine bindWp (run14 A B K ?_)
  refine bindWp (run15 A B K fun _ => ?_)
  refine bindWp (run16 A B K ?_)
  refine bindWp (run17 A B K ?_)
  refine bindWp (run18 A B K ?_)
  refine bindWp (run19 A B K ?_)
  refine bindWp (run20 A B K ?_)
  refine bindWp (run21 A B K ?_)
  refine bindWp (run22 A B K ?_)
  refine bindWp (run23 A B K ?_)
  refine bindWp (run24 A B K ?_)
  refine bindWp (run25 A B K ?_)
  refine bindWp (run26 A B K ?_)
  refine bindWp (run27 A B K ?_)
  refine bindWp (run28 A B K ?_)
  refine bindWp (run29 A B K ?_)
  refine bindWp (run30 A B K ?_)
  refine bindWp (run31 A B K ?_)
  refine bindWp (run32 A B K ?_)
  refine bindWp (run33 A B K ?_)
  refine bindWp (run34 A B K ?_)
  refine bindWp (run35 A B K ?_)
  refine bindWp (run36 A B K fun _ => ?_)
  refine bindWp (run37 A B K ?_)
  refine bindWp (run38 A B K fun _ _ => ?_)
  refine bindWp (run39 A B K ?_)
  refine bindWp (run40 A B K ?_)
  refine bindWp (run41 A B K ?_)
  refine bindWp (run42 A B K ?_)
  refine bindWp (run43 A B K ?_)
  refine bindWp (run44 A B K ?_)
  refine bindWp (run45 A B K ?_)
  refine bindWp (run46 A B K ?_)
  refine bindWp (run47 A B K ?_)
  refine waitR A B K (ag 4 2) ?_
  refine waitS A B K (ag 5 2) ?_
  exact wpc_ret (h _)

/-- The body, from what a device starts with to the last state. -/
theorem run_body {c : Dev nD} :
    Start A B K c ⊢ wpc c (wb (cc0_body (F := F))) (fun _ => iprop(semVal (barCell c) 0 ∗ St A B K c 162)) := by
  rw [cc0_body_eq_skeleton]
  unfold wb cc0_body_skel
  refine bindAside (run48 A B K fun x => ?_)
  refine waitR A B K (ag 5 2) ?_
  refine waitS A B K (ag 6 2) ?_
  refine waitR A B K (ag 6 2) ?_
  exact wpc_ret (BI.Entails.refl _)

end Run

end Cert.Cube
end
-- ==== Proof.Pieces.lean ====
/-
# The buffers whole and in pieces

A device's buffers are handed to it whole and given back whole; in between they are held in pieces.
-/
module

public import proofs.«01_k».proof.Proof.Body

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cutting and joining -/

/-- One array out of its parts on a covering family of rectangles without overlaps. -/
theorem glue {sh : Shape} {X : Type} {T : Type} [Fintype T] (r : T → Rect sh)
    (hd : ∀ t t', t ≠ t' → Disjoint (r t).set (r t').set)
    (hcov : ∀ i, ∃ t, i ∈ (r t).set)
    (f : (t : T) → (r t).shape.Idx → X) : ∃ Y : sh.Idx → X, ∀ t j, Y ((r t).emb j) = f t j := by
  have h : ∀ i, ∃ v, ∀ t j, (r t).emb j = i → f t j = v := by
    intro i
    obtain ⟨t₀, ht₀⟩ := hcov i
    rw [← Rect.map_emb_univ, Finset.mem_map] at ht₀
    obtain ⟨j₀, -, rfl⟩ := ht₀
    refine ⟨f t₀ j₀, fun t j e => ?_⟩
    have ht : t = t₀ := by
      by_contra hn
      have h1 : (r t).emb j ∈ (r t).set := by rw [← Rect.map_emb_univ]; exact Finset.mem_map_of_mem _ (Finset.mem_univ _)
      have h2 : (r t).emb j ∈ (r t₀).set := by rw [e, ← Rect.map_emb_univ]; exact Finset.mem_map_of_mem _ (Finset.mem_univ _)
      exact Finset.disjoint_left.mp (hd t t₀ hn) h1 h2
    subst ht
    rw [(r t).emb.injective e]
  choose Y hY using h
  exact ⟨Y, fun t j => (hY _ t j rfl).symm⟩

section Cut

variable {sh : Shape} {e : EltTy} (m : Memref sig .tc .vmem sh e)
  {T : Type} [Fintype T] [DecidableEq T] (r : T → Rect sh) (hr : ∀ t a, (r t).stride a = 1)
  (hd : ∀ t t', t ≠ t' → Disjoint (r t).set (r t').set)
  (hcov : ∀ i, ∃ t, i ∈ (r t).set)

theorem cover_of {sh : Shape} {T : Type} [Fintype T] {r : T → Rect sh} (hcov : ∀ i, ∃ t, i ∈ (r t).set) :
    (Finset.univ : Finset T).biUnion (fun t => (r t).set) = Finset.univ := by
  classical
  ext i
  simp only [Finset.mem_biUnion, Finset.mem_univ, true_and, iff_true]
  exact hcov i

/-- A buffer at some contents is its pieces at some contents, -/
theorem cut (c : Dev nD) (h₁ : ∀ t t', t ≠ t' → Disjoint (r t).set (r t').set) (h₂ : ∀ i, ∃ t, i ∈ (r t).set) :
    junk (F := F) c m ⊢ bigSep Finset.univ fun t => junk (F := F) c (m.slice (r t) (hr t)) := by
  have h : ∀ X : Vec F sh e, (has c m fullShare X : sProp 𝕄) ⊢ bigSep Finset.univ fun t => junk (F := F) c (m.slice (r t) (hr t)) := by
    intro X
    refine (owns_rects (c : Thread nD τ) m fullShare r hr h₁ (cover_of h₂) X).trans (bigSep_mono fun t _ => ?_)
    show _ ⊢ iprop(∃ X, has c (m.slice (r t) (hr t)) fullShare X)
    iintro H
    iexists _
    iexact H
  show iprop(∃ X, has c m fullShare X) ⊢ _
  iintro ⟨%X, H⟩
  iapply (h X)
  iexact H

/-- and back: its pieces at given contents, -/
theorem join (c : Dev nD) (h₁ : ∀ t t', t ≠ t' → Disjoint (r t).set (r t').set) (h₂ : ∀ i, ∃ t, i ∈ (r t).set)
    (f : (t : T) → (r t).shape.Idx → Elt F e) (Y : Vec F sh e) (hY : ∀ t j, Y ((r t).emb j) = f t j) :
    (bigSep Finset.univ fun t => has c (m.slice (r t) (hr t)) fullShare (f t) : sProp 𝕄) ⊢ has c m fullShare Y := by
  rw [show f = fun t j => Y ((r t).emb j) from funext fun t => funext fun j => (hY t j).symm]
  exact owns_of_rects (c : Thread nD τ) m fullShare r hr h₁ (cover_of h₂) Y

/-- or at any. -/
theorem join_junk (c : Dev nD) (h₁ : ∀ t t', t ≠ t' → Disjoint (r t).set (r t').set) (h₂ : ∀ i, ∃ t, i ∈ (r t).set) :
    (bigSep Finset.univ fun t => junk (F := F) c (m.slice (r t) (hr t)) : sProp 𝕄) ⊢ junk (F := F) c m := by
  have h : (bigSep Finset.univ fun t => junk (F := F) c (m.slice (r t) (hr t)) : sProp 𝕄)
      ⊢ iprop(∃ f : (t : T) → (r t).shape.Idx → Elt F e, bigSep Finset.univ fun t => has c (m.slice (r t) (hr t)) fullShare (f t)) :=
    BI.bigSep_exists_pi Finset.univ (fun (t : T) (X : (r t).shape.Idx → Elt F e) => (has c (m.slice (r t) (hr t)) fullShare X : sProp 𝕄))
  refine h.trans ?_
  show _ ⊢ iprop(∃ X, has c m fullShare X)
  iintro ⟨%f, H⟩
  obtain ⟨Y, hY⟩ := glue r h₁ h₂ f
  iexists Y
  iapply (join m r hr c h₁ h₂ f Y hY)
  iexact H

end Cut

/-! ## The families -/

theorem famS_disj (g : Fin 3) (k k' : Fin 4) (h : k ≠ k') : Disjoint (rectS g k).set (rectS g k').set := by
  refine Rect.unit_disjoint (0 : Fin 2) ?_
  show 256 * k.val + 256 ≤ 256 * k'.val ∨ 256 * k'.val + 256 ≤ 256 * k.val
  have : k.val ≠ k'.val := fun e => h (Fin.ext e)
  omega
theorem famS_cov (g : Fin 3) (i : (SS g).Idx) : ∃ k, i ∈ (rectS g k).set := by
  have h0 : (i 0).val < 1024 := (i 0).isLt
  have h1 : (i 1).val < W g := (i 1).isLt
  refine ⟨⟨(i 0).val / 256, by omega⟩, ?_⟩
  rw [Rect.mem_set_unit, Fin.forall_fin_two]
  show (256 * ((i 0).val / 256) ≤ (i 0).val ∧ (i 0).val < 256 * ((i 0).val / 256) + 256) ∧ (0 ≤ (i 1).val ∧ (i 1).val < 0 + W g)
  omega

theorem famR_disj (g : Fin 3) (k k' : Fin 7) (h : k ≠ k') : Disjoint (rectR g k).set (rectR g k').set := by
  refine Rect.unit_disjoint (0 : Fin 2) ?_
  show 256 * k.val + 256 ≤ 256 * k'.val ∨ 256 * k'.val + 256 ≤ 256 * k.val
  have : k.val ≠ k'.val := fun e => h (Fin.ext e)
  omega
theorem famR_cov (g : Fin 3) (i : (SR g).Idx) : ∃ k, i ∈ (rectR g k).set := by
  have h0 : (i 0).val < 1792 := (i 0).isLt
  have h1 : (i 1).val < W g := (i 1).isLt
  refine ⟨⟨(i 0).val / 256, by omega⟩, ?_⟩
  rw [Rect.mem_set_unit, Fin.forall_fin_two]
  show (256 * ((i 0).val / 256) ≤ (i 0).val ∧ (i 0).val < 256 * ((i 0).val / 256) + 256) ∧ (0 ≤ (i 1).val ∧ (i 1).val < 0 + W g)
  omega

abbrev rectGK (x : Fin 3 × Fin 8) : Rect S2048x2048 := rectC x.1 x.2

theorem col_apart : ∀ g g' : Fin 3, g ≠ g' → col g + W g ≤ col g' ∨ col g' + W g' ≤ col g := by decide
theorem famC_disj (x y : Fin 3 × Fin 8) (h : x ≠ y) : Disjoint (rectGK x).set (rectGK y).set := by
  obtain ⟨g, k⟩ := x
  obtain ⟨g', k'⟩ := y
  by_cases hg : g = g'
  · subst hg
    exact rectC_disj g k k' fun e => h (by rw [e])
  · exact Rect.unit_disjoint (1 : Fin 2) (col_apart g g' hg)
theorem famC_cov (i : S2048x2048.Idx) : ∃ x, i ∈ (rectGK x).set := by
  have h0 : (i 0).val < 2048 := (i 0).isLt
  have h1 : (i 1).val < 2048 := (i 1).isLt
  have hg : ∃ g : Fin 3, col g ≤ (i 1).val ∧ (i 1).val < col g + W g := by
    by_cases h : (i 1).val < 768
    · exact ⟨0, Nat.zero_le _, show (i 1).val < 0 + 768 by omega⟩
    · by_cases h' : (i 1).val < 1408
      · exact ⟨1, show 768 ≤ (i 1).val by omega, show (i 1).val < 768 + 640 by omega⟩
      · exact ⟨2, show 1408 ≤ (i 1).val by omega, show (i 1).val < 1408 + 640 by omega⟩
  obtain ⟨g, hg⟩ := hg
  refine ⟨(g, ⟨(i 0).val / 256, by omega⟩), ?_⟩
  rw [Rect.mem_set_unit, Fin.forall_fin_two]
  refine ⟨?_, hg⟩
  show 256 * ((i 0).val / 256) ≤ (i 0).val ∧ (i 0).val < 256 * ((i 0).val / 256) + 256
  omega

/-- The finished chunks together: the result, the same on every device. -/
def OUT (A : Dev nD → Vec F S2048x1024 .bf16) (B : Dev nD → Vec F S1024x2048 .bf16) : Vec F S2048x2048 .bf16 :=
  Classical.choose (glue rectGK famC_disj famC_cov (fun x => fin A B x.1 x.2))
theorem OUT_emb (A : Dev nD → Vec F S2048x1024 .bf16) (B : Dev nD → Vec F S1024x2048 .bf16) (x : Fin 3 × Fin 8) (j : (SP x.1).Idx) :
    OUT A B ((rectC x.1 x.2).emb j) = fin A B x.1 x.2 j :=
  Classical.choose_spec (glue rectGK famC_disj famC_cov (fun x => fin A B x.1 x.2)) x j

/-! ## The families by distance from a device's own chunk -/

/-- Chunks by their distance from the device's own. -/
theorem by_chunk (c : Dev nD) (Φ : Fin 3 → Fin 8 → sProp 𝕄) :
    (bigSep Finset.univ fun x : Fin 3 × Fin 8 => Φ x.1 x.2) = bigSep Finset.univ fun x : Fin 3 × Fin 8 => Φ x.1 (chunk c x.1 x.2) := by
  rw [bigSep_univ_prod, bigSep_univ_prod]
  exact bigSep_congr fun g _ => bigSep_univ_equiv (chunkEquiv c g) _
theorem by_recv (c : Dev nD) (Φ : Fin 3 → Fin 7 → sProp 𝕄) :
    (bigSep Finset.univ fun x : Fin 3 × Fin 7 => Φ x.1 x.2) = bigSep Finset.univ fun x : Fin 3 × Fin 7 => Φ x.1 (recvChunk x.2 c x.1) := by
  rw [bigSep_univ_prod, bigSep_univ_prod]
  exact bigSep_congr fun g _ => bigSep_univ_equiv (recvEquiv c g) _

/-- The eight distances: one's own, and the seven that arrive. -/
theorem own_and_got (Φ : Fin 8 → sProp 𝕄) : bigSep Finset.univ Φ = iprop(Φ 0 ∗ bigSep Finset.univ fun s => Φ (gotMask s)) := by
  rw [bigSep_univ_eq_bigSepL [0, 1, 2, 4, 3, 5, 6, 7] (by decide) (by decide) Φ,
    bigSep_univ_eq_bigSepL [0, 1, 2, 3, 4, 5, 6] (by decide) (by decide) (fun s => Φ (gotMask s))]
  rfl

/-- The copies, by kind. -/
theorem by_kind (Φ : J → sProp 𝕄) : bigSep Finset.univ Φ = iprop((bigSep Finset.univ fun x : Fin 3 × Fin 7 => Φ (rs x.2 x.1))
    ∗ (bigSep Finset.univ fun x : Fin 3 × Fin 7 => Φ (ag x.2 x.1))) := by
  rw [bigSep_univ_prod, bigSep_univ_eq_bigSepL [false, true] (by decide) (by decide)]
  show iprop((bigSep Finset.univ fun x : Fin 7 × Fin 3 => Φ (false, x)) ∗ bigSep Finset.univ fun x : Fin 7 × Fin 3 => Φ (true, x)) = _
  rw [bigSep_univ_equiv (Equiv.prodComm (Fin 3) (Fin 7)) (fun x => Φ (false, x)), bigSep_univ_equiv (Equiv.prodComm (Fin 3) (Fin 7)) (fun x => Φ (true, x))]
  rfl

/-- All the places on a device where copies land: the three lots. -/
theorem lots (c : Dev nD) : (bigSep Finset.univ fun j : J => junk (F := F) c (dstM c j) : sProp 𝕄)
    = iprop(barPay (F := F) (nb 0 c) 0 ∗ barPay (F := F) (nb 1 c) 1 ∗ barPay (F := F) (nb 2 c) 2) := by
  have h : ∀ e, barPay (F := F) (nb e c) e = bigSep (Finset.univ.filter fun j : J => dirJ j = e) fun j => junk (F := F) c (dstM c j) := by
    intro e
    unfold barPay
    rw [nb_nb]
  rw [h, h, h, bigSep_fiberwise Finset.univ dirJ, show Finset.univ.image dirJ = Finset.univ by decide]
  exact bigSep_univ_eq_bigSepL [0, 1, 2] (by decide) (by decide) _

/-! ## At launch -/

/-- A device's buffers whole, at whatever they hold, -/
def whole (c : Dev nD) : sProp 𝕄 :=
  iprop(junk (F := F) c accM ∗ (bigSep Finset.univ fun g : Fin 3 => junk (F := F) c (sM g))
    ∗ (bigSep Finset.univ fun g : Fin 3 => junk (F := F) c (rM g)) ∗ junk (F := F) c outM)

/-- are the pieces its body starts with. -/
theorem cut_all (c : Dev nD) :
    whole (F := F) c ⊢ iprop((barPay (F := F) (nb 0 c) 0 ∗ barPay (F := F) (nb 1 c) 1 ∗ barPay (F := F) (nb 2 c) 2) ∗ others (F := F) c) := by
  have hs : (bigSep Finset.univ fun g : Fin 3 => junk (F := F) c (sM g) : sProp 𝕄)
      ⊢ bigSep Finset.univ fun x : Fin 3 × Fin 4 => junk (F := F) c (sP x.1 x.2) := by
    rw [bigSep_univ_prod]
    exact bigSep_mono fun g _ => cut (sM g) (rectS g) (fun _ _ => rfl) c (famS_disj g) (famS_cov g)
  have hr : (bigSep Finset.univ fun g : Fin 3 => junk (F := F) c (rM g) : sProp 𝕄)
      ⊢ bigSep Finset.univ fun x : Fin 3 × Fin 7 => junk (F := F) c (rP x.1 (recvChunk x.2 c x.1)) := by
    rw [← by_recv c fun g k => junk (F := F) c (rP g k), bigSep_univ_prod]
    exact bigSep_mono fun g _ => cut (rM g) (rectR g) (fun _ _ => rfl) c (famR_disj g) (famR_cov g)
  have ha : (junk (F := F) c accM : sProp 𝕄) ⊢ bigSep Finset.univ fun x : Fin 3 × Fin 8 => junk (F := F) c (aP x.1 (chunk c x.1 x.2)) := by
    rw [← by_chunk c fun g k => junk (F := F) c (aP g k)]
    exact cut accM rectGK (fun _ _ => rfl) c famC_disj famC_cov
  have ho : (junk (F := F) c outM : sProp 𝕄) ⊢ iprop((bigSep Finset.univ fun g => junk (F := F) c (oP g (chunk c g 0)))
      ∗ bigSep Finset.univ fun x : Fin 3 × Fin 7 => junk (F := F) c (oP x.1 (chunk c x.1 (gotMask x.2)))) := by
    rw [bigSep_univ_prod, ← bigSep_sep']
    have e : (bigSep Finset.univ fun g : Fin 3 => iprop(junk (F := F) c (oP g (chunk c g 0)) ∗ bigSep Finset.univ fun s : Fin 7 => junk (F := F) c (oP g (chunk c g (gotMask s)))) : sProp 𝕄)
        = bigSep Finset.univ fun x : Fin 3 × Fin 8 => junk (F := F) c (oP x.1 (chunk c x.1 x.2)) := by
      rw [bigSep_univ_prod]
      exact bigSep_congr fun g _ => (own_and_got fun k => junk (F := F) c (oP g (chunk c g k))).symm
    rw [e, ← by_chunk c fun g k => junk (F := F) c (oP g k)]
    exact cut outM rectGK (fun _ _ => rfl) c famC_disj famC_cov
  unfold whole others
  rw [← lots, by_kind]
  iintro ⟨Ha, Hs, Hr, Ho⟩
  ihave Ho := ho $$ Ho
  icases Ho with ⟨Ho, Hg⟩
  isplitl [Hr Hg]
  · isplitl [Hr]
    · iapply hr; iexact Hr
    · iexact Hg
  isplitl [Hs]; · iapply hs; iexact Hs
  isplitl [Ha]; · iapply ha; iexact Ha
  iexact Ho

/-! ## At the end -/

theorem end_cp : ∀ j : J, stAt 162 (.cp j) = 3 := by decide +kernel
theorem end_snd : ∀ x : Fin 3 × Fin 4, stAt 162 (.snd x.1 x.2) ≠ 0 := by decide +kernel
theorem end_rcv : ∀ x : Fin 3 × Fin 7, stAt 162 (.rcv x.1 x.2) = 1 := by decide +kernel
theorem end_sh : ∀ x : Fin 3 × Fin 11, stAt 162 (.sh x.1 x.2) = 1 := by decide +kernel

section End

variable (A : Dev nD → Vec F S2048x1024 .bf16) (B : Dev nD → Vec F S1024x2048 .bf16)

theorem has_junk {c : Dev nD} {s : Shape} {e : EltTy} {p : Memref sig .tc .vmem s e} {X : Vec F s e} :
    (has c p fullShare X : sProp 𝕄) ⊢ junk (F := F) c p := by
  show _ ⊢ iprop(∃ X, has c p fullShare X)
  iintro H
  iexists _
  iexact H

theorem snd_junk (c : Dev nD) (g : Fin 3) (k : Fin 4) (n : ℕ) (hn : n ≠ 0) : sndI A B c g k n ⊢ junk (F := F) c (sP g k) := by
  rcases n with - | - | n
  · exact absurd rfl hn
  · exact BI.Entails.refl _
  · exact has_junk
theorem acc_junk (c : Dev nD) (g : Fin 3) (k : Fin 8) (n : ℕ) : accI A B c g k n ⊢ junk (F := F) c (aP g (chunk c g k)) := by
  rcases n with - | n
  · exact BI.Entails.refl _
  · exact has_junk

/-- The holdings of a finished chunk, put together. -/
theorem sh_join (c : Dev nD) (g : Fin 3) :
    (bigSep Finset.univ fun i : Fin 11 => interp A B c (.sh g i) 1 : sProp 𝕄)
      ⊢ bigSep Finset.univ fun m : Fin 8 => has c (oP g (chunk c g m)) fullShare (fin A B g (chunk c g m)) := by
  rw [bigSep_univ_eq_bigSepL [0, 1, 2, 3, 4, 5, 6, 7, 8, 9, 10] (by decide) (by decide),
    bigSep_univ_eq_bigSepL [0, 1, 2, 3, 4, 5, 6, 7] (by decide) (by decide)]
  have hh : ∀ (q : PosShare TreeShare) (m : Fin 8), iprop(has c (oP g (chunk c g m)) q.left (fin A B g (chunk c g m))
      ∗ has c (oP g (chunk c g m)) q.right (fin A B g (chunk c g m))) ⊢ (has c (oP g (chunk c g m)) q (fin A B g (chunk c g m)) : sProp 𝕄) :=
    fun q m => (owns_halves (Val := Elt F) (Ix := Unit) (Name := ℕ) (U := UU) (Lvl := ℕ) (c : Thread nD τ) (oP g (chunk c g m)) q (fin A B g (chunk c g m))).2
  let P (q : PosShare TreeShare) (m : Fin 8) : sProp 𝕄 := has c (oP g (chunk c g m)) q (fin A B g (chunk c g m))
  show iprop(P (fullShare : PosShare TreeShare).left 0 ∗ P (fullShare : PosShare TreeShare).right.left 0 ∗ P (fullShare : PosShare TreeShare).right.right 0
      ∗ P (fullShare : PosShare TreeShare).left 1 ∗ P (fullShare : PosShare TreeShare).right 1 ∗ P fullShare 2 ∗ P fullShare 3 ∗ P fullShare 4 ∗ P fullShare 5
      ∗ P fullShare 6 ∗ P fullShare 7)
    ⊢ iprop(P fullShare 0 ∗ P fullShare 1 ∗ P fullShare 2 ∗ P fullShare 3 ∗ P fullShare 4 ∗ P fullShare 5 ∗ P fullShare 6 ∗ P fullShare 7)
  iintro ⟨H0, H1, H2, H3, H4, H⟩
  isplitl [H0 H1 H2]
  · iapply (hh _ 0)
    isplitl [H0]; · iexact H0
    iapply (hh _ 0)
    isplitl [H1] <;> iassumption
  isplitl [H3 H4]
  · iapply (hh _ 1)
    isplitl [H3] <;> iassumption
  iexact H

/-- What the last state holds: the counters at zero, the scratch buffers whole, the result whole. -/
theorem last_state (c : Dev nD) :
    (bigSep Finset.univ fun k => interp A B c k (stAt 162 k) : sProp 𝕄)
      ⊢ iprop((bigSep Finset.univ fun j : J => iprop(semVal (sendCell c j) 0 ∗ semVal (recvCell c j) 0))
        ∗ (junk (F := F) c accM ∗ (bigSep Finset.univ fun g : Fin 3 => junk (F := F) c (sM g))
            ∗ (bigSep Finset.univ fun g : Fin 3 => junk (F := F) c (rM g))) ∗ has c outM fullShare (OUT A B)) := by
  have hc : (bigSep Finset.univ fun j => interp A B c (.cp j) (stAt 162 (.cp j)) : sProp 𝕄)
      ⊢ bigSep Finset.univ fun j : J => iprop(semVal (sendCell c j) 0 ∗ semVal (recvCell c j) 0) :=
    bigSep_mono fun j _ => by rw [end_cp]; exact BI.Entails.refl _
  have hs : (bigSep Finset.univ fun x : Fin 3 × Fin 4 => interp A B c (.snd x.1 x.2) (stAt 162 (.snd x.1 x.2)) : sProp 𝕄)
      ⊢ bigSep Finset.univ fun g : Fin 3 => junk (F := F) c (sM g) := by
    refine (bigSep_mono fun x _ => snd_junk A B c x.1 x.2 _ (end_snd x)).trans ?_
    rw [bigSep_univ_prod]
    exact bigSep_mono fun g _ => join_junk (sM g) (rectS g) (fun _ _ => rfl) c (famS_disj g) (famS_cov g)
  have hr : (bigSep Finset.univ fun x : Fin 3 × Fin 7 => interp A B c (.rcv x.1 x.2) (stAt 162 (.rcv x.1 x.2)) : sProp 𝕄)
      ⊢ bigSep Finset.univ fun g : Fin 3 => junk (F := F) c (rM g) := by
    refine (bigSep_mono fun x _ => show _ ⊢ junk (F := F) c (rP x.1 (recvChunk x.2 c x.1)) by rw [end_rcv]; exact has_junk).trans ?_
    rw [← by_recv c fun g k => junk (F := F) c (rP g k), bigSep_univ_prod]
    exact bigSep_mono fun g _ => join_junk (rM g) (rectR g) (fun _ _ => rfl) c (famR_disj g) (famR_cov g)
  have ha : (bigSep Finset.univ fun x : Fin 3 × Fin 8 => interp A B c (.acc x.1 x.2) (stAt 162 (.acc x.1 x.2)) : sProp 𝕄)
      ⊢ junk (F := F) c accM := by
    refine (bigSep_mono fun x _ => acc_junk A B c x.1 x.2 _).trans ?_
    rw [← by_chunk c fun g k => junk (F := F) c (aP g k)]
    exact join_junk accM rectGK (fun _ _ => rfl) c famC_disj famC_cov
  have ho : (bigSep Finset.univ fun x : Fin 3 × Fin 11 => interp A B c (.sh x.1 x.2) (stAt 162 (.sh x.1 x.2)) : sProp 𝕄)
      ⊢ has c outM fullShare (OUT A B) := by
    refine (bigSep_mono fun x _ => show _ ⊢ interp A B c (.sh x.1 x.2) 1 by rw [end_sh]).trans ?_
    rw [bigSep_univ_prod]
    refine (bigSep_mono fun g _ => sh_join A B c g).trans ?_
    rw [← bigSep_univ_prod fun x : Fin 3 × Fin 8 => (has c (oP x.1 (chunk c x.1 x.2)) fullShare (fin A B x.1 (chunk c x.1 x.2)) : sProp 𝕄),
      ← by_chunk c fun g k => has c (oP g k) fullShare (fin A B g k)]
    exact join outM rectGK (fun _ _ => rfl) c famC_disj famC_cov (fun x => fin A B x.1 x.2) (OUT A B) (OUT_emb A B)
  rw [keys_eq]
  iintro ⟨Hc, Hs, Ha, Hr, -, Ho⟩
  isplitl [Hc]; · iapply hc; iexact Hc
  isplitl [Ha Hs Hr]
  · isplitl [Ha]; · iapply ha; iexact Ha
    isplitl [Hs]; · iapply hs; iexact Hs
    iapply hr; iexact Hr
  iapply ho; iexact Ho

end End

end Cert.Cube
end
-- ==== Proof.Launch.lean ====
/-
# The run of the whole program

From the launch to the end on every device: what each is dealt, the body between, and what is left.
-/
module

public import proofs.«01_k».proof.Proof.Pieces
public import proofs.«01_k».proof.Proof.Gen.KernelIdeal.Frame
public import Idealize.ShloMosaic.Lib.Pipeline.CollectiveSegs

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one call -/

/-- What the two inputs' staging buffers hold on each device, -/
def inA (c : Dev nD) : Vec F S2048x1024 .bf16 := iblk m c (0 : Fin 3) t0_0
def inB (c : Dev nD) : Vec F S1024x2048 .bf16 := iblk m c (1 : Fin 3) t0_0
/-- and the result's at the end. -/
def res : Vec F S2048x2048 .bf16 := OUT (inA m) (inB m)

abbrev sched : Rounds.Schedule (GSem nD τ sig) (Fin 3) 𝕄 := cubeRd (F := F) (inA m) (inB m)

/-- The duties a device pays: at its neighbours' barriers, and its copies' two. -/
def payToks (c : Dev nD) : sProp 𝕄 :=
  iprop((bigSep Finset.univ fun e : Fin 3 => dutyTok ER (barCell (nb e c)) 0 e)
    ∗ (bigSep Finset.univ fun j : J => dutyTok ER (sendCell c j) 0 0) ∗ (bigSep Finset.univ fun j : J => dutyTok ER (recvCell (peer j c) j) 0 0))

/-- The invariants and the cells' rounds, under the names the invariants were given. -/
def records (K : Dev nD × C → ℕ) : sProp 𝕄 :=
  bigSep Finset.univ fun ck : Dev nD × C => iprop(cellInv ER (sched m) (K ck) (kcell ck) ∗ reached ER (kcell ck) 0)
instance records_persistent (K : Dev nD × C → ℕ) : BI.Persistent (records m K) := by unfold records; infer_instance

def ghost (K : Dev nD × C → ℕ) (c : Dev nD) : sProp 𝕄 :=
  iprop(records m K ∗ payToks (F := F) c ∗ bigSep Finset.univ fun k : C => atPos ER (kcell (c, k)) 0 ∅ 0)

/-- What a device's body starts from, its buffers left out, -/
def start (c : Dev nD) : sProp 𝕄 :=
  iprop((∃ K, ghost m K c) ∗ cred (tallyAt (barCell c) () 3) ∗ (bigSep Finset.univ fun j : J => cred (tallyAt (recvCell c j) () (NJ j))) ∗ levAts L lv)

/-- and the scratch buffers. -/
def scratch (c : Dev nD) : sProp 𝕄 :=
  iprop(junk (F := F) c accM ∗ (bigSep Finset.univ fun g : Fin 3 => junk (F := F) c (sM g)) ∗ (bigSep Finset.univ fun g : Fin 3 => junk (F := F) c (rM g)))

def Φ₀ (c : Dev nD) : sProp 𝕄 := iprop(start m c ∗ scratch (F := F) c)
/-- What it ends with. -/
def Φ₁ (c : Dev nD) : sProp 𝕄 :=
  iprop(scratch (F := F) c ∗ (bigSep Finset.univ fun j : J => iprop(semVal (sendCell c j) 0 ∗ semVal (recvCell c j) 0)) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inA m c
    | ⟨1, _⟩ => inB m c
    | ⟨2, _⟩ => res m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## The body's obligation -/

theorem bigSep_bool (Φ : Bool → sProp 𝕄) : bigSep Finset.univ Φ = iprop(Φ false ∗ Φ true) :=
  bigSep_univ_eq_bigSepL [false, true] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_C (Φ : C → sProp 𝕄) : bigSep Finset.univ Φ
    = iprop(Φ none ∗ (bigSep Finset.univ fun j => Φ (some (false, j))) ∗ (bigSep Finset.univ fun j => Φ (some (true, j)))) := by
  rw [bigSep_univ_equiv ((Equiv.sumComm Unit (Bool × J)).trans (Equiv.optionEquivSumPUnit.{0} (Bool × J)).symm), bigSep_univ_sum, bigSep_univ_prod, bigSep_bool,
    bigSep_univ_eq_bigSepL [()] (by decide) (by decide)]
  rfl

theorem start_body (c : Dev nD) (W : Waits sig Unit) :
    iprop(Φ₀ m c ∗ owes (c : Thread nD τ) (O₀ c) W ∗ has c aM fullShare (inA m c) ∗ has c bM fullShare (inB m c) ∗ junk (F := F) c outM)
      ⊢ iprop(∃ K, Start (inA m) (inB m) K c) := by
  have hj : iprop((bigSep Finset.univ fun j : J => dutyTok ER (sendCell c j) 0 0) ∗ (bigSep Finset.univ fun j : J => dutyTok ER (recvCell (peer j c) j) 0 0)
      ∗ (bigSep Finset.univ fun j : J => atPos ER (sendCell c j) 0 ∅ 0) ∗ (bigSep Finset.univ fun j : J => atPos ER (recvCell c j) 0 ∅ 0)
      ∗ (bigSep Finset.univ fun j : J => cred (tallyAt (recvCell c j) () (NJ j)))) ⊢ (bigSep Finset.univ fun j : J => cpI₀ (F := F) c j : sProp 𝕄) := by
    rw [← bigSep_sep', ← bigSep_sep', ← bigSep_sep', ← bigSep_sep']
    exact BI.Entails.refl _
  unfold Φ₀ start ghost payToks scratch
  rw [bigSep_C, bigSep_three]
  iintro ⟨⟨⟨⟨%K, #HR, ⟨⟨T0, T1, T2⟩, Ts, Tr⟩, Ab, As, Ar⟩, Cb, Cr, #HL⟩, Ha, Hs, Hr⟩, HO, HA, HB, Hout⟩
  iexists K
  ihave Hp := (cut_all (F := F) c) $$ [Ha Hs Hr Hout]
  · unfold whole
    isplitl [Ha]; · iexact Ha
    isplitl [Hs]; · iexact Hs
    isplitl [Hr] <;> iassumption
  icases Hp with ⟨Hp, Ho⟩
  unfold Start env
  isplitr
  · isplitl; · iapply (show records m K ⊢ _ from by unfold records; exact BI.Entails.refl _); iexact HR
    iexact HL
  isplitl [HO]; · iexists W; iexact HO
  isplitl [HA]; · iexact HA
  isplitl [HB]; · iexact HB
  isplitl [T0 T1 T2]
  · isplitl [T0]; · iexact T0
    isplitl [T1] <;> iassumption
  isplitl [Hp]; · iexact Hp
  isplitl [Ab Cb]
  · isplitl [Ab] <;> iassumption
  isplitl [Ts Tr As Ar Cr]
  · iapply hj
    isplitl [Ts]; · iexact Ts
    isplitl [Tr]; · iexact Tr
    isplitl [As]; · iexact As
    isplitl [Ar] <;> iassumption
  iexact Ho

theorem owed_end (c : Dev nD) : owedL c (acts.drop 162) = 0 := by
  rw [show acts.drop 162 = [] by decide +kernel]
  rfl

theorem end_body (c : Dev nD) :
    iprop(semVal (barCell c) 0 ∗ ∃ K, St (inA m) (inB m) K c 162)
      ⊢ iprop(Φ₁ (F := F) c ∗ (∃ W, owes (c : Thread nD τ) 0 W) ∗ has c aM fullShare (inA m c) ∗ has c bM fullShare (inB m c) ∗ has c outM fullShare (res m)) := by
  unfold St Φ₁ scratch res
  rw [owed_end]
  iintro ⟨Hz, ⟨%K, -, HO, HA, HB, H⟩⟩
  ihave H := (last_state (inA m) (inB m) c) $$ H
  icases H with ⟨Hj, Hs, Hout⟩
  isplitl [Hz Hj Hs]
  · isplitl [Hs]; · iexact Hs
    isplitl [Hj] <;> iassumption
  isplitl [HO]; · iexact HO
  isplitl [HA]; · iexact HA
  isplitl [HB]; · iexact HB
  iexact Hout

set_option maxRecDepth 4000 in
theorem before_A (c : Dev nD) (d) : (dats (F := F) m ρ 0 c).before (0 : Fin 3) t0_0 d = inA m c := by
  unfold Dat.before; rw [if_pos (show (cfg0.win 0).fetch t0_0 = true from fetch0_0 t0_0)]; rfl
set_option maxRecDepth 4000 in
theorem before_B (c : Dev nD) (d) : (dats (F := F) m ρ 0 c).before (1 : Fin 3) t0_0 d = inB m c := by
  unfold Dat.before; rw [if_pos (show (cfg0.win 1).fetch t0_0 = true from fetch0_1 t0_0)]; rfl

def bodyPre (c : Dev nD) : sProp 𝕄 :=
  iprop(Φ₀ m c ∗ (dats m ρ 0 c).owesAt () t0_0.castSucc
    ∗ (∃ d, has c aM fullShare ((dats m ρ 0 c).before (0 : Fin 3) t0_0 d))
    ∗ (∃ d, has c bM fullShare ((dats m ρ 0 c).before (1 : Fin 3) t0_0 d))
    ∗ (∃ d, has c outM fullShare ((dats m ρ 0 c).before (2 : Fin 3) t0_0 d)))
def bodyPost (c : Dev nD) : sProp 𝕄 :=
  iprop(Φ₁ (F := F) c ∗ (dats m ρ 0 c).owesAt () t0_0.succ
    ∗ has c aM fullShare (inA m c) ∗ has c bM fullShare (inB m c) ∗ has c outM fullShare (res m))

theorem sound_body (c : Dev nD) : bodyPre m ρ c ⊢ wpc c (wb (cc0_body (F := F))) (fun _ => bodyPost m ρ c) := by
  unfold bodyPre Dat.owesAt Pipeline.owesWithin
  simp only [before_A, before_B]
  iintro ⟨HΦ, ⟨%W, -, HO⟩, ⟨%d0, HA⟩, ⟨%d1, HB⟩, ⟨%d2, Hout⟩⟩
  ihave Hs := (start_body m c W) $$ [HΦ HO HA HB Hout]
  · isplitl [HΦ]; · iexact HΦ
    isplitl [HO]; · iexact HO
    isplitl [HA]; · iexact HA
    isplitl [HB]; · iexact HB
    iapply (show has c outM fullShare _ ⊢ junk (F := F) c outM from has_junk)
    iexact Hout
  icases Hs with ⟨%K, Hs⟩
  ihave H := ((run_body (inA m) (inB m) K (c := c)).trans (wp_mono _ _ _ fun _ => by
    show _ ⊢ bodyPost m ρ c
    iintro ⟨Hz, HS⟩
    ihave H := (end_body m c) $$ [Hz HS]
    · isplitl [Hz]; · iexact Hz
      iexists K; iexact HS
    icases H with ⟨H1, H2, H3⟩
    unfold bodyPost Dat.owesAt
    isplitl [H1]; · iexact H1
    isplitl [H2]
    · unfold Pipeline.owesWithin
      icases H2 with ⟨%W, H2⟩
      iexists W
      isplitr; · ipureintro; exact fun _ _ => Or.inl trivial
      iexact H2
    iexact H3)) $$ Hs
  iexact H

set_option maxRecDepth 100000 in
/-- The obligation of the call's body on device `c`. -/
theorem body_obligation (c : Dev nD) : BodyObligation (dats (F := F) m ρ 0 c) (defs₀ (F := F)) 𝒱₀ () Set.univ := fun t => by
  rw [fin_N0 t, bigSep_W0, bigSep_W0]
  show bodyPre m ρ c ⊢ wpc c (wb (cc0_body (F := F))) (fun _ => bodyPost m ρ c)
  exact sound_body m ρ c

/-! ## What the launch deals -/

/-- The semaphores that are the call's own: each copy's two. -/
abbrev osem : Bool × J → SemLoc sig := fun x => csem (some x)

theorem ownSemFacts : Pipeline.OwnSemFacts cfg0.spec osem where
  isScoped := by decide +kernel
  inj := fun x y h => Option.some.inj (csem_inj h)
  disj := by decide +kernel

theorem share_eq (c : Dev nD) (w : Fin cfg0.W) : (dats m ρ 0 c).share w = fullShare := by unfold Dat.share; split <;> rfl

theorem kcell_injective : Function.Injective (kcell : Dev nD × C → GSem nD τ sig) := by
  rintro ⟨c, k⟩ ⟨c', k'⟩ h
  have h1 : c = c' := congrArg (fun g : GSem nD τ sig => g.1.1) h
  have h2 : k = k' := csem_inj (congrArg Prod.snd h)
  rw [h1, h2]
theorem kcell_iff {x y : Dev nD × C} : kcell x = kcell y ↔ x = y := ⟨fun h => kcell_injective h, fun h => h ▸ rfl⟩

def allCells : Finset (GSem nD τ sig) := Finset.univ.map ⟨kcell, kcell_injective⟩

/-- The duties of a device's own cells: its barrier's three, each copy cell's one. -/
abbrev Duty : Type := Fin 3 ⊕ (Bool × J)
def dutyAt : Duty → C × Fin 3
  | .inl e => (none, e)
  | .inr x => (some x, 0)
theorem dutyAt_inj : Function.Injective dutyAt := by
  rintro (e | x) (e' | x') h
  · exact congrArg Sum.inl (congrArg Prod.snd h)
  · exact absurd (congrArg Prod.fst h) (by simp [dutyAt])
  · exact absurd (congrArg Prod.fst h) (by simp [dutyAt])
  · exact congrArg Sum.inr (Option.some.inj (congrArg Prod.fst h))
def tokOf (x : Dev nD × Duty) : GSem nD τ sig × ℕ × Fin 3 := (kcell (x.1, (dutyAt x.2).1), 0, (dutyAt x.2).2)
theorem tokOf_injective : Function.Injective tokOf := by
  rintro ⟨c, d⟩ ⟨c', d'⟩ h
  have h1 := kcell_injective (congrArg Prod.fst h)
  have h2 : (dutyAt d).2 = (dutyAt d').2 := congrArg (fun x => x.2.2) h
  have h3 : d = d' := dutyAt_inj (Prod.ext (congrArg Prod.snd h1) h2)
  rw [show c = c' from congrArg Prod.fst h1, h3]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun e : Fin 3 => dutyTok ER (barCell c) 0 e)
    ∗ (bigSep Finset.univ fun j : J => dutyTok ER (sendCell c j) 0 0) ∗ (bigSep Finset.univ fun j : J => dutyTok ER (recvCell c j) 0 0))

def G (c : Dev nD) : sProp 𝕄 :=
  iprop((bigSep Finset.univ fun k : C => roundState ER (sched m) (kcell (c, k)) 0)
    ∗ (bigSep Finset.univ fun k : C => atPos ER (kcell (c, k)) 0 ∅ 0) ∗ (bigSep Finset.univ fun k : C => reached ER (kcell (c, k)) 0) ∗ toks c)
def G' (c : Dev nD) : sProp 𝕄 := iprop(∃ K, ghost m K c)

theorem bigSep_copies (Φ : Bool × J → sProp 𝕄) : bigSep Finset.univ Φ
    = iprop((bigSep Finset.univ fun j => Φ (false, j)) ∗ (bigSep Finset.univ fun j => Φ (true, j))) := by
  rw [bigSep_univ_prod, bigSep_bool]

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : C => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_copies]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  iapply (show iprop((bigSep Finset.univ fun c : Dev nD => bigSep Finset.univ fun k : C => roundState ER (sched m) (kcell (c, k)) 0)
      ∗ (bigSep Finset.univ fun c : Dev nD => bigSep Finset.univ fun k : C => atPos ER (kcell (c, k)) 0 ∅ 0)
      ∗ (bigSep Finset.univ fun c : Dev nD => bigSep Finset.univ fun k : C => reached ER (kcell (c, k)) 0) ∗ bigSep Finset.univ fun c : Dev nD => toks c)
      ⊢ (bigSep Finset.univ (G m) : sProp 𝕄) from by
        rw [← bigSep_sep', ← bigSep_sep', ← bigSep_sep']
        exact BI.Entails.refl _)
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = bigSep Finset.univ fun x : Bool × J => semVal (kcell (c, some x)) 0 := rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : C => semVal (kcell (c, k)) 0 : sProp 𝕄) := by
  rw [ownSems0_eq, unscopedSems0_eq, bigSep_C, bigSep_copies]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : C => atPos ER (kcell (c, k)) 0 ∅ 0) ∗ (bigSep Finset.univ fun k : C => reached ER (kcell (c, k)) 0) ∗ toks c) := by
  unfold G
  iintro ⟨Hos, Hus, Hst, Hat⟩
  ihave Hv := (sems0_eq (F := F) c) $$ [Hos Hus]
  · isplitl [Hos] <;> iassumption
  imod (show iprop((bigSep Finset.univ fun k : C => semVal (kcell (c, k)) 0) ∗ bigSep Finset.univ fun k : C => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  iexact Hat

/-- Each barrier's duty `e` is paid by the neighbour in direction `e`, -/
def barPayer : Dev nD × Fin 3 ≃ Dev nD × Fin 3 :=
  ⟨fun x => (nb x.2 x.1, x.2), fun x => (nb x.2 x.1, x.2), fun x => by simp [nb_nb], fun x => by simp [nb_nb]⟩
/-- each arrival's by the peer the copy comes from. -/
def recvPayer : Dev nD × J ≃ Dev nD × J :=
  ⟨fun x => (peer x.2 x.1, x.2), fun x => (peer x.2 x.1, x.2), fun x => by simp [peer, nb_nb], fun x => by simp [peer, nb_nb]⟩

theorem toks_around : (bigSep Finset.univ fun c : Dev nD => (toks c : sProp 𝕄)) ⊢ bigSep Finset.univ fun c : Dev nD => payToks c := by
  have h1 : (bigSep Finset.univ fun c : Dev nD => bigSep Finset.univ fun e : Fin 3 => (dutyTok ER (barCell c) 0 e : sProp 𝕄))
      = bigSep Finset.univ fun c : Dev nD => bigSep Finset.univ fun e : Fin 3 => dutyTok ER (barCell (nb e c)) 0 e := by
    rw [← bigSep_univ_prod (fun x : Dev nD × Fin 3 => (dutyTok ER (barCell x.1) 0 x.2 : sProp 𝕄)), bigSep_univ_equiv barPayer, bigSep_univ_prod]; rfl
  have h2 : (bigSep Finset.univ fun c : Dev nD => bigSep Finset.univ fun j : J => (dutyTok ER (recvCell c j) 0 0 : sProp 𝕄))
      = bigSep Finset.univ fun c : Dev nD => bigSep Finset.univ fun j : J => dutyTok ER (recvCell (peer j c) j) 0 0 := by
    rw [← bigSep_univ_prod (fun x : Dev nD × J => (dutyTok ER (recvCell x.1 x.2) 0 0 : sProp 𝕄)), bigSep_univ_equiv recvPayer, bigSep_univ_prod]; rfl
  unfold toks payToks
  rw [bigSep_sep', bigSep_sep', bigSep_sep', bigSep_sep', h1, h2]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : C => atPos ER (kcell (c, k)) 0 ∅ 0) ∗ (bigSep Finset.univ fun k : C => reached ER (kcell (c, k)) 0) ∗ toks c) : sProp 𝕄)
      ⊢ bigSep Finset.univ (G' m) := by
  rw [bigSep_sep', bigSep_sep', bigSep_sep', ← bigSep_univ_prod (fun ck : Dev nD × C => iprop(∃ κ : ℕ, cellInv ER (sched m) κ (kcell ck))),
    ← bigSep_univ_prod (fun ck : Dev nD × C => (reached ER (kcell ck) 0 : sProp 𝕄))]
  iintro ⟨HI, Hat, #HR, Htok⟩
  ihave HK := (BI.bigSep_exists_pi Finset.univ (fun (ck : Dev nD × C) (κ : ℕ) => (cellInv ER (sched m) κ (kcell ck) : sProp 𝕄))) $$ HI
  icases HK with ⟨%K, #HI⟩
  ihave Htk := (toks_around (F := F)) $$ Htok
  iapply (bigSep_with_persistent (R := records m K)
    (Φ := fun c : Dev nD => iprop(payToks (F := F) c ∗ bigSep Finset.univ fun k : C => atPos ER (kcell (c, k)) 0 ∅ 0)) (Ψ := G' m) fun c _ => by
      unfold G' ghost
      iintro ⟨H1, H2⟩
      iexists K
      isplitl [H1] <;> iassumption)
  isplitr
  · iapply (show iprop((bigSep Finset.univ fun ck : Dev nD × C => cellInv ER (sched m) (K ck) (kcell ck)) ∗ bigSep Finset.univ fun ck : Dev nD × C => reached ER (kcell ck) 0)
        ⊢ (records m K : sProp 𝕄) from by unfold records; rw [← bigSep_sep'])
    isplitl; · iexact HI
    iexact HR
  · iapply (show iprop((bigSep Finset.univ fun c : Dev nD => payToks c) ∗ bigSep Finset.univ fun c : Dev nD => bigSep Finset.univ fun k : C => atPos ER (kcell (c, k)) 0 ∅ 0)
        ⊢ (bigSep Finset.univ fun c : Dev nD => iprop(payToks c ∗ bigSep Finset.univ fun k : C => atPos ER (kcell (c, k)) 0 ∅ 0) : sProp 𝕄) from by
          rw [← bigSep_sep'])
    isplitl [Htk] <;> iassumption

/-- Every device's semaphores dealt at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit the launch gives -/

theorem owedL_at (d : Dev nD) (l : List Act) (x : Dev nD × C) : owedL d l (kcell x) () = (l.map fun a => match a with
    | .send j => if x = (peer j d, some (true, j)) then NJ j else 0
    | _ => 0).sum := by
  induction l with
  | nil => rfl
  | cons a l ih =>
    by_cases ha : ∃ j, a = .send j
    · obtain ⟨j, rfl⟩ := ha
      rw [List.map_cons, List.sum_cons, ← ih]
      show (owedL d l + tallyAt (recvCell (peer j d) j) () (NJ j) : CellTallies nD τ sig Unit) (kcell x) () = _
      rw [Pi.add_apply, Finsupp.add_apply, tallyAt_apply, Nat.add_comm]
      congr 1
      simp only [kcell_iff, and_true]
    · rw [List.map_cons, List.sum_cons, ← ih]
      cases a <;> first | exact absurd ⟨_, rfl⟩ ha | exact (Nat.zero_add _).symm

theorem peer_peer (j : J) (c : Dev nD) : peer j (peer j c) = c := nb_nb _ _

theorem owedL_bar (d c : Dev nD) (l : List Act) : owedL d l (barCell c) () = 0 := by
  rw [owedL_at]
  refine List.sum_eq_zero fun n hn => ?_
  obtain ⟨a, -, rfl⟩ := List.mem_map.mp hn
  cases a <;> first | rfl | exact if_neg (fun h => by simpa using congrArg Prod.snd h)

/-- Each copy is sent once. -/
theorem sent_once : ∀ j : J, acts.count (.send j) = 1 := by decide +kernel

theorem owedL_recv (d c : Dev nD) (j : J) (l : List Act) : owedL d l (recvCell c j) () = l.count (.send j) * if d = peer j c then NJ j else 0 := by
  rw [owedL_at]
  induction l with
  | nil => exact (Nat.zero_mul _).symm
  | cons a l ih =>
    rw [List.map_cons, List.sum_cons, ih, List.count_cons, Nat.add_mul, Nat.add_comm]
    congr 1
    by_cases ha : a = .send j
    · subst ha
      rw [beq_self_eq_true, if_pos rfl, Nat.one_mul]
      refine if_congr ⟨fun h => ?_, fun h => ?_⟩ rfl rfl
      · rw [show c = peer j d from congrArg Prod.fst h, peer_peer]
      · rw [h, peer_peer]
    · rw [if_neg (by simpa using ha), Nat.zero_mul]
      cases a <;> first | rfl | exact if_neg (fun h => ha (by have := congrArg Prod.snd h; simp at this; rw [this]))

theorem owed_bar (d c : Dev nD) : O₀ d (barCell c) () = (if d = nb 2 c then 1 else 0) + (if d = nb 1 c then 1 else 0) + (if d = nb 0 c then 1 else 0) := by
  have h (e : Fin 3) : (tallyAt (barCell (nb e d)) () 1 : CellTallies nD τ sig Unit) (barCell c) () = if d = nb e c then 1 else 0 := by
    rw [tallyAt_apply]
    refine if_congr ⟨fun h => ?_, fun h => ⟨?_, rfl⟩⟩ rfl rfl
    · rw [show c = nb e d from congrArg Prod.fst (kcell_injective h.1), nb_nb]
    · rw [h, nb_nb]
  unfold O₀ O₁ O₂
  rw [Pi.add_apply, Finsupp.add_apply, Pi.add_apply, Finsupp.add_apply, Pi.add_apply, Finsupp.add_apply, h, h, h, owedL_bar, Nat.zero_add]

theorem owed_recv (d c : Dev nD) (j : J) : O₀ d (recvCell c j) () = if d = peer j c then NJ j else 0 := by
  have h (e : Fin 3) : (tallyAt (barCell (nb e d)) () 1 : CellTallies nD τ sig Unit) (recvCell c j) () = 0 := by
    rw [tallyAt_apply]
    exact if_neg fun h => by simpa using congrArg Prod.snd (kcell_injective h.1)
  unfold O₀ O₁ O₂
  rw [Pi.add_apply, Finsupp.add_apply, Pi.add_apply, Finsupp.add_apply, Pi.add_apply, Finsupp.add_apply, h, h, h, owedL_recv, sent_once, Nat.one_mul]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb 2 c) fun _ => 1, Finset.sum_ite_eq' Finset.univ (nb 1 c) fun _ => 1, Finset.sum_ite_eq' Finset.univ (nb 0 c) fun _ => 1,
    if_pos (Finset.mem_univ _), if_pos (Finset.mem_univ _), if_pos (Finset.mem_univ _)]

theorem launch_recv (c : Dev nD) (j : J) :
    tallyOn (recvCell c j) (launchCredit (Pipeline.owing O₀) 0 (recvCell c j)) = (tallyAt (recvCell c j) () (NJ j) : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer j c) fun _ => NJ j, if_pos (Finset.mem_univ _)]

/-- The cells credit is given at: the barrier and every copy's arrival. -/
def credAt : Unit ⊕ J ↪ SemLoc sig :=
  ⟨fun x => csem (x.elim (fun _ => none) fun j => some (true, j)), fun x y h => by
    have := csem_inj h
    rcases x with x | x <;> rcases y with y | y <;> simp_all⟩

theorem creds (c : Dev nD) :
    (Pipeline.launchCred O₀ c : sProp 𝕄) ⊢ iprop(cred (tallyAt (barCell c) () 3) ∗ (bigSep Finset.univ fun j : J => cred (tallyAt (recvCell c j) () (NJ j)))) := by
  unfold Pipeline.launchCred
  refine (BI.bigSep_subset (Finset.subset_univ (Finset.univ.map credAt))).trans ?_
  rw [bigSep_map, bigSep_univ_sum]
  refine BI.sep_mono ?_ (bigSep_mono fun j _ => ?_)
  · refine (bigSep_elim (Finset.mem_univ ())).trans ?_
    show cred (tallyOn (barCell c) (launchCredit (Pipeline.owing O₀) 0 (barCell c))) ⊢ _
    rw [launch_bar]
  · show cred (tallyOn (recvCell c j) (launchCredit (Pipeline.owing O₀) 0 (recvCell c j))) ⊢ _
    rw [launch_recv]

/-! ## The side conditions of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem whole_junk (c : Dev nD) (b : Ref sig .tc) {s : Shape} {e : EltTy} {p : Memref sig .tc .vmem s e}
    (h : (iprop(∃ X, owns (c : Thread nD τ) (Memref.whole b) fullShare X) : sProp 𝕄) = junk c p) :
    (iprop(∃ f, ((c : Thread nD τ).loc b) ↦{fullShare} f) : sProp 𝕄) = junk c p := by
  rw [← h]
  simp only [owns_whole_eq]
  refine BI.Entails.antisymm ?_ ?_
  · show (_ : sProp 𝕄) ⊢ _
    iintro ⟨%f, H⟩
    iexists f; iexists f
    isplitr; · ipureintro; rfl
    iexact H
  · show (_ : sProp 𝕄) ⊢ _
    iintro ⟨%X, ⟨%f, -, H⟩⟩
    iexists f; iexact H

/-- The buffers the call allocates besides the staged ones are its scratch. -/
theorem scratch_eq (c : Dev nD) : (Pipeline.scopedRest cfg0.spec c : sProp 𝕄)
    = iprop(junk (F := F) c accM ∗ (junk (F := F) c (sM 0) ∗ junk (F := F) c (sM 1) ∗ junk (F := F) c (sM 2))
      ∗ (junk (F := F) c (rM 0) ∗ junk (F := F) c (rM 1) ∗ junk (F := F) c (rM 2))) := by
  rw [scopedRest0_eq, whole_junk c cc0_scratch0 (p := accM) rfl, whole_junk c cc0_scratch1 (p := sM 0) rfl, whole_junk c cc0_scratch2 (p := sM 1) rfl,
    whole_junk c cc0_scratch3 (p := sM 2) rfl, whole_junk c cc0_scratch4 (p := rM 0) rfl, whole_junk c cc0_scratch5 (p := rM 1) rfl,
    whole_junk c cc0_scratch6 (p := rM 2) rfl]
  refine BI.Entails.antisymm ?_ ?_
  · show (_ : sProp 𝕄) ⊢ _
    iintro ⟨Ha, H0, H1, H2, R0, R1, R2⟩
    isplitl [Ha]; · iexact Ha
    isplitl [H0 H1 H2]
    · isplitl [H0]; · iexact H0
      isplitl [H1] <;> iassumption
    isplitl [R0]; · iexact R0
    isplitl [R1] <;> iassumption
  · show (_ : sProp 𝕄) ⊢ _
    iintro ⟨Ha, ⟨H0, H1, H2⟩, R0, R1, R2⟩
    isplitl [Ha]; · iexact Ha
    isplitl [H0]; · iexact H0
    isplitl [H1]; · iexact H1
    isplitl [H2]; · iexact H2
    isplitl [R0]; · iexact R0
    isplitl [R1] <;> iassumption

theorem scratch_rest (c : Dev nD) : scratch (F := F) c = (Pipeline.scopedRest cfg0.spec c : sProp 𝕄) := by
  rw [scratch_eq]; unfold scratch; rw [bigSep_three, bigSep_three]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (Entails.of_eq (scratch_rest (F := F) c).symm); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems0_eq, unscopedSems0_eq, bigSep_copies]
  unfold Φ₁
  rw [bigSep_sep']
  iintro ⟨Hr, ⟨HzS, HzV⟩, HzB⟩
  isplitl [HzB]; · iexact HzB
  isplitl [HzS HzV]
  · isplitl [HzS] <;> iassumption
  iapply (Entails.of_eq (scratch_rest (F := F) c)); iexact Hr

theorem bar_lv : 0 < lvC (some none) := by decide +kernel
theorem owed_pos {c : Dev nD} {g : GSem nD τ sig} {u : Unit} (h : 0 < O₀ c g u) : ∃ ck : Dev nD × C, g = kcell ck ∧ 0 < lvC (some ck.2) := by
  rcases add_pos' h with h | h
  · rcases add_pos' h with h | h
    · rcases add_pos' h with h | h
      · obtain ⟨j, -, rfl⟩ := owedL_pos h
        exact ⟨_, rfl, (show ∀ j : J, 0 < lvC (some (some (true, j))) by decide +kernel) j⟩
      · exact ⟨_, tallyAt_pos h, bar_lv⟩
    · exact ⟨_, tallyAt_pos h, bar_lv⟩
  · exact ⟨_, tallyAt_pos h, bar_lv⟩

theorem waits (c : Dev nD) : (levAts L lv : sProp 𝕄) ⊢ Pipeline.cellsWaits cfgs (dats m ρ) () 0 c :=
  Pipeline.cellsWaits_intro cfgs (dats m ρ) () 0 c fun w s t => by
    have hk : lvC (kindOf (SemLoc.dma ((cfg0.win w).sem s))) = 0 := by
      fin_cases w <;> fin_cases s <;> decide +kernel
    refine mayWait c _ _ fun g u h => ?_
    rcases t with ⟨_ | _, ht⟩
    · obtain ⟨ck, hg, hl⟩ := owed_pos (c := c) h
      exact ⟨ck, hg, by rw [hk]; exact hl⟩
    · exact absurd h (by show ¬ 0 < (0 : CellTallies nD τ sig Unit) g u; simp)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every counter at zero, whatever the float values, every fair run of the eight devices ends,
    with each device's arrays at the contents `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs hold after the run what they held. -/
theorem final_in (c : Dev nD) : finalA m ρ c (0 : Fin 3) = (s₀ m ρ).mem (win0_0.arr.view.loc (c : Thread nD τ))
    ∧ finalA m ρ c (1 : Fin 3) = (s₀ m ρ).mem (win0_1.arr.view.loc (c : Thread nD τ)) :=
  ⟨(dats (F := F) m ρ 0 c).arrAt_in (0 : Fin 3) rfl _, (dats (F := F) m ρ 0 c).arrAt_in (1 : Fin 3) rfl _⟩

end Cert.Cube
end
-- ==== Proof.Value.lean ====
/-
# The result over the extended reals

Every entry of the result, read exactly, is the activation of the whole product at that entry.
-/
module

public import proofs.«01_k».proof.Proof.Launch
public import Idealize.ShloMosaic.Lib.StackMember
public import Idealize.ShloMosaic.Lib.ValueIdx
public import Idealize.ShloMosaic.Lib.IdealHost
public import Idealize.ShloMosaic.Lib.Layout
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx Idealize.ShloMosaic.StackMember

/-! ## The arrays the call reads and leaves -/

section Arrays
variable (m : (ℓ : Loc nD τ sig) → Buf (Elt F) ℓ) (ρ : Dev nD → PrngReg)

/-- Each input is staged whole. -/
theorem inA_eq (c : Dev nD) : inA m c = m ((c : Thread nD τ).loc main_arg0) := by
  funext i
  show m ((c : Thread nD τ).loc main_arg0) _ = _
  refine congrArg _ (funext fun a => Fin.ext ?_)
  fin_cases a
  · show 0 + 1 * (i 0).val = (i 0).val
    omega
  · show 0 + 1 * (i 1).val = (i 1).val
    omega
theorem inB_eq (c : Dev nD) : inB m c = m ((c : Thread nD τ).loc main_arg1) := by
  funext i
  show m ((c : Thread nD τ).loc main_arg1) _ = _
  refine congrArg _ (funext fun a => Fin.ext ?_)
  fin_cases a
  · show 0 + 1 * (i 0).val = (i 0).val
    omega
  · show 0 + 1 * (i 1).val = (i 1).val
    omega

theorem flushed_eq (c : Dev nD) (t : Fin cfg0.N) :
    (dats m ρ 0 c).flushed 2 t = ((cfg0.win 2).blk t).view.read (Elt F) (res m) := by
  obtain rfl := fin_N0 t
  have ha : (dats m ρ 0 c).after 2 t0_0 = res m := rfl
  unfold Pipeline.Dat.flushed
  rw [ha]
  funext i
  show res m i = res m _
  refine congrArg _ (funext fun a => Fin.ext ?_)
  fin_cases a
  · show (i 0).val = 0 + 1 * (i 0).val
    omega
  · show (i 1).val = 0 + 1 * (i 1).val
    omega

theorem cover (i : S2048x2048.Idx) : ∃ t : Fin cfg0.N, (cfg0.win 2).flush t = true ∧ i ∈ ((cfg0.win 2).blk t).view.set := by
  refine ⟨t0_0, flush0_2 _, ?_⟩
  show i ∈ ((View.whole main_v1).slice (win0_2.rect t0_0)).set
  rw [View.set_slice_whole, Rect.mem_set_unit]
  intro a
  fin_cases a
  · exact ⟨Nat.zero_le _, (show (i 0).val < 0 + 2048 by have := (i 0).isLt; exact (Nat.zero_add 2048).symm ▸ this)⟩
  · exact ⟨Nat.zero_le _, (show (i 1).val < 0 + 2048 by have := (i 1).isLt; exact (Nat.zero_add 2048).symm ▸ this)⟩

/-- The result array ends, on every device, at the finished chunks together. -/
theorem final_out (c : Dev nD) : finalA m ρ c (2 : Fin 3) = res m :=
  (dats m ρ 0 c).arrAt_eq_of_cover 2 (res m) (fun t _ => flushed_eq m ρ c t) cover

end Arrays

/-! ## One entry of the result -/

section Entry
variable (A : Dev nD → Vec Ideal S2048x1024 .bf16) (B : Dev nD → Vec Ideal S1024x2048 .bf16)

/-- The entry of one device's product, -/
def entry (a : Vec Ideal S2048x1024 .bf16) (b : Vec Ideal S1024x2048 .bf16) (r c : Fin 2048) : EReal :=
  ∑ k : Fin 1024, (a (ix2 r k) : EReal) * b (ix2 k c)
/-- and the activation of one number. -/
def act (x : EReal) : EReal :=
  Ideal.ofBits .f32 0x3F000000#32 * x * (Ideal.ofBits .f32 0x3F800000#32
    + Ideal.tanh (Ideal.ofBits .f32 0x3F4C422A#32 * (x + Ideal.ofBits .f32 0x3D372713#32 * x * x * x)))

def rowAt (k : Fin 8) (i : Fin 256) : Fin 2048 := ⟨256 * k.val + i.val, by omega⟩
theorem col_lt : ∀ g : Fin 3, col g + W g ≤ 2048 := by decide
def colAt (g : Fin 3) (j : Fin (W g)) : Fin 2048 := ⟨col g + j.val, by have := col_lt g; omega⟩

theorem rectC_at (g : Fin 3) (k : Fin 8) (i : Fin 256) (j : Fin (W g)) : (rectC g k).emb (ix2 i j) = ix2 (rowAt k i) (colAt g j) := by
  funext a
  apply Fin.ext
  fin_cases a
  · show 256 * k.val + 1 * i.val = 256 * k.val + i.val
    omega
  · show col g + 1 * j.val = col g + j.val
    omega

/-- A product against some of the right operand's columns, at an entry. -/
theorem matmul_cols_at {r n o : ℕ} (a : Vec Ideal ⟨2, ![r, 1024]⟩ .bf16) (b : Vec Ideal S1024x2048 .bf16)
    (h : S1024x2048.Slices ![0, o] ⟨2, ![1024, n]⟩) (i : Fin r) (j : Fin n) (c : Fin 2048) (hc : c.val = o + j.val) :
    matmul (F := Ideal) (φ₁ := .bf16) (φ₂ := .bf16) (DotDims.plain r 1024 n) none a (extractStridedSlice ⟨2, ![1024, n]⟩ ![0, o] b h)
        (constant ⟨2, ![r, n]⟩ .f32 0x00000000#32) (ix2 i j)
      = ∑ k : Fin 1024, (a (ix2 i k) : EReal) * b (ix2 k c) := by
  rw [matmul_zero_eq_dotGeneral, dotGeneral_plain_apply]
  refine Finset.sum_congr rfl fun k _ => congrArg (fun x => (a (ix2 i k) : EReal) * b x) (funext fun x => Fin.ext ?_)
  match x with
  | ⟨0, _⟩ => exact Nat.zero_add _
  | ⟨1, _⟩ => exact hc.symm

theorem mm256_at (g : Fin 3) (a : Vec Ideal S256x1024 .bf16) (b : Vec Ideal S1024x2048 .bf16) (i : Fin 256) (j : Fin (W g)) :
    mm256 g a b (ix2 i j) = ∑ k : Fin 1024, (a (ix2 i k) : EReal) * b (ix2 k (colAt g j)) :=
  match g, j with
  | 0, j => matmul_cols_at a b slices_S1024x2048_o0_0_S1024x768 i j _ rfl
  | 1, j => matmul_cols_at a b slices_S1024x2048_o0_768_S1024x640 i j _ rfl
  | 2, j => matmul_cols_at a b slices_S1024x2048_o0_1408_S1024x640 i j _ rfl

theorem mm512_at (g : Fin 3) (a : Vec Ideal S512x1024 .bf16) (b : Vec Ideal S1024x2048 .bf16) (i : Fin 512) (j : Fin (W g)) :
    mm512 g a b (ix2 i j) = ∑ k : Fin 1024, (a (ix2 i k) : EReal) * b (ix2 k (colAt g j)) :=
  match g, j with
  | 0, j => matmul_cols_at a b slices_S1024x2048_o0_0_S1024x768 i j _ rfl
  | 1, j => matmul_cols_at a b slices_S1024x2048_o0_768_S1024x640 i j _ rfl
  | 2, j => matmul_cols_at a b slices_S1024x2048_o0_1408_S1024x640 i j _ rfl

theorem prod_at (c : Dev nD) (g : Fin 3) (k : Fin 8) (i : Fin 256) (j : Fin (W g)) :
    prod A B c g k (ix2 i j) = entry (A c) (B c) (rowAt k i) (colAt g j) := by
  unfold prod entry
  rw [mm256_at]
  refine Finset.sum_congr rfl fun l _ => congrArg (fun x => (A c x : EReal) * _) (funext fun a => Fin.ext ?_)
  match a with
  | ⟨0, _⟩ => show 256 * k.val + 1 * i.val = 256 * k.val + i.val; omega
  | ⟨1, _⟩ => show 0 + 1 * l.val = l.val; omega

theorem prod2_at (c : Dev nD) (g : Fin 3) (k : Fin 8) (i : Fin 256) (j : Fin (W g)) :
    prod2 A B c g k (ix2 i j) = entry (A c) (B c) (rowAt k i) (colAt g j) := by
  have hk := pair_side k
  have hi : 256 * (side k).val + i.val < 512 := by have := (side k).isLt; omega
  have he : (Rect.unit (s := SQ g) (offR (side k)) (SP g).size (inbH g (side k))).emb (ix2 i j) = ix2 (⟨256 * (side k).val + i.val, hi⟩ : Fin 512) j := by
    funext a
    apply Fin.ext
    match a with
    | ⟨0, _⟩ => show 256 * (side k).val + 1 * i.val = 256 * (side k).val + i.val; omega
    | ⟨1, _⟩ => show 0 + 1 * j.val = j.val; omega
  unfold prod2 half entry
  show mm512 g _ _ ((Rect.unit (s := SQ g) (offR (side k)) (SP g).size (inbH g (side k))).emb (ix2 i j)) = _
  rw [he, mm512_at]
  refine Finset.sum_congr rfl fun l _ => congrArg (fun x => (A c x : EReal) * _) (funext fun a => Fin.ext ?_)
  match a with
  | ⟨0, _⟩ => show 512 * (pair k).val + 1 * (256 * (side k).val + i.val) = 256 * k.val + i.val; omega
  | ⟨1, _⟩ => show 0 + 1 * l.val = l.val; omega

/-- Where a reduce-scatter copy's chunk lies from its sender's own chunk, and from its receiver's. -/
def fromMask : Fin 7 → Fin 8 := ![7, 5, 4, 3, 2, 1, 6]
def toMask : Fin 7 → Fin 8 := ![3, 1, 0, 1, 0, 0, 2]
theorem chunk_toward : ∀ (s : Fin 7) (g : Fin 3) (c : Dev nD), chunk (peer (false, s, g) c) g (fromMask s) = chunk c g (toMask s) := by decide

/-- The eight devices whose products reach a device's own chunk, in the order they are added. -/
def source (c : Dev nD) (g : Fin 3) : Fin 8 → Dev nD :=
  let p (s : Fin 7) (d : Dev nD) : Dev nD := peer (false, s, g) d
  ![c, p 2 c, p 4 c, p 6 (p 4 c), p 5 c, p 1 (p 5 c), p 3 (p 5 c), p 0 (p 3 (p 5 c))]
theorem source_inj : ∀ (c : Dev nD) (g : Fin 3), Function.Injective (source c g) := by decide +kernel
theorem sum_source (c : Dev nD) (g : Fin 3) (f : Dev nD → EReal) : ∑ d : Dev nD, f d = ∑ t : Fin 8, f (source c g t) :=
  (Equiv.sum_comp (Equiv.ofBijective (source c g) (Finite.injective_iff_bijective.mp (source_inj c g))) f).symm

/-- The total a device reduces is the sum of all eight devices' products. -/
theorem total_at (c : Dev nD) (g : Fin 3) (i : Fin 256) (j : Fin (W g)) :
    total A B c g (ix2 i j) = ∑ d : Dev nD, entry (A d) (B d) (rowAt (chunk c g 0) i) (colAt g j) := by
  have h0 (d)  := chunk_toward 0 g d
  have h1 (d)  := chunk_toward 1 g d
  have h2 (d)  := chunk_toward 2 g d
  have h3 (d)  := chunk_toward 3 g d
  have h4 (d)  := chunk_toward 4 g d
  have h5 (d)  := chunk_toward 5 g d
  have h6 (d)  := chunk_toward 6 g d
  simp only [fromMask, toMask, Matrix.cons_val] at h0 h1 h2 h3 h4 h5 h6
  rw [sum_source c g, Fin.sum_univ_eight]
  unfold total k0 s5 k1 s4 s3 s2 s1 s6 s0
  simp only [addf_apply, extf_apply, truncf_apply, prod_at, prod2_at, h0, h1, h2, h3, h4, h5, h6]
  simp only [source, Matrix.cons_val]
  abel

theorem gelu_at {s : Shape} (z : FVec Ideal s .f32) (i : s.Idx) : gelu z i = act (z i) := rfl

theorem own_chunk : ∀ (g : Fin 3) (k : Fin 8), chunk (owner g k) g 0 = k := by decide

/-- Every entry of the result is the activation of the sum of all the devices' products there. -/
theorem out_at (r c : Fin 2048) : OUT A B (ix2 r c) = act (∑ d : Dev nD, entry (A d) (B d) r c) := by
  obtain ⟨⟨g, k⟩, hx⟩ := famC_cov (ix2 r c)
  rw [Rect.mem_set_unit, Fin.forall_fin_two] at hx
  have h0 : 256 * k.val ≤ r.val ∧ r.val < 256 * k.val + 256 := hx.1
  have h1 : col g ≤ c.val ∧ c.val < col g + W g := hx.2
  have hj : c.val - col g < W g := by omega
  have hr : rowAt k ⟨r.val - 256 * k.val, by omega⟩ = r := Fin.ext (show 256 * k.val + (r.val - 256 * k.val) = r.val by omega)
  have hc : colAt g ⟨c.val - col g, hj⟩ = c := Fin.ext (show col g + (c.val - col g) = c.val by omega)
  have hy := OUT_emb A B (g, k) (ix2 ⟨r.val - 256 * k.val, by omega⟩ ⟨c.val - col g, hj⟩)
  rw [rectC_at, hr, hc] at hy
  rw [hy]
  show gelu (total A B (owner g k) g) _ = _
  rw [gelu_at, total_at, own_chunk, hr, hc]

end Entry

/-! ## The whole product -/

/-- A sum over 8192 positions, block by block. -/
theorem sum_blocks (f : Fin 8192 → EReal) : ∑ K : Fin 8192, f K = ∑ d : Fin 8, ∑ k : Fin 1024, f ⟨d.val * 1024 + k.val, by omega⟩ := by
  rw [← Equiv.sum_comp (finProdFinEquiv (m := 8) (n := 1024)) f, Fintype.sum_prod_type]
  refine Finset.sum_congr rfl fun d _ => Finset.sum_congr rfl fun k _ => congrArg f (Fin.ext ?_)
  show k.val + 1024 * d.val = d.val * 1024 + k.val
  omega

/-- When each device holds its block of the two whole arrays, the devices' products at an entry sum to the whole product. -/
theorem sum_entry (X : FVec Ideal ⟨2, ![2048, 8192]⟩ .bf16) (Y : FVec Ideal ⟨2, ![8192, 2048]⟩ .bf16) (r c : Fin 2048) :
    ∑ d : Fin 8, entry (Layout.block ⟨2, ![2048, 1024]⟩ ⟨2, ![2048, 8192]⟩ 1 8 d X) (Layout.block ⟨2, ![1024, 2048]⟩ ⟨2, ![8192, 2048]⟩ 0 8 d Y) r c
      = ∑ K : Fin 8192, (X (ix2 r K) : EReal) * Y (ix2 K c) := by
  rw [sum_blocks]
  refine Finset.sum_congr rfl fun d _ => Finset.sum_congr rfl fun k _ => ?_
  rw [Layout.block_apply, Layout.block_apply]
  refine congrArg₂ (fun x y => (X x : EReal) * Y y) (funext fun a => ?_) (funext fun a => ?_)
  · match a with
    | ⟨0, _⟩ => rfl
    | ⟨1, _⟩ => rfl
  · match a with
    | ⟨0, _⟩ => rfl
    | ⟨1, _⟩ => rfl

/-- The product of the two whole operands. -/
def product (X : FVec Ideal ⟨2, ![2048, 8192]⟩ .bf16) (Y : FVec Ideal ⟨2, ![8192, 2048]⟩ .bf16) : FVec Ideal ⟨2, ![2048, 2048]⟩ .f32 :=
  Host.dotGeneral (DotDims.plain 2048 8192 2048) none (extf .f32 X bitsLt_bf16_f32) (extf .f32 Y bitsLt_bf16_f32)
theorem product_at (X : FVec Ideal ⟨2, ![2048, 8192]⟩ .bf16) (Y : FVec Ideal ⟨2, ![8192, 2048]⟩ .bf16) (r c : Fin 2048) :
    product X Y (ix2 r c) = ∑ K : Fin 8192, (X (ix2 r K) : EReal) * Y (ix2 K c) := by
  unfold product
  rw [dotGeneral_plain_apply]
  rfl

/-- The array every device ends with is the activation of the whole product, as the reference writes it. -/
theorem res_eq (m : (ℓ : Loc nD τ sig) → Buf (Elt Ideal) ℓ) (X : FVec Ideal ⟨2, ![2048, 8192]⟩ .bf16) (Y : FVec Ideal ⟨2, ![8192, 2048]⟩ .bf16)
    (hX : ∀ c : Dev nD, m ((c : Thread nD τ).loc main_arg0) = Layout.block ⟨2, ![2048, 1024]⟩ ⟨2, ![2048, 8192]⟩ 1 8 c X)
    (hY : ∀ c : Dev nD, m ((c : Thread nD τ).loc main_arg1) = Layout.block ⟨2, ![1024, 2048]⟩ ⟨2, ![8192, 2048]⟩ 0 8 c Y)
    (i : S2048x2048.Idx) : res m i = act (product X Y i) := by
  obtain ⟨r, c, rfl⟩ : ∃ r c : Fin 2048, i = ix2 r c := ⟨i 0, i 1, eq_ix2 i⟩
  unfold res
  rw [out_at, product_at, ← sum_entry]
  refine congrArg act (Finset.sum_congr rfl fun d _ => ?_)
  rw [inA_eq, inB_eq, hX, hY]

end Cert.Cube
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

section Frame
open Cert.KernelIdeal
variable {F : FTy → Type} [FloatOps F]

/-- With floats of either kind: the run ends with its inputs unchanged and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := F)) _ _).mono
    (fun _ h => ⟨fun c => ⟨(h.1 c (0 : Fin 3)).trans (Cert.Cube.final_in m ρ c).1, (h.1 c (1 : Fin 3)).trans (Cert.Cube.final_in m ρ c).2⟩, h.2⟩)
    (Cert.Cube.run_main m ρ)
end Frame

set_option maxRecDepth 100000 in
/-- The two programs have one text, so one body table, -/
theorem table_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

set_option maxRecDepth 100000 in
/-- and one table with the call's pipeline. -/
theorem defs_eq : Cert.Kernel.defs (F := Bits) = Cert.KernelIdeal.defs (F := Bits) :=
  congrArg (Pipeline.defs Cert.KernelIdeal.pcfgs) table_eq

theorem frame_kernel : Cert.quiescent_Kernel (hKernel := Cert.Kernel.Gen.facts) := fun m ρ _ =>
  Eq.mpr (congrArg (fun d => θ_run d (onTc (τ := Cert.KernelIdeal.τ) (Cert.KernelIdeal.main (F := Bits))) ⟨m, fun _ => 0, ρ⟩ _) defs_eq)
    (frame (F := Bits) m ρ)

theorem frame_kernelIdeal : Cert.quiescent_KernelIdeal (hKernelIdeal := Cert.KernelIdeal.Gen.facts) := fun m ρ _ => frame (F := Ideal) m ρ

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems rfl r.2⟩)
    (Cert.ReferenceIdeal.Value.run m ρ)

/-- The reference's activation, at an entry. -/
theorem host_at (z : FVec Ideal Cert.ReferenceIdeal.S2048x2048 .f32) (i : Cert.ReferenceIdeal.S2048x2048.Idx) :
    truncf .bf16 (mulf (mulf (broadcastInDim Cert.ReferenceIdeal.S2048x2048 ![] Cert.ReferenceIdeal.Gen.bcast_S_S2048x2048 (constant Cert.ReferenceIdeal.S_ .f32 0x3F000000#32)) z)
      (addf (broadcastInDim Cert.ReferenceIdeal.S2048x2048 ![] Cert.ReferenceIdeal.Gen.bcast_S_S2048x2048 (constant Cert.ReferenceIdeal.S_ .f32 0x3F800000#32))
        (Host.tanh (mulf (broadcastInDim Cert.ReferenceIdeal.S2048x2048 ![] Cert.ReferenceIdeal.Gen.bcast_S_S2048x2048 (constant Cert.ReferenceIdeal.S_ .f32 0x3F4C422A#32))
          (addf z (mulf (mulf (mulf (broadcastInDim Cert.ReferenceIdeal.S2048x2048 ![] Cert.ReferenceIdeal.Gen.bcast_S_S2048x2048 (constant Cert.ReferenceIdeal.S_ .f32 0x3D372713#32)) z) z) z))))))
      Cert.ReferenceIdeal.Gen.bitsLt_bf16_f32 i = Cert.Cube.act (z i) := rfl

/-- Both runs end at the same array: the activation of the whole product. -/
theorem algebraic : Cert.algebraic_KernelIdeal_ReferenceIdeal (hKernelIdeal := Cert.KernelIdeal.Gen.facts) (hReferenceIdeal := Cert.ReferenceIdeal.Gen.facts) := fun m ρ m' ρ' _ hb => by
  refine ⟨Cert.Cube.res m, ?_, ?_⟩
  · exact (θ_run (Cert.KernelIdeal.defs (F := Ideal)) _ _).mono
      (fun _ h c => ⟨(h.1 c (2 : Fin 3)).trans (Cert.Cube.final_out m ρ c),
        (h.1 c (0 : Fin 3)).trans (Cert.Cube.final_in m ρ c).1, (h.1 c (1 : Fin 3)).trans (Cert.Cube.final_in m ρ c).2⟩)
      (Cert.Cube.run_main (F := Ideal) m ρ)
  · refine (θ_run (Cert.ReferenceIdeal.defs (F := Ideal)) _ _).mono (fun r h => ⟨(h 0).1.trans ?_, (h 0).2⟩) (Cert.ReferenceIdeal.Value.run m' ρ')
    refine funext fun i => Eq.trans ?_ (Cert.Cube.res_eq m _ _ (fun c => (hb c).1) (fun c => (hb c).2) i).symm
    exact host_at _ i

theorem claim : Cert.Claim := ⟨Cert.Kernel.Gen.facts, Cert.KernelIdeal.Gen.facts, Cert.ReferenceIdeal.Gen.facts,
  frame_kernel, frame_kernelIdeal, frame_reference, trivial, algebraic⟩

end Cert.Proof

end
